-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSRefIdeal (m : (ℓ : Loc Cert.MixSRefIdeal.nD Cert.MixSRefIdeal.τ Cert.MixSRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvIdeal_finite_kv [hPre_finite_kv : Cert.Pre_finite_kv.Facts] (m : (ℓ : Loc Cert.KvIdeal.nD Cert.KvIdeal.τ Cert.KvIdeal.sig) → Buf (Elt Ideal) ℓ) : Prop :=
  ∀ c : Dev Cert.KvIdeal.nD,
    (Cert.Pre_finite_kv.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3))) = (fun _ => 1#1)

def Pre_KvRefIdeal (m : (ℓ : Loc Cert.KvRefIdeal.nD Cert.KvRefIdeal.τ Cert.KvRefIdeal.sig) → Buf (Elt Ideal) ℓ) : Prop :=
  True

def Pre_KvRefIdeal_finite_kv [hPre_finite_kv : Cert.Pre_finite_kv.Facts] (m : (ℓ : Loc Cert.KvRefIdeal.nD Cert.KvRefIdeal.τ Cert.KvRefIdeal.sig) → Buf (Elt Ideal) ℓ) : Prop :=
  ∀ c : Dev Cert.KvRefIdeal.nD,
    (Cert.Pre_finite_kv.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3))) = (fun _ => 1#1)

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSIdeal_finite_kvs [hPre_finite_kvs : Cert.Pre_finite_kvs.Facts] (m : (ℓ : Loc Cert.KvSIdeal.nD Cert.KvSIdeal.τ Cert.KvSIdeal.sig) → Buf (Elt Ideal) ℓ) : Prop :=
  ∀ c : Dev Cert.KvSIdeal.nD,
    (Cert.Pre_finite_kvs.fn (F := Ideal) (m ((c.tc : Thread Cert.KvSIdeal.nD Cert.KvSIdeal.τ).loc Cert.KvSIdeal.main_arg0)) (m ((c.tc : Thread Cert.KvSIdeal.nD Cert.KvSIdeal.τ).loc Cert.KvSIdeal.main_arg1)) (m ((c.tc : Thread Cert.KvSIdeal.nD Cert.KvSIdeal.τ).loc Cert.KvSIdeal.main_arg2)) (m ((c.tc : Thread Cert.KvSIdeal.nD Cert.KvSIdeal.τ).loc Cert.KvSIdeal.main_arg3)) (m ((c.tc : Thread Cert.KvSIdeal.nD Cert.KvSIdeal.τ).loc Cert.KvSIdeal.main_arg4))) = (fun _ => 1#1)

def Pre_KvSRefIdeal (m : (ℓ : Loc Cert.KvSRefIdeal.nD Cert.KvSRefIdeal.τ Cert.KvSRefIdeal.sig) → Buf (Elt Ideal) ℓ) : Prop :=
  True

def Pre_KvSRefIdeal_finite_kvs [hPre_finite_kvs : Cert.Pre_finite_kvs.Facts] (m : (ℓ : Loc Cert.KvSRefIdeal.nD Cert.KvSRefIdeal.τ Cert.KvSRefIdeal.sig) → Buf (Elt Ideal) ℓ) : Prop :=
  ∀ c : Dev Cert.KvSRefIdeal.nD,
    (Cert.Pre_finite_kvs.fn (F := Ideal) (m ((c.tc : Thread Cert.KvSRefIdeal.nD Cert.KvSRefIdeal.τ).loc Cert.KvSRefIdeal.main_arg0)) (m ((c.tc : Thread Cert.KvSRefIdeal.nD Cert.KvSRefIdeal.τ).loc Cert.KvSRefIdeal.main_arg1)) (m ((c.tc : Thread Cert.KvSRefIdeal.nD Cert.KvSRefIdeal.τ).loc Cert.KvSRefIdeal.main_arg2)) (m ((c.tc : Thread Cert.KvSRefIdeal.nD Cert.KvSRefIdeal.τ).loc Cert.KvSRefIdeal.main_arg3)) (m ((c.tc : Thread Cert.KvSRefIdeal.nD Cert.KvSRefIdeal.τ).loc Cert.KvSRefIdeal.main_arg4))) = (fun _ => 1#1)

def Pre_Comp [hPre_pages_exist : Cert.Pre_pages_exist.Facts] (m : (ℓ : Loc Cert.Comp.nD Cert.Comp.τ Cert.Comp.sig) → Buf (Elt Bits) ℓ) : Prop :=
  ∀ c : Dev Cert.Comp.nD,
    (Cert.Pre_pages_exist.fn (F := Bits) (m ((c.tc : Thread Cert.Comp.nD Cert.Comp.τ).loc Cert.Comp.main_arg0)) (m ((c.tc : Thread Cert.Comp.nD Cert.Comp.τ).loc Cert.Comp.main_arg1)) (m ((c.tc : Thread Cert.Comp.nD Cert.Comp.τ).loc Cert.Comp.main_arg2)) (m ((c.tc : Thread Cert.Comp.nD Cert.Comp.τ).loc Cert.Comp.main_arg3)) (m ((c.tc : Thread Cert.Comp.nD Cert.Comp.τ).loc Cert.Comp.main_arg4)) (m ((c.tc : Thread Cert.Comp.nD Cert.Comp.τ).loc Cert.Comp.main_arg5))) = (fun _ => 1#1)

def Pre_CompIdeal [hPre_pages_exist : Cert.Pre_pages_exist.Facts] (m : (ℓ : Loc Cert.CompIdeal.nD Cert.CompIdeal.τ Cert.CompIdeal.sig) → Buf (Elt Ideal) ℓ) : Prop :=
  ∀ c : Dev Cert.CompIdeal.nD,
    (Cert.Pre_pages_exist.fn (F := Ideal) (m ((c.tc : Thread Cert.CompIdeal.nD Cert.CompIdeal.τ).loc Cert.CompIdeal.main_arg0)) (m ((c.tc : Thread Cert.CompIdeal.nD Cert.CompIdeal.τ).loc Cert.CompIdeal.main_arg1)) (m ((c.tc : Thread Cert.CompIdeal.nD Cert.CompIdeal.τ).loc Cert.CompIdeal.main_arg2)) (m ((c.tc : Thread Cert.CompIdeal.nD Cert.CompIdeal.τ).loc Cert.CompIdeal.main_arg3)) (m ((c.tc : Thread Cert.CompIdeal.nD Cert.CompIdeal.τ).loc Cert.CompIdeal.main_arg4)) (m ((c.tc : Thread Cert.CompIdeal.nD Cert.CompIdeal.τ).loc Cert.CompIdeal.main_arg5))) = (fun _ => 1#1)

def Pre_CompRefIdeal (m : (ℓ : Loc Cert.CompRefIdeal.nD Cert.CompRefIdeal.τ Cert.CompRefIdeal.sig) → Buf (Elt Ideal) ℓ) : Prop :=
  True

def Pre_CompRefIdeal_pages_exist [hPre_pages_exist : Cert.Pre_pages_exist.Facts] (m : (ℓ : Loc Cert.CompRefIdeal.nD Cert.CompRefIdeal.τ Cert.CompRefIdeal.sig) → Buf (Elt Ideal) ℓ) : Prop :=
  ∀ c : Dev Cert.CompRefIdeal.nD,
    (Cert.Pre_pages_exist.fn (F := Ideal) (m ((c.tc : Thread Cert.CompRefIdeal.nD Cert.CompRefIdeal.τ).loc Cert.CompRefIdeal.main_arg0)) (m ((c.tc : Thread Cert.CompRefIdeal.nD Cert.CompRefIdeal.τ).loc Cert.CompRefIdeal.main_arg1)) (m ((c.tc : Thread Cert.CompRefIdeal.nD Cert.CompRefIdeal.τ).loc Cert.CompRefIdeal.main_arg2)) (m ((c.tc : Thread Cert.CompRefIdeal.nD Cert.CompRefIdeal.τ).loc Cert.CompRefIdeal.main_arg3)) (m ((c.tc : Thread Cert.CompRefIdeal.nD Cert.CompRefIdeal.τ).loc Cert.CompRefIdeal.main_arg4)) (m ((c.tc : Thread Cert.CompRefIdeal.nD Cert.CompRefIdeal.τ).loc Cert.CompRefIdeal.main_arg5))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvIdeal_pre_finite_kv [hKvIdeal : Cert.KvIdeal.Facts] [hPre_finite_kv : Cert.Pre_finite_kv.Facts] : Prop :=
  ∀ (m : (ℓ : Loc Cert.KvIdeal.nD Cert.KvIdeal.τ Cert.KvIdeal.sig) → Buf (Elt Ideal) ℓ) (g : Dev Cert.KvIdeal.nD → PrngReg), Pre_KvIdeal_finite_kv m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_KvRefIdeal_pre_finite_kv [hKvRefIdeal : Cert.KvRefIdeal.Facts] [hPre_finite_kv : Cert.Pre_finite_kv.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal_finite_kv m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1)
      ∧ r.2.mem ((c.tc : Thread Cert.KvS.nD Cert.KvS.τ).loc Cert.KvS.main_arg2) = m ((c.tc : Thread Cert.KvS.nD Cert.KvS.τ).loc Cert.KvS.main_arg2)
      ∧ r.2.mem ((c.tc : Thread Cert.KvS.nD Cert.KvS.τ).loc Cert.KvS.main_arg3) = m ((c.tc : Thread Cert.KvS.nD Cert.KvS.τ).loc Cert.KvS.main_arg3)
      ∧ r.2.mem ((c.tc : Thread Cert.KvS.nD Cert.KvS.τ).loc Cert.KvS.main_arg4) = m ((c.tc : Thread Cert.KvS.nD Cert.KvS.τ).loc Cert.KvS.main_arg4))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
      ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
      ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3)
      ∧ r.2.mem ((c.tc : Thread Cert.KvSIdeal.nD Cert.KvSIdeal.τ).loc Cert.KvSIdeal.main_arg4) = m ((c.tc : Thread Cert.KvSIdeal.nD Cert.KvSIdeal.τ).loc Cert.KvSIdeal.main_arg4))
      ∧ r.2.sem = fun _ => 0)

def quiescent_KvSIdeal_pre_finite_kvs [hKvSIdeal : Cert.KvSIdeal.Facts] [hPre_finite_kvs : Cert.Pre_finite_kvs.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal_finite_kvs m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
      ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
      ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3)
      ∧ r.2.mem ((c.tc : Thread Cert.KvSIdeal.nD Cert.KvSIdeal.τ).loc Cert.KvSIdeal.main_arg4) = m ((c.tc : Thread Cert.KvSIdeal.nD Cert.KvSIdeal.τ).loc Cert.KvSIdeal.main_arg4))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1)
      ∧ r.2.mem ((c.tc : Thread Cert.KvSRefIdeal.nD Cert.KvSRefIdeal.τ).loc Cert.KvSRefIdeal.main_arg2) = m ((c.tc : Thread Cert.KvSRefIdeal.nD Cert.KvSRefIdeal.τ).loc Cert.KvSRefIdeal.main_arg2)
      ∧ r.2.mem ((c.tc : Thread Cert.KvSRefIdeal.nD Cert.KvSRefIdeal.τ).loc Cert.KvSRefIdeal.main_arg3) = m ((c.tc : Thread Cert.KvSRefIdeal.nD Cert.KvSRefIdeal.τ).loc Cert.KvSRefIdeal.main_arg3)
      ∧ r.2.mem ((c.tc : Thread Cert.KvSRefIdeal.nD Cert.KvSRefIdeal.τ).loc Cert.KvSRefIdeal.main_arg4) = m ((c.tc : Thread Cert.KvSRefIdeal.nD Cert.KvSRefIdeal.τ).loc Cert.KvSRefIdeal.main_arg4))
      ∧ r.2.sem = fun _ => 0)

def quiescent_KvSRefIdeal_pre_finite_kvs [hKvSRefIdeal : Cert.KvSRefIdeal.Facts] [hPre_finite_kvs : Cert.Pre_finite_kvs.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal_finite_kvs m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1)
      ∧ r.2.mem ((c.tc : Thread Cert.KvSRefIdeal.nD Cert.KvSRefIdeal.τ).loc Cert.KvSRefIdeal.main_arg2) = m ((c.tc : Thread Cert.KvSRefIdeal.nD Cert.KvSRefIdeal.τ).loc Cert.KvSRefIdeal.main_arg2)
      ∧ r.2.mem ((c.tc : Thread Cert.KvSRefIdeal.nD Cert.KvSRefIdeal.τ).loc Cert.KvSRefIdeal.main_arg3) = m ((c.tc : Thread Cert.KvSRefIdeal.nD Cert.KvSRefIdeal.τ).loc Cert.KvSRefIdeal.main_arg3)
      ∧ r.2.mem ((c.tc : Thread Cert.KvSRefIdeal.nD Cert.KvSRefIdeal.τ).loc Cert.KvSRefIdeal.main_arg4) = m ((c.tc : Thread Cert.KvSRefIdeal.nD Cert.KvSRefIdeal.τ).loc Cert.KvSRefIdeal.main_arg4))
      ∧ r.2.sem = fun _ => 0)

def quiescent_Comp [hComp : Cert.Comp.Facts] [hPre_pages_exist : Cert.Pre_pages_exist.Facts] : Prop :=
  ∀ (m : (ℓ : Loc Cert.Comp.nD Cert.Comp.τ Cert.Comp.sig) → Buf (Elt Bits) ℓ) (g : Dev Cert.Comp.nD → PrngReg), Pre_Comp m →
    θ_run (Cert.Comp.defs (F := Bits)) (onTc (τ := Cert.Comp.τ) (Cert.Comp.main (F := Bits))) ⟨m, fun _ => 0, g⟩ (fun r => (∀ c : Dev Cert.Comp.nD,
      r.2.mem ((c.tc : Thread Cert.Comp.nD Cert.Comp.τ).loc Cert.Comp.main_arg0) = m ((c.tc : Thread Cert.Comp.nD Cert.Comp.τ).loc Cert.Comp.main_arg0)
      ∧ r.2.mem ((c.tc : Thread Cert.Comp.nD Cert.Comp.τ).loc Cert.Comp.main_arg1) = m ((c.tc : Thread Cert.Comp.nD Cert.Comp.τ).loc Cert.Comp.main_arg1)
      ∧ r.2.mem ((c.tc : Thread Cert.Comp.nD Cert.Comp.τ).loc Cert.Comp.main_arg2) = m ((c.tc : Thread Cert.Comp.nD Cert.Comp.τ).loc Cert.Comp.main_arg2)
      ∧ r.2.mem ((c.tc : Thread Cert.Comp.nD Cert.Comp.τ).loc Cert.Comp.main_arg3) = m ((c.tc : Thread Cert.Comp.nD Cert.Comp.τ).loc Cert.Comp.main_arg3)
      ∧ r.2.mem ((c.tc : Thread Cert.Comp.nD Cert.Comp.τ).loc Cert.Comp.main_arg4) = m ((c.tc : Thread Cert.Comp.nD Cert.Comp.τ).loc Cert.Comp.main_arg4)
      ∧ r.2.mem ((c.tc : Thread Cert.Comp.nD Cert.Comp.τ).loc Cert.Comp.main_arg5) = m ((c.tc : Thread Cert.Comp.nD Cert.Comp.τ).loc Cert.Comp.main_arg5))
      ∧ r.2.sem = fun _ => 0)

def quiescent_CompIdeal [hCompIdeal : Cert.CompIdeal.Facts] [hPre_pages_exist : Cert.Pre_pages_exist.Facts] : Prop :=
  ∀ (m : (ℓ : Loc Cert.CompIdeal.nD Cert.CompIdeal.τ Cert.CompIdeal.sig) → Buf (Elt Ideal) ℓ) (g : Dev Cert.CompIdeal.nD → PrngReg), Pre_CompIdeal m →
    θ_run (Cert.CompIdeal.defs (F := Ideal)) (onTc (τ := Cert.CompIdeal.τ) (Cert.CompIdeal.main (F := Ideal))) ⟨m, fun _ => 0, g⟩ (fun r => (∀ c : Dev Cert.CompIdeal.nD,
      r.2.mem ((c.tc : Thread Cert.CompIdeal.nD Cert.CompIdeal.τ).loc Cert.CompIdeal.main_arg0) = m ((c.tc : Thread Cert.CompIdeal.nD Cert.CompIdeal.τ).loc Cert.CompIdeal.main_arg0)
      ∧ r.2.mem ((c.tc : Thread Cert.CompIdeal.nD Cert.CompIdeal.τ).loc Cert.CompIdeal.main_arg1) = m ((c.tc : Thread Cert.CompIdeal.nD Cert.CompIdeal.τ).loc Cert.CompIdeal.main_arg1)
      ∧ r.2.mem ((c.tc : Thread Cert.CompIdeal.nD Cert.CompIdeal.τ).loc Cert.CompIdeal.main_arg2) = m ((c.tc : Thread Cert.CompIdeal.nD Cert.CompIdeal.τ).loc Cert.CompIdeal.main_arg2)
      ∧ r.2.mem ((c.tc : Thread Cert.CompIdeal.nD Cert.CompIdeal.τ).loc Cert.CompIdeal.main_arg3) = m ((c.tc : Thread Cert.CompIdeal.nD Cert.CompIdeal.τ).loc Cert.CompIdeal.main_arg3)
      ∧ r.2.mem ((c.tc : Thread Cert.CompIdeal.nD Cert.CompIdeal.τ).loc Cert.CompIdeal.main_arg4) = m ((c.tc : Thread Cert.CompIdeal.nD Cert.CompIdeal.τ).loc Cert.CompIdeal.main_arg4)
      ∧ r.2.mem ((c.tc : Thread Cert.CompIdeal.nD Cert.CompIdeal.τ).loc Cert.CompIdeal.main_arg5) = m ((c.tc : Thread Cert.CompIdeal.nD Cert.CompIdeal.τ).loc Cert.CompIdeal.main_arg5))
      ∧ r.2.sem = fun _ => 0)

def quiescent_CompRefIdeal [hCompRefIdeal : Cert.CompRefIdeal.Facts] : Prop :=
  ∀ (m : (ℓ : Loc Cert.CompRefIdeal.nD Cert.CompRefIdeal.τ Cert.CompRefIdeal.sig) → Buf (Elt Ideal) ℓ) (g : Dev Cert.CompRefIdeal.nD → PrngReg), Pre_CompRefIdeal m →
    θ_run (Cert.CompRefIdeal.defs (F := Ideal)) (onTc (τ := Cert.CompRefIdeal.τ) (Cert.CompRefIdeal.main (F := Ideal))) ⟨m, fun _ => 0, g⟩ (fun r => (∀ c : Dev Cert.CompRefIdeal.nD,
      r.2.mem ((c.tc : Thread Cert.CompRefIdeal.nD Cert.CompRefIdeal.τ).loc Cert.CompRefIdeal.main_arg0) = m ((c.tc : Thread Cert.CompRefIdeal.nD Cert.CompRefIdeal.τ).loc Cert.CompRefIdeal.main_arg0)
      ∧ r.2.mem ((c.tc : Thread Cert.CompRefIdeal.nD Cert.CompRefIdeal.τ).loc Cert.CompRefIdeal.main_arg1) = m ((c.tc : Thread Cert.CompRefIdeal.nD Cert.CompRefIdeal.τ).loc Cert.CompRefIdeal.main_arg1)
      ∧ r.2.mem ((c.tc : Thread Cert.CompRefIdeal.nD Cert.CompRefIdeal.τ).loc Cert.CompRefIdeal.main_arg2) = m ((c.tc : Thread Cert.CompRefIdeal.nD Cert.CompRefIdeal.τ).loc Cert.CompRefIdeal.main_arg2)
      ∧ r.2.mem ((c.tc : Thread Cert.CompRefIdeal.nD Cert.CompRefIdeal.τ).loc Cert.CompRefIdeal.main_arg3) = m ((c.tc : Thread Cert.CompRefIdeal.nD Cert.CompRefIdeal.τ).loc Cert.CompRefIdeal.main_arg3)
      ∧ r.2.mem ((c.tc : Thread Cert.CompRefIdeal.nD Cert.CompRefIdeal.τ).loc Cert.CompRefIdeal.main_arg4) = m ((c.tc : Thread Cert.CompRefIdeal.nD Cert.CompRefIdeal.τ).loc Cert.CompRefIdeal.main_arg4)
      ∧ r.2.mem ((c.tc : Thread Cert.CompRefIdeal.nD Cert.CompRefIdeal.τ).loc Cert.CompRefIdeal.main_arg5) = m ((c.tc : Thread Cert.CompRefIdeal.nD Cert.CompRefIdeal.τ).loc Cert.CompRefIdeal.main_arg5))
      ∧ r.2.sem = fun _ => 0)

def quiescent_CompRefIdeal_pre_pages_exist [hCompRefIdeal : Cert.CompRefIdeal.Facts] [hPre_pages_exist : Cert.Pre_pages_exist.Facts] : Prop :=
  ∀ (m : (ℓ : Loc Cert.CompRefIdeal.nD Cert.CompRefIdeal.τ Cert.CompRefIdeal.sig) → Buf (Elt Ideal) ℓ) (g : Dev Cert.CompRefIdeal.nD → PrngReg), Pre_CompRefIdeal_pages_exist m →
    θ_run (Cert.CompRefIdeal.defs (F := Ideal)) (onTc (τ := Cert.CompRefIdeal.τ) (Cert.CompRefIdeal.main (F := Ideal))) ⟨m, fun _ => 0, g⟩ (fun r => (∀ c : Dev Cert.CompRefIdeal.nD,
      r.2.mem ((c.tc : Thread Cert.CompRefIdeal.nD Cert.CompRefIdeal.τ).loc Cert.CompRefIdeal.main_arg0) = m ((c.tc : Thread Cert.CompRefIdeal.nD Cert.CompRefIdeal.τ).loc Cert.CompRefIdeal.main_arg0)
      ∧ r.2.mem ((c.tc : Thread Cert.CompRefIdeal.nD Cert.CompRefIdeal.τ).loc Cert.CompRefIdeal.main_arg1) = m ((c.tc : Thread Cert.CompRefIdeal.nD Cert.CompRefIdeal.τ).loc Cert.CompRefIdeal.main_arg1)
      ∧ r.2.mem ((c.tc : Thread Cert.CompRefIdeal.nD Cert.CompRefIdeal.τ).loc Cert.CompRefIdeal.main_arg2) = m ((c.tc : Thread Cert.CompRefIdeal.nD Cert.CompRefIdeal.τ).loc Cert.CompRefIdeal.main_arg2)
      ∧ r.2.mem ((c.tc : Thread Cert.CompRefIdeal.nD Cert.CompRefIdeal.τ).loc Cert.CompRefIdeal.main_arg3) = m ((c.tc : Thread Cert.CompRefIdeal.nD Cert.CompRefIdeal.τ).loc Cert.CompRefIdeal.main_arg3)
      ∧ r.2.mem ((c.tc : Thread Cert.CompRefIdeal.nD Cert.CompRefIdeal.τ).loc Cert.CompRefIdeal.main_arg4) = m ((c.tc : Thread Cert.CompRefIdeal.nD Cert.CompRefIdeal.τ).loc Cert.CompRefIdeal.main_arg4)
      ∧ r.2.mem ((c.tc : Thread Cert.CompRefIdeal.nD Cert.CompRefIdeal.τ).loc Cert.CompRefIdeal.main_arg5) = m ((c.tc : Thread Cert.CompRefIdeal.nD Cert.CompRefIdeal.τ).loc Cert.CompRefIdeal.main_arg5))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v22) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v25) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v7)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v7) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v44) = v0 c
          ∧ r.2.mem ((c.tc : Thread Cert.ConvRefIdeal.nD Cert.ConvRefIdeal.τ).loc Cert.ConvRefIdeal.main_v42) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)) →
    ∃ (v0 : (c : Dev Cert.ConvSIdeal.nD) → Buf (Elt Ideal) ((c.tc : Thread Cert.ConvSIdeal.nD Cert.ConvSIdeal.τ).loc Cert.ConvSIdeal.main_v12_0)) (v1 : (c : Dev Cert.ConvSIdeal.nD) → Buf (Elt Ideal) ((c.tc : Thread Cert.ConvSIdeal.nD Cert.ConvSIdeal.τ).loc Cert.ConvSIdeal.main_v14)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v12_0) = v0 c
          ∧ r.2.mem ((c.tc : Thread Cert.ConvSIdeal.nD Cert.ConvSIdeal.τ).loc Cert.ConvSIdeal.main_v14) = v1 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v43) = v0 c
          ∧ r.2.mem ((c.tc : Thread Cert.ConvSRefIdeal.nD Cert.ConvSRefIdeal.τ).loc Cert.ConvSRefIdeal.main_v41) = v1 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5))

def preserves_MixS_MixSIdeal : Prop :=
  True

def algebraic_MixSIdeal_MixSRefIdeal [hMixSIdeal : Cert.MixSIdeal.Facts] [hMixSRefIdeal : Cert.MixSRefIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)) →
    ∃ (v0 : (c : Dev Cert.MixSIdeal.nD) → Buf (Elt Ideal) ((c.tc : Thread Cert.MixSIdeal.nD Cert.MixSIdeal.τ).loc Cert.MixSIdeal.main_v6)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v6) = v0 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v24) = v0 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5))

def preserves_Kv_KvIdeal : Prop :=
  True

def algebraic_KvIdeal_KvRefIdeal_pre_finite_kv [hKvIdeal : Cert.KvIdeal.Facts] [hKvRefIdeal : Cert.KvRefIdeal.Facts] [hPre_finite_kv : Cert.Pre_finite_kv.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal_finite_kv m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v62_0)) (v1 : (c : Dev Cert.KvIdeal.nD) → Buf (Elt Ideal) ((c.tc : Thread Cert.KvIdeal.nD Cert.KvIdeal.τ).loc Cert.KvIdeal.main_v64)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v62_0) = v0 c
          ∧ r.2.mem ((c.tc : Thread Cert.KvIdeal.nD Cert.KvIdeal.τ).loc Cert.KvIdeal.main_v64) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v138) = v0 c
          ∧ r.2.mem ((c.tc : Thread Cert.KvRefIdeal.nD Cert.KvRefIdeal.τ).loc Cert.KvRefIdeal.main_v139) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_KvS_KvSIdeal : Prop :=
  True

def algebraic_KvSIdeal_KvSRefIdeal_pre_finite_kvs [hKvSIdeal : Cert.KvSIdeal.Facts] [hKvSRefIdeal : Cert.KvSRefIdeal.Facts] [hPre_finite_kvs : Cert.Pre_finite_kvs.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal_finite_kvs m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)
      ∧ m' ((c.tc : Thread Cert.KvSRefIdeal.nD Cert.KvSRefIdeal.τ).loc Cert.KvSRefIdeal.main_arg2) = m ((c.tc : Thread Cert.KvSIdeal.nD Cert.KvSIdeal.τ).loc Cert.KvSIdeal.main_arg2)
      ∧ m' ((c.tc : Thread Cert.KvSRefIdeal.nD Cert.KvSRefIdeal.τ).loc Cert.KvSRefIdeal.main_arg3) = m ((c.tc : Thread Cert.KvSIdeal.nD Cert.KvSIdeal.τ).loc Cert.KvSIdeal.main_arg3)
      ∧ m' ((c.tc : Thread Cert.KvSRefIdeal.nD Cert.KvSRefIdeal.τ).loc Cert.KvSRefIdeal.main_arg4) = m ((c.tc : Thread Cert.KvSIdeal.nD Cert.KvSIdeal.τ).loc Cert.KvSIdeal.main_arg4)) →
    ∃ (v0 : (c : Dev Cert.KvSIdeal.nD) → Buf (Elt Ideal) ((c.tc : Thread Cert.KvSIdeal.nD Cert.KvSIdeal.τ).loc Cert.KvSIdeal.main_v73_0)) (v1 : (c : Dev Cert.KvSIdeal.nD) → Buf (Elt Ideal) ((c.tc : Thread Cert.KvSIdeal.nD Cert.KvSIdeal.τ).loc Cert.KvSIdeal.main_v76)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v73_0) = v0 c
          ∧ r.2.mem ((c.tc : Thread Cert.KvSIdeal.nD Cert.KvSIdeal.τ).loc Cert.KvSIdeal.main_v76) = v1 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
          ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
          ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3)
          ∧ r.2.mem ((c.tc : Thread Cert.KvSIdeal.nD Cert.KvSIdeal.τ).loc Cert.KvSIdeal.main_arg4) = m ((c.tc : Thread Cert.KvSIdeal.nD Cert.KvSIdeal.τ).loc Cert.KvSIdeal.main_arg4))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v141) = v0 c
          ∧ r.2.mem ((c.tc : Thread Cert.KvSRefIdeal.nD Cert.KvSRefIdeal.τ).loc Cert.KvSRefIdeal.main_v142) = v1 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1)
          ∧ r.2.mem ((c.tc : Thread Cert.KvSRefIdeal.nD Cert.KvSRefIdeal.τ).loc Cert.KvSRefIdeal.main_arg2) = m' ((c.tc : Thread Cert.KvSRefIdeal.nD Cert.KvSRefIdeal.τ).loc Cert.KvSRefIdeal.main_arg2)
          ∧ r.2.mem ((c.tc : Thread Cert.KvSRefIdeal.nD Cert.KvSRefIdeal.τ).loc Cert.KvSRefIdeal.main_arg3) = m' ((c.tc : Thread Cert.KvSRefIdeal.nD Cert.KvSRefIdeal.τ).loc Cert.KvSRefIdeal.main_arg3)
          ∧ r.2.mem ((c.tc : Thread Cert.KvSRefIdeal.nD Cert.KvSRefIdeal.τ).loc Cert.KvSRefIdeal.main_arg4) = m' ((c.tc : Thread Cert.KvSRefIdeal.nD Cert.KvSRefIdeal.τ).loc Cert.KvSRefIdeal.main_arg4))

def preserves_Comp_CompIdeal : Prop :=
  True

def algebraic_CompIdeal_CompRefIdeal [hCompIdeal : Cert.CompIdeal.Facts] [hCompRefIdeal : Cert.CompRefIdeal.Facts] [hPre_pages_exist : Cert.Pre_pages_exist.Facts] : Prop :=
  ∀ (m : (ℓ : Loc Cert.CompIdeal.nD Cert.CompIdeal.τ Cert.CompIdeal.sig) → Buf (Elt Ideal) ℓ) (g : Dev Cert.CompIdeal.nD → PrngReg)
    (m' : (ℓ : Loc Cert.CompRefIdeal.nD Cert.CompRefIdeal.τ Cert.CompRefIdeal.sig) → Buf (Elt Ideal) ℓ) (g' : Dev Cert.CompRefIdeal.nD → PrngReg), Pre_CompIdeal m →
    (∀ c : Dev Cert.CompIdeal.nD,
      m' ((c.tc : Thread Cert.CompRefIdeal.nD Cert.CompRefIdeal.τ).loc Cert.CompRefIdeal.main_arg0) = m ((c.tc : Thread Cert.CompIdeal.nD Cert.CompIdeal.τ).loc Cert.CompIdeal.main_arg0)
      ∧ m' ((c.tc : Thread Cert.CompRefIdeal.nD Cert.CompRefIdeal.τ).loc Cert.CompRefIdeal.main_arg1) = m ((c.tc : Thread Cert.CompIdeal.nD Cert.CompIdeal.τ).loc Cert.CompIdeal.main_arg1)
      ∧ m' ((c.tc : Thread Cert.CompRefIdeal.nD Cert.CompRefIdeal.τ).loc Cert.CompRefIdeal.main_arg2) = m ((c.tc : Thread Cert.CompIdeal.nD Cert.CompIdeal.τ).loc Cert.CompIdeal.main_arg2)
      ∧ m' ((c.tc : Thread Cert.CompRefIdeal.nD Cert.CompRefIdeal.τ).loc Cert.CompRefIdeal.main_arg3) = m ((c.tc : Thread Cert.CompIdeal.nD Cert.CompIdeal.τ).loc Cert.CompIdeal.main_arg3)
      ∧ m' ((c.tc : Thread Cert.CompRefIdeal.nD Cert.CompRefIdeal.τ).loc Cert.CompRefIdeal.main_arg4) = m ((c.tc : Thread Cert.CompIdeal.nD Cert.CompIdeal.τ).loc Cert.CompIdeal.main_arg4)
      ∧ m' ((c.tc : Thread Cert.CompRefIdeal.nD Cert.CompRefIdeal.τ).loc Cert.CompRefIdeal.main_arg5) = m ((c.tc : Thread Cert.CompIdeal.nD Cert.CompIdeal.τ).loc Cert.CompIdeal.main_arg5)) →
    ∃ (v0 : (c : Dev Cert.CompIdeal.nD) → Buf (Elt Ideal) ((c.tc : Thread Cert.CompIdeal.nD Cert.CompIdeal.τ).loc Cert.CompIdeal.main_v12_0)) (v1 : (c : Dev Cert.CompIdeal.nD) → Buf (Elt Ideal) ((c.tc : Thread Cert.CompIdeal.nD Cert.CompIdeal.τ).loc Cert.CompIdeal.main_v12_1)),
      θ_run (Cert.CompIdeal.defs (F := Ideal)) (onTc (τ := Cert.CompIdeal.τ) (Cert.CompIdeal.main (F := Ideal))) ⟨m, fun _ => 0, g⟩ (fun r => ∀ c : Dev Cert.CompIdeal.nD,
          r.2.mem ((c.tc : Thread Cert.CompIdeal.nD Cert.CompIdeal.τ).loc Cert.CompIdeal.main_v12_0) = v0 c
          ∧ r.2.mem ((c.tc : Thread Cert.CompIdeal.nD Cert.CompIdeal.τ).loc Cert.CompIdeal.main_v12_1) = v1 c
          ∧ r.2.mem ((c.tc : Thread Cert.CompIdeal.nD Cert.CompIdeal.τ).loc Cert.CompIdeal.main_arg0) = m ((c.tc : Thread Cert.CompIdeal.nD Cert.CompIdeal.τ).loc Cert.CompIdeal.main_arg0)
          ∧ r.2.mem ((c.tc : Thread Cert.CompIdeal.nD Cert.CompIdeal.τ).loc Cert.CompIdeal.main_arg1) = m ((c.tc : Thread Cert.CompIdeal.nD Cert.CompIdeal.τ).loc Cert.CompIdeal.main_arg1)
          ∧ r.2.mem ((c.tc : Thread Cert.CompIdeal.nD Cert.CompIdeal.τ).loc Cert.CompIdeal.main_arg2) = m ((c.tc : Thread Cert.CompIdeal.nD Cert.CompIdeal.τ).loc Cert.CompIdeal.main_arg2)
          ∧ r.2.mem ((c.tc : Thread Cert.CompIdeal.nD Cert.CompIdeal.τ).loc Cert.CompIdeal.main_arg3) = m ((c.tc : Thread Cert.CompIdeal.nD Cert.CompIdeal.τ).loc Cert.CompIdeal.main_arg3)
          ∧ r.2.mem ((c.tc : Thread Cert.CompIdeal.nD Cert.CompIdeal.τ).loc Cert.CompIdeal.main_arg4) = m ((c.tc : Thread Cert.CompIdeal.nD Cert.CompIdeal.τ).loc Cert.CompIdeal.main_arg4)
          ∧ r.2.mem ((c.tc : Thread Cert.CompIdeal.nD Cert.CompIdeal.τ).loc Cert.CompIdeal.main_arg5) = m ((c.tc : Thread Cert.CompIdeal.nD Cert.CompIdeal.τ).loc Cert.CompIdeal.main_arg5))
      ∧ θ_run (Cert.CompRefIdeal.defs (F := Ideal)) (onTc (τ := Cert.CompRefIdeal.τ) (Cert.CompRefIdeal.main (F := Ideal))) ⟨m', fun _ => 0, g'⟩ (fun r => ∀ c : Dev Cert.CompRefIdeal.nD,
          r.2.mem ((c.tc : Thread Cert.CompRefIdeal.nD Cert.CompRefIdeal.τ).loc Cert.CompRefIdeal.main_v52) = v0 c
          ∧ r.2.mem ((c.tc : Thread Cert.CompRefIdeal.nD Cert.CompRefIdeal.τ).loc Cert.CompRefIdeal.main_v54) = v1 c
          ∧ r.2.mem ((c.tc : Thread Cert.CompRefIdeal.nD Cert.CompRefIdeal.τ).loc Cert.CompRefIdeal.main_arg0) = m' ((c.tc : Thread Cert.CompRefIdeal.nD Cert.CompRefIdeal.τ).loc Cert.CompRefIdeal.main_arg0)
          ∧ r.2.mem ((c.tc : Thread Cert.CompRefIdeal.nD Cert.CompRefIdeal.τ).loc Cert.CompRefIdeal.main_arg1) = m' ((c.tc : Thread Cert.CompRefIdeal.nD Cert.CompRefIdeal.τ).loc Cert.CompRefIdeal.main_arg1)
          ∧ r.2.mem ((c.tc : Thread Cert.CompRefIdeal.nD Cert.CompRefIdeal.τ).loc Cert.CompRefIdeal.main_arg2) = m' ((c.tc : Thread Cert.CompRefIdeal.nD Cert.CompRefIdeal.τ).loc Cert.CompRefIdeal.main_arg2)
          ∧ r.2.mem ((c.tc : Thread Cert.CompRefIdeal.nD Cert.CompRefIdeal.τ).loc Cert.CompRefIdeal.main_arg3) = m' ((c.tc : Thread Cert.CompRefIdeal.nD Cert.CompRefIdeal.τ).loc Cert.CompRefIdeal.main_arg3)
          ∧ r.2.mem ((c.tc : Thread Cert.CompRefIdeal.nD Cert.CompRefIdeal.τ).loc Cert.CompRefIdeal.main_arg4) = m' ((c.tc : Thread Cert.CompRefIdeal.nD Cert.CompRefIdeal.τ).loc Cert.CompRefIdeal.main_arg4)
          ∧ r.2.mem ((c.tc : Thread Cert.CompRefIdeal.nD Cert.CompRefIdeal.τ).loc Cert.CompRefIdeal.main_arg5) = m' ((c.tc : Thread Cert.CompRefIdeal.nD Cert.CompRefIdeal.τ).loc Cert.CompRefIdeal.main_arg5))

def Claim : Prop :=
  ∃ (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hConv : Cert.Conv.Facts) (hConvIdeal : Cert.ConvIdeal.Facts) (hConvRefIdeal : Cert.ConvRefIdeal.Facts) (hConvS : Cert.ConvS.Facts) (hConvSIdeal : Cert.ConvSIdeal.Facts) (hConvSRefIdeal : Cert.ConvSRefIdeal.Facts) (hMixS : Cert.MixS.Facts) (hMixSIdeal : Cert.MixSIdeal.Facts) (hMixSRefIdeal : Cert.MixSRefIdeal.Facts) (hKv : Cert.Kv.Facts) (hKvIdeal : Cert.KvIdeal.Facts) (hKvRefIdeal : Cert.KvRefIdeal.Facts) (hKvS : Cert.KvS.Facts) (hKvSIdeal : Cert.KvSIdeal.Facts) (hKvSRefIdeal : Cert.KvSRefIdeal.Facts) (hComp : Cert.Comp.Facts) (hCompIdeal : Cert.CompIdeal.Facts) (hCompRefIdeal : Cert.CompRefIdeal.Facts) (hPre_finite_kv : Cert.Pre_finite_kv.Facts) (hPre_finite_kvs : Cert.Pre_finite_kvs.Facts) (hPre_pages_exist : Cert.Pre_pages_exist.Facts),
    quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Conv (hConv := hConv)
    ∧ quiescent_ConvIdeal (hConvIdeal := hConvIdeal)
    ∧ quiescent_ConvRefIdeal (hConvRefIdeal := hConvRefIdeal)
    ∧ quiescent_ConvS (hConvS := hConvS)
    ∧ quiescent_ConvSIdeal (hConvSIdeal := hConvSIdeal)
    ∧ quiescent_ConvSRefIdeal (hConvSRefIdeal := hConvSRefIdeal)
    ∧ quiescent_MixS (hMixS := hMixS)
    ∧ quiescent_MixSIdeal (hMixSIdeal := hMixSIdeal)
    ∧ quiescent_MixSRefIdeal (hMixSRefIdeal := hMixSRefIdeal)
    ∧ quiescent_Kv (hKv := hKv)
    ∧ quiescent_KvIdeal (hKvIdeal := hKvIdeal)
    ∧ quiescent_KvIdeal_pre_finite_kv (hKvIdeal := hKvIdeal) (hPre_finite_kv := hPre_finite_kv)
    ∧ quiescent_KvRefIdeal (hKvRefIdeal := hKvRefIdeal)
    ∧ quiescent_KvRefIdeal_pre_finite_kv (hKvRefIdeal := hKvRefIdeal) (hPre_finite_kv := hPre_finite_kv)
    ∧ quiescent_KvS (hKvS := hKvS)
    ∧ quiescent_KvSIdeal (hKvSIdeal := hKvSIdeal)
    ∧ quiescent_KvSIdeal_pre_finite_kvs (hKvSIdeal := hKvSIdeal) (hPre_finite_kvs := hPre_finite_kvs)
    ∧ quiescent_KvSRefIdeal (hKvSRefIdeal := hKvSRefIdeal)
    ∧ quiescent_KvSRefIdeal_pre_finite_kvs (hKvSRefIdeal := hKvSRefIdeal) (hPre_finite_kvs := hPre_finite_kvs)
    ∧ quiescent_Comp (hComp := hComp) (hPre_pages_exist := hPre_pages_exist)
    ∧ quiescent_CompIdeal (hCompIdeal := hCompIdeal) (hPre_pages_exist := hPre_pages_exist)
    ∧ quiescent_CompRefIdeal (hCompRefIdeal := hCompRefIdeal)
    ∧ quiescent_CompRefIdeal_pre_pages_exist (hCompRefIdeal := hCompRefIdeal) (hPre_pages_exist := hPre_pages_exist)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Conv_ConvIdeal
    ∧ algebraic_ConvIdeal_ConvRefIdeal (hConvIdeal := hConvIdeal) (hConvRefIdeal := hConvRefIdeal)
    ∧ preserves_ConvS_ConvSIdeal
    ∧ algebraic_ConvSIdeal_ConvSRefIdeal (hConvSIdeal := hConvSIdeal) (hConvSRefIdeal := hConvSRefIdeal)
    ∧ preserves_MixS_MixSIdeal
    ∧ algebraic_MixSIdeal_MixSRefIdeal (hMixSIdeal := hMixSIdeal) (hMixSRefIdeal := hMixSRefIdeal)
    ∧ preserves_Kv_KvIdeal
    ∧ algebraic_KvIdeal_KvRefIdeal_pre_finite_kv (hKvIdeal := hKvIdeal) (hKvRefIdeal := hKvRefIdeal) (hPre_finite_kv := hPre_finite_kv)
    ∧ preserves_KvS_KvSIdeal
    ∧ algebraic_KvSIdeal_KvSRefIdeal_pre_finite_kvs (hKvSIdeal := hKvSIdeal) (hKvSRefIdeal := hKvSRefIdeal) (hPre_finite_kvs := hPre_finite_kvs)
    ∧ preserves_Comp_CompIdeal
    ∧ algebraic_CompIdeal_CompRefIdeal (hCompIdeal := hCompIdeal) (hCompRefIdeal := hCompRefIdeal) (hPre_pages_exist := hPre_pages_exist)
-- ==== Pre_finite_kv.lean ====
abbrev S4x4096x1024 : Shape := ⟨3, ![4, 4096, 1024]⟩
abbrev S1024 : Shape := ⟨1, ![1024]⟩
abbrev S1024x1536 : Shape := ⟨2, ![1024, 1536]⟩
abbrev S3x64 : Shape := ⟨2, ![3, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1536 : S_.BroadcastsInDim S1024x1536 (![] : Fin 0 → Fin S1024x1536.rank)
  reducesTo_S1024x1536_S_d0_1 : S1024x1536.ReducesTo [0, 1] S_

variable [Facts]

def fn {F : FTy → Type} [FloatOps F] (main_arg0 : FVec F S4x4096x1024 .f32) (main_arg1 : FVec F S1024 .f32) (main_arg2 : FVec F S1024x1536 .f32) (main_arg3 : FVec F S3x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1536 .f32 := Host.absf main_arg2
  let main_cst_2 : FVec F S_ .f32 := constant S_ .f32 0x7F800000#32
  let main_v10 : FVec F S1024x1536 .f32 := broadcastInDim S1024x1536 ![] bcast_S_S1024x1536 main_cst_2
  let main_v11 : IVec S1024x1536 1 := cmpf .olt main_v9 main_v10
  let main_c_3 : IVec S_ 1 := constantI S_ 1 1#1
  let main_v12 : IVec S_ 1 := (fun x v => Host.reduce IntOp.andi x v reducesTo_S1024x1536_S_d0_1 h_S_) main_v11 main_c_3
  let main_v13 : IVec S_ 1 := andi main_v8 main_v12
  main_v13
-- ==== Pre_finite_kvs.lean ====
abbrev S32x8x1024 : Shape := ⟨3, ![32, 8, 1024]⟩
abbrev S32x512x2x4x64 : Shape := ⟨5, ![32, 512, 2, 4, 64]⟩
abbrev S1024 : Shape := ⟨1, ![1024]⟩
abbrev S1024x1536 : Shape := ⟨2, ![1024, 1536]⟩
abbrev S3x64 : Shape := ⟨2, ![3, 64]⟩
abbrev S_ : Shape := ⟨0, ![]⟩

class Facts : Prop where
  bcast_S_S32x8x1024 : S_.BroadcastsInDim S32x8x1024 (![] : Fin 0 → Fin S32x8x1024.rank)
  reducesTo_S32x8x1024_S_d0_1_2 : S32x8x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1536 : S_.BroadcastsInDim S1024x1536 (![] : Fin 0 → Fin S1024x1536.rank)
  reducesTo_S1024x1536_S_d0_1 : S1024x1536.ReducesTo [0, 1] S_

variable [Facts]

def fn {F : FTy → Type} [FloatOps F] (main_arg0 : FVec F S32x8x1024 .f32) (main_arg1 : FVec F S32x512x2x4x64 .f32) (main_arg2 : FVec F S1024 .f32) (main_arg3 : FVec F S1024x1536 .f32) (main_arg4 : FVec F S3x64 .f32) : IVec S_ 1 :=
  let main_v0 : FVec F S32x8x1024 .f32 := Host.absf main_arg0
  let main_cst : FVec F S_ .f32 := constant S_ .f32 0x7F800000#32
  let main_v1 : FVec F S32x8x1024 .f32 := broadcastInDim S32x8x1024 ![] bcast_S_S32x8x1024 main_cst
  let main_v2 : IVec S32x8x1024 1 := cmpf .olt main_v0 main_v1
  let main_c : IVec S_ 1 := constantI S_ 1 1#1
  let main_v3 : IVec S_ 1 := (fun x v => Host.reduce IntOp.andi x v reducesTo_S32x8x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1536 .f32 := Host.absf main_arg3
  let main_cst_2 : FVec F S_ .f32 := constant S_ .f32 0x7F800000#32
  let main_v10 : FVec F S1024x1536 .f32 := broadcastInDim S1024x1536 ![] bcast_S_S1024x1536 main_cst_2
  let main_v11 : IVec S1024x1536 1 := cmpf .olt main_v9 main_v10
  let main_c_3 : IVec S_ 1 := constantI S_ 1 1#1
  let main_v12 : IVec S_ 1 := (fun x v => Host.reduce IntOp.andi x v reducesTo_S1024x1536_S_d0_1 h_S_) main_v11 main_c_3
  let main_v13 : IVec S_ 1 := andi main_v8 main_v12
  main_v13
-- ==== Pre_pages_exist.lean ====
abbrev S2560x128x4x4x64 : Shape := ⟨5, ![2560, 128, 4, 4, 64]⟩
abbrev S32x64 : Shape := ⟨2, ![32, 64]⟩
abbrev S3x64 : Shape := ⟨2, ![3, 64]⟩
abbrev S2x32x64 : Shape := ⟨3, ![2, 32, 64]⟩
abbrev S2x32x64x256 : Shape := ⟨4, ![2, 32, 64, 256]⟩
abbrev S2x256x64 : Shape := ⟨3, ![2, 256, 64]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel

variable [Facts]

def fn {F : FTy → Type} [FloatOps F] (main_arg0 : FVec F S2560x128x4x4x64 .f32) (main_arg1 : IVec S32x64 32) (main_arg2 : FVec F S3x64 .f32) (main_arg3 : FVec F S2x32x64 .f32) (main_arg4 : FVec F S2x32x64x256 .f32) (main_arg5 : FVec F S2x256x64 .f32) : IVec S_ 1 :=
  let main_c : IVec S_ 32 := constantI S_ 32 0#32
  let main_v0 : IVec S32x64 32 := broadcastInDim S32x64 ![] bcast_S_S32x64 main_c
  let main_v1 : IVec S32x64 1 := cmpi .sge main_arg1 main_v0
  let main_c_0 : IVec S_ 32 := constantI S_ 32 2560#32
  let main_v2 : IVec S32x64 32 := broadcastInDim S32x64 ![] bcast_S_S32x64 main_c_0
  let main_v3 : IVec S32x64 1 := cmpi .slt main_arg1 main_v2
  let main_v4 : IVec S32x64 1 := andi main_v1 main_v3
  let main_c_1 : IVec S_ 1 := constantI S_ 1 1#1
  let main_v5 : IVec S_ 1 := (fun x v => Host.reduce IntOp.andi x v reducesTo_S32x64_S_d0_1 h_S_) main_v4 main_c_1
  main_v5
-- ==== Ffn.lean ====
abbrev S4x4096x1024 : Shape := ⟨3, ![4, 4096, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S4x4096x1024 : Shape := ⟨3, ![4, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x4096x5632, .f32⟩
  | .hbm, ⟨21, _⟩ => ⟨S4x4096x2816, .f32⟩
  | .hbm, ⟨22, _⟩ => ⟨S4x4096x2816, .f32⟩
  | .hbm, ⟨23, _⟩ => ⟨S4x4096x2816, .f32⟩
  | .hbm, ⟨24, _⟩ => ⟨S4x4096x2816, .f32⟩
  | .hbm, ⟨25, _⟩ => ⟨S_, .f32⟩
  | .hbm, ⟨26, _⟩ => ⟨S4x4096x2816, .f32⟩
  | .hbm, ⟨27, _⟩ => ⟨S4x4096x2816, .f32⟩
  | .hbm, ⟨28, _⟩ => ⟨S_, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S4x4096x1024, .f32⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Mix.lean ====
abbrev S4x4096x1024 : Shape := ⟨3, ![4, 4096, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩

abbrev nBuf : Space → Nat
  | .hbm => 13
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S16384x1024, .f32⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S16384x1024, .bf16⟩
  | .hbm, ⟨11, _⟩ => ⟨S1024x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixRefIdeal.lean ====
abbrev S4x4096x1024 : Shape := ⟨3, ![4, 4096, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x4096x5632, .f32⟩
  | .hbm, ⟨26, _⟩ => ⟨S4x4096x2816, .f32⟩
  | .hbm, ⟨27, _⟩ => ⟨S4x4096x2816, .f32⟩
  | .hbm, ⟨28, _⟩ => ⟨S4x4096x2816, .f32⟩
  | .hbm, ⟨29, _⟩ => ⟨S4x4096x2816, .f32⟩
  | .hbm, ⟨30, _⟩ => ⟨S_, .f32⟩
  | .hbm, ⟨31, _⟩ => ⟨S4x4096x2816, .f32⟩
  | .hbm, ⟨32, _⟩ => ⟨S4x4096x2816, .f32⟩
  | .hbm, ⟨33, _⟩ => ⟨S_, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S4x4096x2816, .f32⟩
  | .hbm, ⟨38, _⟩ => ⟨S4x4096x1024, .f32⟩
  | .hbm, ⟨39, _⟩ => ⟨S_, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Conv.lean ====
abbrev S4x4096x1024 : Shape := ⟨3, ![4, 4096, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S32x1024 : Shape := ⟨2, ![32, 1024]⟩
abbrev S16384x1024 : Shape := ⟨2, ![16384, 1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S512x3072 : Shape := ⟨2, ![512, 3072]⟩
abbrev S4x8x1024 : Shape := ⟨3, ![4, 8, 1024]⟩
abbrev S4x2x1024 : Shape := ⟨3, ![4, 2, 1024]⟩

abbrev nBuf : Space → Nat
  | .hbm => 15
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S_, .f32⟩
  | .hbm, ⟨6, _⟩ => ⟨S32x1024, .f32⟩
  | .hbm, ⟨7, _⟩ => ⟨S16384x1024, .f32⟩
  | .hbm, ⟨8, _⟩ => ⟨S1x1024, .f32⟩
  | .hbm, ⟨9, _⟩ => ⟨S1024x3072, .bf16⟩
  | .hbm, ⟨10, _⟩ => ⟨S1024x1024, .bf16⟩
  | .hbm, ⟨11, _⟩ => ⟨S16384x1024, .f32⟩
  | .hbm, ⟨12, _⟩ => ⟨S32x1024, .f32⟩
  | .hbm, ⟨13, _⟩ => ⟨S4x8x1024, .f32⟩
  | .hbm, ⟨14, _⟩ => ⟨S4x2x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S8x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvRefIdeal.lean ====
abbrev S4x4096x1024 : Shape := ⟨3, ![4, 4096, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x2x1024 : Shape := ⟨3, ![4, 2, 1024]⟩
abbrev S4x4096x3072 : Shape := ⟨3, ![4, 4096, 3072]⟩
abbrev S4x4098x1024 : Shape := ⟨3, ![4, 4098, 1024]⟩
abbrev S1x1024 : Shape := ⟨2, ![1, 1024]⟩
abbrev S16384x1024 : Shape := ⟨2, ![16384, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x2x1024, .f32⟩
  | .hbm, ⟨23, _⟩ => ⟨S4x4096x3072, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4098x1024, .f32⟩
  | .hbm, ⟨29, _⟩ => ⟨S1x1024, .f32⟩
  | .hbm, ⟨30, _⟩ => ⟨S1024, .f32⟩
  | .hbm, ⟨31, _⟩ => ⟨S4x4096x1024, .f32⟩
  | .hbm, ⟨32, _⟩ => ⟨S1x1x1024, .f32⟩
  | .hbm, ⟨33, _⟩ => ⟨S4x4096x1024, .f32⟩
  | .hbm, ⟨34, _⟩ => ⟨S4x4096x1024, .f32⟩
  | .hbm, ⟨35, _⟩ => ⟨S1x1024, .f32⟩
  | .hbm, ⟨36, _⟩ => ⟨S1024, .f32⟩
  | .hbm, ⟨37, _⟩ => ⟨S4x4096x1024, .f32⟩
  | .hbm, ⟨38, _⟩ => ⟨S1x1x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S1x1024, .f32⟩
  | .hbm, ⟨43, _⟩ => ⟨S1024, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x2x1024, .f32⟩
  | .hbm, ⟨52, _⟩ => ⟨S4x4096x1024, .f32⟩
  | .hbm, ⟨53, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== ConvS.lean ====
abbrev S32x8x1024 : Shape := ⟨3, ![32, 8, 1024]⟩
abbrev S32x2x1024 : Shape := ⟨3, ![32, 2, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S32x1x1024 : Shape := ⟨3, ![32, 1, 1024]⟩
abbrev S32x1024 : Shape := ⟨2, ![32, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x3072 : Shape := ⟨2, ![256, 3072]⟩

abbrev nBuf : Space → Nat
  | .hbm => 22
  | .vmem => 9
  | .smem => 0
  | _ => 0

abbrev bufTy : (tb : Table) → Fin (tcTables nBuf tb) → BufTy
  | .hbm, ⟨0, _⟩ => ⟨S32x8x1024, .f32⟩
  | .hbm, ⟨1, _⟩ => ⟨S32x2x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S32x1x1024, .f32⟩
  | .hbm, ⟨7, _⟩ => ⟨S32x1024, .f32⟩
  | .hbm, ⟨8, _⟩ => ⟨S32x8x1024, .f32⟩
  | .hbm, ⟨9, _⟩ => ⟨S256x1024, .f32⟩
  | .hbm, ⟨10, _⟩ => ⟨S32x1x1024, .f32⟩
  | .hbm, ⟨11, _⟩ => ⟨S32x1024, .f32⟩
  | .hbm, ⟨12, _⟩ => ⟨S32x8x1024, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S1024x3072, .bf16⟩
  | .hbm, ⟨17, _⟩ => ⟨S1024x1024, .bf16⟩
  | .hbm, ⟨18, _⟩ => ⟨S256x1024, .f32⟩
  | .hbm, ⟨19, _⟩ => ⟨S256x1024, .f32⟩
  | .hbm, ⟨20, _⟩ => ⟨S32x8x1024, .f32⟩
  | .hbm, ⟨21, _⟩ => ⟨S32x2x1024, .f32⟩
  | .local _ .vmem, ⟨0, _⟩ => ⟨S256x1024, .f32⟩
  | .local _ .vmem, ⟨1, _⟩ => ⟨S1x1024, .f32⟩
  | .local _ .vmem, ⟨2, _⟩ => ⟨S1024x3072, .bf16⟩
  | .local _ .vmem, ⟨3, _⟩ => ⟨S3x1024, .f32⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvSRefIdeal.lean ====
abbrev S32x8x1024 : Shape := ⟨3, ![32, 8, 1024]⟩
abbrev S32x2x1024 : Shape := ⟨3, ![32, 2, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x3072 : Shape := ⟨3, ![32, 8, 3072]⟩
abbrev S32x10x1024 : Shape := ⟨3, ![32, 10, 1024]⟩
abbrev S1x1024 : Shape := ⟨2, ![1, 1024]⟩
abbrev S256x1024 : Shape := ⟨2, ![256, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x2x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S32x8x1024, .f32⟩
  | .hbm, ⟨7, _⟩ => ⟨S_, .f32⟩
  | .hbm, ⟨8, _⟩ => ⟨S32x8, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S32x8x1, .f32⟩
  | .hbm, ⟨17, _⟩ => ⟨S32x8x1024, .f32⟩
  | .hbm, ⟨18, _⟩ => ⟨S32x8x1024, .f32⟩
  | .hbm, ⟨19, _⟩ => ⟨S1x1x1024, .f32⟩
  | .hbm, ⟨20, _⟩ => ⟨S32x8x1024, .f32⟩
  | .hbm, ⟨21, _⟩ => ⟨S32x8x1024, .f32⟩
  | .hbm, ⟨22, _⟩ => ⟨S32x8x3072, .f32⟩
  | .hbm, ⟨23, _⟩ => ⟨S32x8x1024, .f32⟩
  | .hbm, ⟨24, _⟩ => ⟨S32x8x1024, .f32⟩
  | .hbm, ⟨25, _⟩ => ⟨S32x8x1024, .f32⟩
  | .hbm, ⟨26, _⟩ => ⟨S32x8x1024, .f32⟩
  | .hbm, ⟨27, _⟩ => ⟨S32x10x1024, .f32⟩
  | .hbm, ⟨28, _⟩ => ⟨S1x1024, .f32⟩
  | .hbm, ⟨29, _⟩ => ⟨S1024, .f32⟩
  | .hbm, ⟨30, _⟩ => ⟨S32x8x1024, .f32⟩
  | .hbm, ⟨31, _⟩ => ⟨S1x1x1024, .f32⟩
  | .hbm, ⟨32, _⟩ => ⟨S32x8x1024, .f32⟩
  | .hbm, ⟨33, _⟩ => ⟨S32x8x1024, .f32⟩
  | .hbm, ⟨34, _⟩ => ⟨S1x1024, .f32⟩
  | .hbm, ⟨35, _⟩ => ⟨S1024, .f32⟩
  | .hbm, ⟨36, _⟩ => ⟨S32x8x1024, .f32⟩
  | .hbm, ⟨37, _⟩ => ⟨S1x1x1024, .f32⟩
  | .hbm, ⟨38, _⟩ => ⟨S32x8x1024, .f32⟩
  | .hbm, ⟨39, _⟩ => ⟨S32x8x1024, .f32⟩
  | .hbm, ⟨40, _⟩ => ⟨S32x8x1024, .f32⟩
  | .hbm, ⟨41, _⟩ => ⟨S1x1024, .f32⟩
  | .hbm, ⟨42, _⟩ => ⟨S1024, .f32⟩
  | .hbm, ⟨43, _⟩ => ⟨S32x8x1024, .f32⟩
  | .hbm, ⟨44, _⟩ => ⟨S1x1x1024, .f32⟩
  | .hbm, ⟨45, _⟩ => ⟨S32x8x1024, .f32⟩
  | .hbm, ⟨46, _⟩ => ⟨S32x8x1024, .f32⟩
  | .hbm, ⟨47, _⟩ => ⟨S32x8x1024, .f32⟩
  | .hbm, ⟨48, _⟩ => ⟨S32x8x1024, .f32⟩
  | .hbm, ⟨49, _⟩ => ⟨S32x8x1024, .f32⟩
  | .hbm, ⟨50, _⟩ => ⟨S32x2x1024, .f32⟩
  | .hbm, ⟨51, _⟩ => ⟨S32x8x1024, .f32⟩
  | .hbm, ⟨52, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== MixS.lean ====
abbrev S32x8x1024 : Shape := ⟨3, ![32, 8, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S1x1024 : Shape := ⟨2, ![1, 1024]⟩
abbrev S256x2816 : Shape := ⟨2, ![256, 2816]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩

abbrev nBuf : Space → Nat
  | .hbm => 13
  | .vmem => 8
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S256x1024, .f32⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S256x1024, .f32⟩
  | .hbm, ⟨11, _⟩ => ⟨S1024x1024, .bf16⟩
  | .hbm, ⟨12, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S256x1024, .f32⟩
  | .local _ .vmem, ⟨7, _⟩ => ⟨S256x2816, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== MixSRefIdeal.lean ====
abbrev S32x8x1024 : Shape := ⟨3, ![32, 8, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x5632 : Shape := ⟨3, ![32, 8, 5632]⟩
abbrev S32x8x2816 : Shape := ⟨3, ![32, 8, 2816]⟩
abbrev S256x1024 : Shape := ⟨2, ![256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S32x8x1024, .f32⟩
  | .hbm, ⟨7, _⟩ => ⟨S32x8x1024, .f32⟩
  | .hbm, ⟨8, _⟩ => ⟨S32x8x1024, .f32⟩
  | .hbm, ⟨9, _⟩ => ⟨S_, .f32⟩
  | .hbm, ⟨10, _⟩ => ⟨S32x8, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S_, .f32⟩
  | .hbm, ⟨16, _⟩ => ⟨S32x8x1, .f32⟩
  | .hbm, ⟨17, _⟩ => ⟨S32x8x1, .f32⟩
  | .hbm, ⟨18, _⟩ => ⟨S32x8x1, .f32⟩
  | .hbm, ⟨19, _⟩ => ⟨S32x8x1024, .f32⟩
  | .hbm, ⟨20, _⟩ => ⟨S32x8x1024, .f32⟩
  | .hbm, ⟨21, _⟩ => ⟨S1x1x1024, .f32⟩
  | .hbm, ⟨22, _⟩ => ⟨S32x8x1024, .f32⟩
  | .hbm, ⟨23, _⟩ => ⟨S32x8x1024, .f32⟩
  | .hbm, ⟨24, _⟩ => ⟨S32x8x5632, .f32⟩
  | .hbm, ⟨25, _⟩ => ⟨S32x8x2816, .f32⟩
  | .hbm, ⟨26, _⟩ => ⟨S32x8x2816, .f32⟩
  | .hbm, ⟨27, _⟩ => ⟨S32x8x2816, .f32⟩
  | .hbm, ⟨28, _⟩ => ⟨S32x8x2816, .f32⟩
  | .hbm, ⟨29, _⟩ => ⟨S_, .f32⟩
  | .hbm, ⟨30, _⟩ => ⟨S32x8x2816, .f32⟩
  | .hbm, ⟨31, _⟩ => ⟨S32x8x2816, .f32⟩
  | .hbm, ⟨32, _⟩ => ⟨S_, .f32⟩
  | .hbm, ⟨33, _⟩ => ⟨S32x8x2816, .f32⟩
  | .hbm, ⟨34, _⟩ => ⟨S32x8x2816, .f32⟩
  | .hbm, ⟨35, _⟩ => ⟨S32x8x2816, .f32⟩
  | .hbm, ⟨36, _⟩ => ⟨S32x8x2816, .f32⟩
  | .hbm, ⟨37, _⟩ => ⟨S32x8x1024, .f32⟩
  | .hbm, ⟨38, _⟩ => ⟨S_, .f32⟩
  | .hbm, ⟨39, _⟩ => ⟨S32x8x1024, .f32⟩
  | .hbm, ⟨40, _⟩ => ⟨S32x8x1024, .f32⟩
  | .hbm, ⟨41, _⟩ => ⟨S32x8x1024, .f32⟩
  | .hbm, ⟨42, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== Kv.lean ====
abbrev S4x4096x1024 : Shape := ⟨3, ![4, 4096, 1024]⟩
abbrev S1024 : Shape := ⟨1, ![1024]⟩
abbrev S1024x1536 : Shape := ⟨2, ![1024, 1536]⟩
abbrev S3x64 : Shape := ⟨2, ![3, 64]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x64 : Shape := ⟨2, ![1, 64]⟩
abbrev S64 : Shape := ⟨1, ![64]⟩
abbrev S4x64 : Shape := ⟨2, ![4, 64]⟩
abbrev S256 : Shape := ⟨1, ![256]⟩
abbrev S1x256 : Shape := ⟨2, ![1, 256]⟩
abbrev S16384x1024 : Shape := ⟨2, ![16384, 1024]⟩
abbrev S1x1024 : Shape := ⟨2, ![1, 1024]⟩
abbrev S16384x512 : Shape := ⟨2, ![16384, 512]⟩
abbrev S4x16384x128 : Shape := ⟨3, ![4, 16384, 128]⟩
abbrev S4x128x16384 : Shape := ⟨3, ![4, 128, 16384]⟩
abbrev S512x1024 : Shape := ⟨2, ![512, 1024]⟩
abbrev S512x128 : Shape := ⟨2, ![512, 128]⟩
abbrev S512x512 : Shape := ⟨2, ![512, 512]⟩
abbrev S4x512x128 : Shape := ⟨3, ![4, 512, 128]⟩
abbrev S4x128x512 : Shape := ⟨3, ![4, 128, 512]⟩
abbrev S512 : Shape := ⟨1, ![512]⟩
abbrev S512x1 : Shape := ⟨2, ![512, 1]⟩
abbrev S512x1536 : Shape := ⟨2, ![512, 1536]⟩
abbrev S512x256 : Shape := ⟨2, ![512, 256]⟩
abbrev S512x64 : Shape := ⟨2, ![512, 64]⟩
abbrev S1x512x128 : Shape := ⟨3, ![1, 512, 128]⟩
abbrev S128x512 : Shape := ⟨2, ![128, 512]⟩
abbrev S1x128x512 : Shape := ⟨3, ![1, 128, 512]⟩
abbrev S4x4096x2x4x64 : Shape := ⟨5, ![4, 4096, 2, 4, 64]⟩
abbrev S4x512x2x4x64 : Shape := ⟨5, ![4, 512, 2, 4, 64]⟩

abbrev nBuf : Space → Nat
  | .hbm => 87
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x1536, .f32⟩
  | .hbm, ⟨3, _⟩ => ⟨S3x64, .f32⟩
  | .hbm, ⟨4, _⟩ => ⟨S4x4, .i32⟩
  | .hbm, ⟨5, _⟩ => ⟨S4x4, .i32⟩
  | .hbm, ⟨6, _⟩ => ⟨S_, .i32⟩
  | .hbm, ⟨7, _⟩ => ⟨S4x4, .i32⟩
  | .hbm, ⟨8, _⟩ => ⟨S4x4, .i32⟩
  | .hbm, ⟨9, _⟩ => ⟨S4x4, .i1⟩
  | .hbm, ⟨10, _⟩ => ⟨S4x4, .f32⟩
  | .hbm, ⟨11, _⟩ => ⟨S_, .f32⟩
  | .hbm, ⟨12, _⟩ => ⟨S64x64, .f32⟩
  | .hbm, ⟨13, _⟩ => ⟨S4x1x4x1, .f32⟩
  | .hbm, ⟨14, _⟩ => ⟨S1x64x1x64, .f32⟩
  | .hbm, ⟨15, _⟩ => ⟨S4x64x4x64, .f32⟩
  | .hbm, ⟨16, _⟩ => ⟨S4x64x4x64, .f32⟩
  | .hbm, ⟨17, _⟩ => ⟨S4x64x4x64, .f32⟩
  | .hbm, ⟨18, _⟩ => ⟨S256x256, .f32⟩
  | .hbm, ⟨19, _⟩ => ⟨S256x256, .bf16⟩
  | .hbm, ⟨20, _⟩ => ⟨S4096, .i32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S4096, .f32⟩
  | .hbm, ⟨30, _⟩ => ⟨S4096x1, .f32⟩
  | .hbm, ⟨31, _⟩ => ⟨S1x8, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S_, .f32⟩
  | .hbm, ⟨38, _⟩ => ⟨S4096x48, .f32⟩
  | .hbm, ⟨39, _⟩ => ⟨S4096x64, .f32⟩
  | .hbm, ⟨40, _⟩ => ⟨S4096x8, .f32⟩
  | .hbm, ⟨41, _⟩ => ⟨S_, .f32⟩
  | .hbm, ⟨42, _⟩ => ⟨S4096x56, .f32⟩
  | .hbm, ⟨43, _⟩ => ⟨S4096x64, .f32⟩
  | .hbm, ⟨44, _⟩ => ⟨S_, .f32⟩
  | .hbm, ⟨45, _⟩ => ⟨S4096x8, .f32⟩
  | .hbm, ⟨46, _⟩ => ⟨S_, .f32⟩
  | .hbm, ⟨47, _⟩ => ⟨S4096x48, .f32⟩
  | .hbm, ⟨48, _⟩ => ⟨S4096x64, .f32⟩
  | .hbm, ⟨49, _⟩ => ⟨S1x4096x1x64, .f32⟩
  | .hbm, ⟨50, _⟩ => ⟨S1x4096x2x64, .f32⟩
  | .hbm, ⟨51, _⟩ => ⟨S4096x128, .f32⟩
  | .hbm, ⟨52, _⟩ => ⟨S1x4096x1x64, .f32⟩
  | .hbm, ⟨53, _⟩ => ⟨S1x4096x2x64, .f32⟩
  | .hbm, ⟨54, _⟩ => ⟨S4096x128, .f32⟩
  | .hbm, ⟨55, _⟩ => ⟨S1x4096x1x64, .f32⟩
  | .hbm, ⟨56, _⟩ => ⟨S1x4096x2x64, .f32⟩
  | .hbm, ⟨57, _⟩ => ⟨S4096x128, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S4x64, .f32⟩
  | .hbm, ⟨62, _⟩ => ⟨S256, .f32⟩
  | .hbm, ⟨63, _⟩ => ⟨S1x256, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S4x64, .f32⟩
  | .hbm, ⟨68, _⟩ => ⟨S256, .f32⟩
  | .hbm, ⟨69, _⟩ => ⟨S1x256, .f32⟩
  | .hbm, ⟨70, _⟩ => ⟨S1x64, .f32⟩
  | .hbm, ⟨71, _⟩ => ⟨S64, .f32⟩
  | .hbm, ⟨72, _⟩ => ⟨S1x64, .f32⟩
  | .hbm, ⟨73, _⟩ => ⟨S4x64, .f32⟩
  | .hbm, ⟨74, _⟩ => ⟨S256, .f32⟩
  | .hbm, ⟨75, _⟩ => ⟨S1x256, .f32⟩
  | .hbm, ⟨76, _⟩ => ⟨S16384x1024, .f32⟩
  | .hbm, ⟨77, _⟩ => ⟨S1x1024, .f32⟩
  | .hbm, ⟨78, _⟩ => ⟨S1024x1536, .bf16⟩
  | .hbm, ⟨79, _⟩ => ⟨S16384x1024, .f32⟩
  | .hbm, ⟨80, _⟩ => ⟨S16384x512, .f32⟩
  | .hbm, ⟨81, _⟩ => ⟨S4x16384x128, .bf16⟩
  | .hbm, ⟨82, _⟩ => ⟨S4x16384x128, .bf16⟩
  | .hbm, ⟨83, _⟩ => ⟨S4x128x16384, .bf16⟩
  | .hbm, ⟨84, _⟩ => ⟨S4x16384x128, .bf16⟩
  | .hbm, ⟨85, _⟩ => ⟨S4x4096x2x4x64, .f32⟩
  | .hbm, ⟨86, _⟩ => ⟨S4x512x2x4x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S256x256, .bf16⟩
  | .local _ .vmem, ⟨5, _⟩ => ⟨S1x256, .f32⟩
  | .local _ .vmem, ⟨6, _⟩ => ⟨S1x256, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1024, .f32⟩
  | .local _ .vmem, ⟨14, _⟩ => ⟨S512x1024, .f32⟩
  | .local _ .vmem, ⟨15, _⟩ => ⟨S512x512, .f32⟩
  | .local _ .vmem, ⟨16, _⟩ => ⟨S512x512, .f32⟩
  | .local _ .vmem, ⟨17, _⟩ => ⟨S4x512x128, .bf16⟩
  | .local _ .vmem, ⟨18, _⟩ => ⟨S4x512x128, .bf16⟩
  | .local _ .vmem, ⟨19, _⟩ => ⟨S4x512x128, .bf16⟩
  | .local _ .vmem, ⟨20, _⟩ => ⟨S4x512x128, .bf16⟩
  | .local _ .vmem, ⟨21, _⟩ => ⟨S4x128x512, .bf16⟩
  | .local _ .vmem, ⟨22, _⟩ => ⟨S4x128x512, .bf16⟩
  | .local _ .vmem, ⟨23, _⟩ => ⟨S4x512x128, .bf16⟩
  | .local _ .vmem, ⟨24, _⟩ => ⟨S4x512x128, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62_0 : Ref sig .tc := ⟨.hbm, 79, rfl⟩
abbrev main_v62_1 : Ref sig .tc := ⟨.hbm, 80, rfl⟩
abbrev main_v62_2 : Ref sig .tc := ⟨.hbm, 81, rfl⟩
abbrev main_v62_3 : Ref sig .tc := ⟨.hbm, 82, rfl⟩
abbrev main_v62_4 : Ref sig .tc := ⟨.hbm, 83, rfl⟩
abbrev main_v62_5 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KvRefIdeal.lean ====
abbrev S4x4096x1024 : Shape := ⟨3, ![4, 4096, 1024]⟩
abbrev S1024 : Shape := ⟨1, ![1024]⟩
abbrev S1024x1536 : Shape := ⟨2, ![1024, 1536]⟩
abbrev S3x64 : Shape := ⟨2, ![3, 64]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x1536 : Shape := ⟨3, ![4, 4096, 1536]⟩
abbrev S4x4096x6x4x64 : Shape := ⟨5, ![4, 4096, 6, 4, 64]⟩
abbrev S4x4096x1x4x64 : Shape := ⟨5, ![4, 4096, 1, 4, 64]⟩
abbrev S4x4096x4x64 : Shape := ⟨4, ![4, 4096, 4, 64]⟩
abbrev S1x64 : Shape := ⟨2, ![1, 64]⟩
abbrev S64 : Shape := ⟨1, ![64]⟩
abbrev S4x4096x4 : Shape := ⟨3, ![4, 4096, 4]⟩
abbrev S4x4096x4x1 : Shape := ⟨4, ![4, 4096, 4, 1]⟩
abbrev S1x1x1x64 : Shape := ⟨4, ![1, 1, 1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x4x16 : Shape := ⟨4, ![4, 4096, 4, 16]⟩
abbrev S4x4096x4x8 : Shape := ⟨4, ![4, 4096, 4, 8]⟩
abbrev S1x4096x1x8 : Shape := ⟨4, ![1, 4096, 1, 8]⟩
abbrev S4x4096x4x48 : Shape := ⟨4, ![4, 4096, 4, 48]⟩
abbrev S4x4096x4x4x64 : Shape := ⟨5, ![4, 4096, 4, 4, 64]⟩
abbrev S4x4096x2x4x64 : Shape := ⟨5, ![4, 4096, 2, 4, 64]⟩
abbrev S16384x1024 : Shape := ⟨2, ![16384, 1024]⟩
abbrev S4x512x2x4x64 : Shape := ⟨5, ![4, 512, 2, 4, 64]⟩

abbrev nBuf : Space → Nat
  | .hbm => 157
  | .vmem => 0
  | .smem => 0
  | _ => 0

abbrev hbmTy0_0 (i : Nat) : BufTy := match i % 128 with
  | 0 => ⟨S4x4096x1024, .f32⟩
  | 1 => ⟨S1024, .f32⟩
  | 2 => ⟨S1024x1536, .f32⟩
  | 3 => ⟨S3x64, .f32⟩
  | 4 => ⟨S4096, .i32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S4x4096x1536, .f32⟩
  | 22 => ⟨S4x4096x6x4x64, .f32⟩
  | 23 => ⟨S4x4096x1x4x64, .f32⟩
  | 24 => ⟨S4x4096x4x64, .f32⟩
  | 25 => ⟨S1x64, .f32⟩
  | 26 => ⟨S64, .f32⟩
  | 27 => ⟨S4x4096x4x64, .f32⟩
  | 28 => ⟨S_, .f32⟩
  | 29 => ⟨S4x4096x4, .f32⟩
  | 30 => ⟨S4x4096x4x1, .f32⟩
  | 31 => ⟨S_, .f32⟩
  | 32 => ⟨S4x4096x4x1, .f32⟩
  | 33 => ⟨S4x4096x4x1, .f32⟩
  | 34 => ⟨S_, .f32⟩
  | 35 => ⟨S4x4096x4x1, .f32⟩
  | 36 => ⟨S4x4096x4x1, .f32⟩
  | 37 => ⟨S4x4096x4x1, .f32⟩
  | 38 => ⟨S4x4096x4x64, .f32⟩
  | 39 => ⟨S4x4096x4x64, .f32⟩
  | 40 => ⟨S1x1x1x64, .f32⟩
  | 41 => ⟨S4x4096x4x64, .f32⟩
  | 42 => ⟨S4x4096x4x64, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S4096, .f32⟩
  | 52 => ⟨S4096x1, .f32⟩
  | 53 => ⟨S1x8, .f32⟩
  | 54 => ⟨S4096x8, .f32⟩
  | 55 => ⟨S4096x8, .f32⟩
  | 56 => ⟨S4096x8, .f32⟩
  | 57 => ⟨S4096x8, .f32⟩
  | 58 => ⟨S4096x1x8, .f32⟩
  | 59 => ⟨S4096x8, .f32⟩
  | 60 => ⟨S4096x1x8, .f32⟩
  | 61 => ⟨S4x4096x4x16, .f32⟩
  | 62 => ⟨S4x4096x4x8, .f32⟩
  | 63 => ⟨S4x4096x4x8, .f32⟩
  | 64 => ⟨S1x4096x1x8, .f32⟩
  | 65 => ⟨S4x4096x4x8, .f32⟩
  | 66 => ⟨S4x4096x4x8, .f32⟩
  | 67 => ⟨S1x4096x1x8, .f32⟩
  | 68 => ⟨S4x4096x4x8, .f32⟩
  | 69 => ⟨S4x4096x4x8, .f32⟩
  | 70 => ⟨S4x4096x4x8, .f32⟩
  | 71 => ⟨S1x4096x1x8, .f32⟩
  | 72 => ⟨S4x4096x4x8, .f32⟩
  | 73 => ⟨S4x4096x4x8, .f32⟩
  | 74 => ⟨S1x4096x1x8, .f32⟩
  | 75 => ⟨S4x4096x4x8, .f32⟩
  | 76 => ⟨S4x4096x4x8, .f32⟩
  | 77 => ⟨S4x4096x4x8, .f32⟩
  | 78 => ⟨S4x4096x4x16, .f32⟩
  | 79 => ⟨S4x4096x4x48, .f32⟩
  | 80 => ⟨S4x4096x4x64, .f32⟩
  | 81 => ⟨S4x4096x1x4x64, .f32⟩
  | 82 => ⟨S4x4096x4x64, .f32⟩
  | 83 => ⟨S1x64, .f32⟩
  | 84 => ⟨S64, .f32⟩
  | 85 => ⟨S4x4096x4x64, .f32⟩
  | 86 => ⟨S_, .f32⟩
  | 87 => ⟨S4x4096x4, .f32⟩
  | 88 => ⟨S4x4096x4x1, .f32⟩
  | 89 => ⟨S_, .f32⟩
  | 90 => ⟨S4x4096x4x1, .f32⟩
  | 91 => ⟨S4x4096x4x1, .f32⟩
  | 92 => ⟨S_, .f32⟩
  | 93 => ⟨S4x4096x4x1, .f32⟩
  | 94 => ⟨S4x4096x4x1, .f32⟩
  | 95 => ⟨S4x4096x4x1, .f32⟩
  | 96 => ⟨S4x4096x4x64, .f32⟩
  | 97 => ⟨S4x4096x4x64, .f32⟩
  | 98 => ⟨S1x1x1x64, .f32⟩
  | 99 => ⟨S4x4096x4x64, .f32⟩
  | 100 => ⟨S4x4096x4x64, .f32⟩
  | 101 => ⟨S8, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S4096, .f32⟩
  | 110 => ⟨S4096x1, .f32⟩
  | 111 => ⟨S1x8, .f32⟩
  | 112 => ⟨S4096x8, .f32⟩
  | 113 => ⟨S4096x8, .f32⟩
  | 114 => ⟨S4096x8, .f32⟩
  | 115 => ⟨S4096x8, .f32⟩
  | 116 => ⟨S4096x1x8, .f32⟩
  | 117 => ⟨S4096x8, .f32⟩
  | 118 => ⟨S4096x1x8, .f32⟩
  | 119 => ⟨S4x4096x4x16, .f32⟩
  | 120 => ⟨S4x4096x4x8, .f32⟩
  | 121 => ⟨S4x4096x4x8, .f32⟩
  | 122 => ⟨S1x4096x1x8, .f32⟩
  | 123 => ⟨S4x4096x4x8, .f32⟩
  | 124 => ⟨S4x4096x4x8, .f32⟩
  | 125 => ⟨S1x4096x1x8, .f32⟩
  | 126 => ⟨S4x4096x4x8, .f32⟩
  | 127 => ⟨S4x4096x4x8, .f32⟩
  | _ => ⟨S4x4096x1024, .f32⟩

abbrev hbmTy0_1 (i : Nat) : BufTy := match i % 128 with
  | 0 => ⟨S4x4096x4x8, .f32⟩
  | 1 => ⟨S1x4096x1x8, .f32⟩
  | 2 => ⟨S4x4096x4x8, .f32⟩
  | 3 => ⟨S4x4096x4x8, .f32⟩
  | 4 => ⟨S1x4096x1x8, .f32⟩
  | 5 => ⟨S4x4096x4x8, .f32⟩
  | 6 => ⟨S4x4096x4x8, .f32⟩
  | 7 => ⟨S4x4096x4x8, .f32⟩
  | 8 => ⟨S4x4096x4x16, .f32⟩
  | 9 => ⟨S4x4096x4x48, .f32⟩
  | 10 => ⟨S4x4096x4x64, .f32⟩
  | 11 => ⟨S4x4096x1x4x64, .f32⟩
  | 12 => ⟨S4x4096x4x64, .f32⟩
  | 13 => ⟨S4x4096x1x4x64, .f32⟩
  | 14 => ⟨S4x4096x4x64, .f32⟩
  | 15 => ⟨S4x4096x1x4x64, .f32⟩
  | 16 => ⟨S4x4096x4x64, .f32⟩
  | 17 => ⟨S4x4096x1x4x64, .f32⟩
  | 18 => ⟨S4x4096x1x4x64, .f32⟩
  | 19 => ⟨S4x4096x1x4x64, .f32⟩
  | 20 => ⟨S4x4096x1x4x64, .f32⟩
  | 21 => ⟨S4x4096x4x4x64, .f32⟩
  | 22 => ⟨S4x4096x1x4x64, .f32⟩
  | 23 => ⟨S4x4096x4x64, .f32⟩
  | 24 => ⟨S4x4096x1x4x64, .f32⟩
  | 25 => ⟨S4x4096x1x4x64, .f32⟩
  | 26 => ⟨S4x4096x2x4x64, .f32⟩
  | 27 => ⟨S16384x1024, .f32⟩
  | 28 => ⟨S4x512x2x4x64, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_7 : Ref sig .tc := ⟨.hbm, 86, rfl⟩
abbrev main_v74 : Ref sig .tc := ⟨.hbm, 87, rfl⟩
abbrev main_v75 : Ref sig .tc := ⟨.hbm, 88, rfl⟩
abbrev main_cst_8 : Ref sig .tc := ⟨.hbm, 89, rfl⟩
abbrev main_v76 : Ref sig .tc := ⟨.hbm, 90, rfl⟩
abbrev main_v77 : Ref sig .tc := ⟨.hbm, 91, rfl⟩
abbrev main_cst_9 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_10 : Ref sig .tc := ⟨.hbm, 103, rfl⟩
abbrev main_v88 : Ref sig .tc := ⟨.hbm, 104, rfl⟩
abbrev main_v89 : Ref sig .tc := ⟨.hbm, 105, rfl⟩
abbrev main_cst_11 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩

abbrev nD : Nat := 1
abbrev τ : Topo := Topo.v7x

variable {F : FTy → Type} [FloatOps F]
-- ==== KvS.lean ====
abbrev S32x8x1024 : Shape := ⟨3, ![32, 8, 1024]⟩
abbrev S32x512x2x4x64 : Shape := ⟨5, ![32, 512, 2, 4, 64]⟩
abbrev S1024 : Shape := ⟨1, ![1024]⟩
abbrev S1024x1536 : Shape := ⟨2, ![1024, 1536]⟩
abbrev S3x64 : Shape := ⟨2, ![3, 64]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x48 : Shape := ⟨2, ![8, 48]⟩
abbrev S8x64 : Shape := ⟨2, ![8, 64]⟩
abbrev S8x56 : Shape := ⟨2, ![8, 56]⟩
abbrev S1x8x1x64 : Shape := ⟨4, ![1, 8, 1, 64]⟩
abbrev S1x8x2x64 : Shape := ⟨4, ![1, 8, 2, 64]⟩
abbrev S8x128 : Shape := ⟨2, ![8, 128]⟩
abbrev S1x8x1x128 : Shape := ⟨4, ![1, 8, 1, 128]⟩
abbrev S32x8x1x128 : Shape := ⟨4, ![32, 8, 1, 128]⟩
abbrev S256x128 : Shape := ⟨2, ![256, 128]⟩
abbrev S1x64 : Shape := ⟨2, ![1, 64]⟩
abbrev S64 : Shape := ⟨1, ![64]⟩
abbrev S4x64 : Shape := ⟨2, ![4, 64]⟩
abbrev S256 : Shape := ⟨1, ![256]⟩
abbrev S1x256 : Shape := ⟨2, ![1, 256]⟩
abbrev S256x1024 : Shape := ⟨2, ![256, 1024]⟩
abbrev S1x1024 : Shape := ⟨2, ![1, 1024]⟩
abbrev S256x512 : Shape := ⟨2, ![256, 512]⟩
abbrev S256x1 : Shape := ⟨2, ![256, 1]⟩
abbrev S256x1536 : Shape := ⟨2, ![256, 1536]⟩
abbrev S32x8x2x4x64 : Shape := ⟨5, ![32, 8, 2, 4, 64]⟩
abbrev S32x520x2x4x64 : Shape := ⟨5, ![32, 520, 2, 4, 64]⟩

abbrev nBuf : Space → Nat
  | .hbm => 97
  | .vmem => 11
  | .smem => 0
  | _ => 0

abbrev bufTy : (tb : Table) → Fin (tcTables nBuf tb) → BufTy
  | .hbm, ⟨0, _⟩ => ⟨S32x8x1024, .f32⟩
  | .hbm, ⟨1, _⟩ => ⟨S32x512x2x4x64, .f32⟩
  | .hbm, ⟨2, _⟩ => ⟨S1024, .f32⟩
  | .hbm, ⟨3, _⟩ => ⟨S1024x1536, .f32⟩
  | .hbm, ⟨4, _⟩ => ⟨S3x64, .f32⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .f32⟩
  | .hbm, ⟨12, _⟩ => ⟨S_, .f32⟩
  | .hbm, ⟨13, _⟩ => ⟨S64x64, .f32⟩
  | .hbm, ⟨14, _⟩ => ⟨S4x1x4x1, .f32⟩
  | .hbm, ⟨15, _⟩ => ⟨S1x64x1x64, .f32⟩
  | .hbm, ⟨16, _⟩ => ⟨S4x64x4x64, .f32⟩
  | .hbm, ⟨17, _⟩ => ⟨S4x64x4x64, .f32⟩
  | .hbm, ⟨18, _⟩ => ⟨S4x64x4x64, .f32⟩
  | .hbm, ⟨19, _⟩ => ⟨S256x256, .f32⟩
  | .hbm, ⟨20, _⟩ => ⟨S256x256, .bf16⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S8x1, .f32⟩
  | .hbm, ⟨35, _⟩ => ⟨S1x8, .f32⟩
  | .hbm, ⟨36, _⟩ => ⟨S8x8, .f32⟩
  | .hbm, ⟨37, _⟩ => ⟨S8x8, .f32⟩
  | .hbm, ⟨38, _⟩ => ⟨S8x8, .f32⟩
  | .hbm, ⟨39, _⟩ => ⟨S8x8, .f32⟩
  | .hbm, ⟨40, _⟩ => ⟨S8x8, .f32⟩
  | .hbm, ⟨41, _⟩ => ⟨S_, .f32⟩
  | .hbm, ⟨42, _⟩ => ⟨S8x48, .f32⟩
  | .hbm, ⟨43, _⟩ => ⟨S8x64, .f32⟩
  | .hbm, ⟨44, _⟩ => ⟨S8x8, .f32⟩
  | .hbm, ⟨45, _⟩ => ⟨S_, .f32⟩
  | .hbm, ⟨46, _⟩ => ⟨S8x56, .f32⟩
  | .hbm, ⟨47, _⟩ => ⟨S8x64, .f32⟩
  | .hbm, ⟨48, _⟩ => ⟨S_, .f32⟩
  | .hbm, ⟨49, _⟩ => ⟨S8x8, .f32⟩
  | .hbm, ⟨50, _⟩ => ⟨S_, .f32⟩
  | .hbm, ⟨51, _⟩ => ⟨S8x48, .f32⟩
  | .hbm, ⟨52, _⟩ => ⟨S8x64, .f32⟩
  | .hbm, ⟨53, _⟩ => ⟨S1x8x1x64, .f32⟩
  | .hbm, ⟨54, _⟩ => ⟨S1x8x2x64, .f32⟩
  | .hbm, ⟨55, _⟩ => ⟨S8x128, .f32⟩
  | .hbm, ⟨56, _⟩ => ⟨S1x8x1x64, .f32⟩
  | .hbm, ⟨57, _⟩ => ⟨S1x8x2x64, .f32⟩
  | .hbm, ⟨58, _⟩ => ⟨S8x128, .f32⟩
  | .hbm, ⟨59, _⟩ => ⟨S1x8x1x64, .f32⟩
  | .hbm, ⟨60, _⟩ => ⟨S1x8x2x64, .f32⟩
  | .hbm, ⟨61, _⟩ => ⟨S8x128, .f32⟩
  | .hbm, ⟨62, _⟩ => ⟨S1x8x1x128, .f32⟩
  | .hbm, ⟨63, _⟩ => ⟨S32x8x1x128, .f32⟩
  | .hbm, ⟨64, _⟩ => ⟨S256x128, .f32⟩
  | .hbm, ⟨65, _⟩ => ⟨S1x8x1x128, .f32⟩
  | .hbm, ⟨66, _⟩ => ⟨S32x8x1x128, .f32⟩
  | .hbm, ⟨67, _⟩ => ⟨S256x128, .f32⟩
  | .hbm, ⟨68, _⟩ => ⟨S1x8x1x128, .f32⟩
  | .hbm, ⟨69, _⟩ => ⟨S32x8x1x128, .f32⟩
  | .hbm, ⟨70, _⟩ => ⟨S256x128, .f32⟩
  | .hbm, ⟨71, _⟩ => ⟨S1x64, .f32⟩
  | .hbm, ⟨72, _⟩ => ⟨S64, .f32⟩
  | .hbm, ⟨73, _⟩ => ⟨S1x64, .f32⟩
  | .hbm, ⟨74, _⟩ => ⟨S4x64, .f32⟩
  | .hbm, ⟨75, _⟩ => ⟨S256, .f32⟩
  | .hbm, ⟨76, _⟩ => ⟨S1x256, .f32⟩
  | .hbm, ⟨77, _⟩ => ⟨S1x64, .f32⟩
  | .hbm, ⟨78, _⟩ => ⟨S64, .f32⟩
  | .hbm, ⟨79, _⟩ => ⟨S1x64, .f32⟩
  | .hbm, ⟨80, _⟩ => ⟨S4x64, .f32⟩
  | .hbm, ⟨81, _⟩ => ⟨S256, .f32⟩
  | .hbm, ⟨82, _⟩ => ⟨S1x256, .f32⟩
  | .hbm, ⟨83, _⟩ => ⟨S1x64, .f32⟩
  | .hbm, ⟨84, _⟩ => ⟨S64, .f32⟩
  | .hbm, ⟨85, _⟩ => ⟨S1x64, .f32⟩
  | .hbm, ⟨86, _⟩ => ⟨S4x64, .f32⟩
  | .hbm, ⟨87, _⟩ => ⟨S256, .f32⟩
  | .hbm, ⟨88, _⟩ => ⟨S1x256, .f32⟩
  | .hbm, ⟨89, _⟩ => ⟨S256x1024, .f32⟩
  | .hbm, ⟨90, _⟩ => ⟨S1x1024, .f32⟩
  | .hbm, ⟨91, _⟩ => ⟨S1024x1536, .bf16⟩
  | .hbm, ⟨92, _⟩ => ⟨S256x1024, .f32⟩
  | .hbm, ⟨93, _⟩ => ⟨S256x512, .f32⟩
  | .hbm, ⟨94, _⟩ => ⟨S32x8x2x4x64, .f32⟩
  | .hbm, ⟨95, _⟩ => ⟨S32x520x2x4x64, .f32⟩
  | .hbm, ⟨96, _⟩ => ⟨S32x512x2x4x64, .f32⟩
  | .local _ .vmem, ⟨0, _⟩ => ⟨S256x1024, .f32⟩
  | .local _ .vmem, ⟨1, _⟩ => ⟨S1x1024, .f32⟩
  | .local _ .vmem, ⟨2, _⟩ => ⟨S1024x1536, .bf16⟩
  | .local _ .vmem, ⟨3, _⟩ => ⟨S256x256, .bf16⟩
  | .local _ .vmem, ⟨4, _⟩ => ⟨S1x256, .f32⟩
  | .local _ .vmem, ⟨5, _⟩ => ⟨S1x256, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x1024, .f32⟩
  | .local _ .vmem, ⟨10, _⟩ => ⟨S256x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73_0 : Ref sig .tc := ⟨.hbm, 92, rfl⟩
abbrev main_v73_1 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== KvSRefIdeal.lean ====
abbrev S32x8x1024 : Shape := ⟨3, ![32, 8, 1024]⟩
abbrev S32x512x2x4x64 : Shape := ⟨5, ![32, 512, 2, 4, 64]⟩
abbrev S1024 : Shape := ⟨1, ![1024]⟩
abbrev S1024x1536 : Shape := ⟨2, ![1024, 1536]⟩
abbrev S3x64 : Shape := ⟨2, ![3, 64]⟩
abbrev S8 : Shape := ⟨1, ![8]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x1536 : Shape := ⟨3, ![32, 8, 1536]⟩
abbrev S32x8x6x4x64 : Shape := ⟨5, ![32, 8, 6, 4, 64]⟩
abbrev S32x8x1x4x64 : Shape := ⟨5, ![32, 8, 1, 4, 64]⟩
abbrev S32x8x4x64 : Shape := ⟨4, ![32, 8, 4, 64]⟩
abbrev S1x64 : Shape := ⟨2, ![1, 64]⟩
abbrev S64 : Shape := ⟨1, ![64]⟩
abbrev S32x8x4 : Shape := ⟨3, ![32, 8, 4]⟩
abbrev S32x8x4x1 : Shape := ⟨4, ![32, 8, 4, 1]⟩
abbrev S1x1x1x64 : Shape := ⟨4, ![1, 1, 1, 64]⟩
abbrev S8x1 : Shape := ⟨2, ![8, 1]⟩
abbrev S1x8 : Shape := ⟨2, ![1, 8]⟩
abbrev S8x8 : Shape := ⟨2, ![8, 8]⟩
abbrev S8x1x8 : Shape := ⟨3, ![8, 1, 8]⟩
abbrev S32x8x4x16 : Shape := ⟨4, ![32, 8, 4, 16]⟩
abbrev S32x8x4x8 : Shape := ⟨4, ![32, 8, 4, 8]⟩
abbrev S1x8x1x8 : Shape := ⟨4, ![1, 8, 1, 8]⟩
abbrev S32x8x4x48 : Shape := ⟨4, ![32, 8, 4, 48]⟩
abbrev S32x8x4x4x64 : Shape := ⟨5, ![32, 8, 4, 4, 64]⟩
abbrev S32x8x2x4x64 : Shape := ⟨5, ![32, 8, 2, 4, 64]⟩
abbrev S32x520x2x4x64 : Shape := ⟨5, ![32, 520, 2, 4, 64]⟩
abbrev S256x1024 : Shape := ⟨2, ![256, 1024]⟩

abbrev nBuf : Space → Nat
  | .hbm => 162
  | .vmem => 0
  | .smem => 0
  | _ => 0

abbrev hbmTy0_0 (i : Nat) : BufTy := match i % 128 with
  | 0 => ⟨S32x8x1024, .f32⟩
  | 1 => ⟨S32x512x2x4x64, .f32⟩
  | 2 => ⟨S1024, .f32⟩
  | 3 => ⟨S1024x1536, .f32⟩
  | 4 => ⟨S3x64, .f32⟩
  | 5 => ⟨S8, .i32⟩
  | 6 => ⟨S_, .i32⟩
  | 7 => ⟨S8, .i32⟩
  | 8 => ⟨S8, .i32⟩
  | 9 => ⟨S32x8x1024, .f32⟩
  | 10 => ⟨S_, .f32⟩
  | 11 => ⟨S32x8, .f32⟩
  | 12 => ⟨S32x8x1, .f32⟩
  | 13 => ⟨S_, .f32⟩
  | 14 => ⟨S32x8x1, .f32⟩
  | 15 => ⟨S32x8x1, .f32⟩
  | 16 => ⟨S_, .f32⟩
  | 17 => ⟨S32x8x1, .f32⟩
  | 18 => ⟨S32x8x1, .f32⟩
  | 19 => ⟨S32x8x1, .f32⟩
  | 20 => ⟨S32x8x1024, .f32⟩
  | 21 => ⟨S32x8x1024, .f32⟩
  | 22 => ⟨S1x1x1024, .f32⟩
  | 23 => ⟨S32x8x1024, .f32⟩
  | 24 => ⟨S32x8x1024, .f32⟩
  | 25 => ⟨S32x8x1536, .f32⟩
  | 26 => ⟨S32x8x6x4x64, .f32⟩
  | 27 => ⟨S32x8x1x4x64, .f32⟩
  | 28 => ⟨S32x8x4x64, .f32⟩
  | 29 => ⟨S1x64, .f32⟩
  | 30 => ⟨S64, .f32⟩
  | 31 => ⟨S32x8x4x64, .f32⟩
  | 32 => ⟨S_, .f32⟩
  | 33 => ⟨S32x8x4, .f32⟩
  | 34 => ⟨S32x8x4x1, .f32⟩
  | 35 => ⟨S_, .f32⟩
  | 36 => ⟨S32x8x4x1, .f32⟩
  | 37 => ⟨S32x8x4x1, .f32⟩
  | 38 => ⟨S_, .f32⟩
  | 39 => ⟨S32x8x4x1, .f32⟩
  | 40 => ⟨S32x8x4x1, .f32⟩
  | 41 => ⟨S32x8x4x1, .f32⟩
  | 42 => ⟨S32x8x4x64, .f32⟩
  | 43 => ⟨S32x8x4x64, .f32⟩
  | 44 => ⟨S1x1x1x64, .f32⟩
  | 45 => ⟨S32x8x4x64, .f32⟩
  | 46 => ⟨S32x8x4x64, .f32⟩
  | 47 => ⟨S8, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S8, .f32⟩
  | 56 => ⟨S8x1, .f32⟩
  | 57 => ⟨S1x8, .f32⟩
  | 58 => ⟨S8x8, .f32⟩
  | 59 => ⟨S8x8, .f32⟩
  | 60 => ⟨S8x8, .f32⟩
  | 61 => ⟨S8x8, .f32⟩
  | 62 => ⟨S8x1x8, .f32⟩
  | 63 => ⟨S8x8, .f32⟩
  | 64 => ⟨S8x1x8, .f32⟩
  | 65 => ⟨S32x8x4x16, .f32⟩
  | 66 => ⟨S32x8x4x8, .f32⟩
  | 67 => ⟨S32x8x4x8, .f32⟩
  | 68 => ⟨S1x8x1x8, .f32⟩
  | 69 => ⟨S32x8x4x8, .f32⟩
  | 70 => ⟨S32x8x4x8, .f32⟩
  | 71 => ⟨S1x8x1x8, .f32⟩
  | 72 => ⟨S32x8x4x8, .f32⟩
  | 73 => ⟨S32x8x4x8, .f32⟩
  | 74 => ⟨S32x8x4x8, .f32⟩
  | 75 => ⟨S1x8x1x8, .f32⟩
  | 76 => ⟨S32x8x4x8, .f32⟩
  | 77 => ⟨S32x8x4x8, .f32⟩
  | 78 => ⟨S1x8x1x8, .f32⟩
  | 79 => ⟨S32x8x4x8, .f32⟩
  | 80 => ⟨S32x8x4x8, .f32⟩
  | 81 => ⟨S32x8x4x8, .f32⟩
  | 82 => ⟨S32x8x4x16, .f32⟩
  | 83 => ⟨S32x8x4x48, .f32⟩
  | 84 => ⟨S32x8x4x64, .f32⟩
  | 85 => ⟨S32x8x1x4x64, .f32⟩
  | 86 => ⟨S32x8x4x64, .f32⟩
  | 87 => ⟨S1x64, .f32⟩
  | 88 => ⟨S64, .f32⟩
  | 89 => ⟨S32x8x4x64, .f32⟩
  | 90 => ⟨S_, .f32⟩
  | 91 => ⟨S32x8x4, .f32⟩
  | 92 => ⟨S32x8x4x1, .f32⟩
  | 93 => ⟨S_, .f32⟩
  | 94 => ⟨S32x8x4x1, .f32⟩
  | 95 => ⟨S32x8x4x1, .f32⟩
  | 96 => ⟨S_, .f32⟩
  | 97 => ⟨S32x8x4x1, .f32⟩
  | 98 => ⟨S32x8x4x1, .f32⟩
  | 99 => ⟨S32x8x4x1, .f32⟩
  | 100 => ⟨S32x8x4x64, .f32⟩
  | 101 => ⟨S32x8x4x64, .f32⟩
  | 102 => ⟨S1x1x1x64, .f32⟩
  | 103 => ⟨S32x8x4x64, .f32⟩
  | 104 => ⟨S32x8x4x64, .f32⟩
  | 105 => ⟨S8, .f32⟩
  | 106 => ⟨S8, .f32⟩
  | 107 => ⟨S_, .f32⟩
  | 108 => ⟨S8, .f32⟩
  | 109 => ⟨S8, .f32⟩
  | 110 => ⟨S_, .f32⟩
  | 111 => ⟨S8, .f32⟩
  | 112 => ⟨S8, .f32⟩
  | 113 => ⟨S8, .f32⟩
  | 114 => ⟨S8x1, .f32⟩
  | 115 => ⟨S1x8, .f32⟩
  | 116 => ⟨S8x8, .f32⟩
  | 117 => ⟨S8x8, .f32⟩
  | 118 => ⟨S8x8, .f32⟩
  | 119 => ⟨S8x8, .f32⟩
  | 120 => ⟨S8x1x8, .f32⟩
  | 121 => ⟨S8x8, .f32⟩
  | 122 => ⟨S8x1x8, .f32⟩
  | 123 => ⟨S32x8x4x16, .f32⟩
  | 124 => ⟨S32x8x4x8, .f32⟩
  | 125 => ⟨S32x8x4x8, .f32⟩
  | 126 => ⟨S1x8x1x8, .f32⟩
  | 127 => ⟨S32x8x4x8, .f32⟩
  | _ => ⟨S32x8x1024, .f32⟩

abbrev hbmTy0_1 (i : Nat) : BufTy := match i % 128 with
  | 0 => ⟨S32x8x4x8, .f32⟩
  | 1 => ⟨S1x8x1x8, .f32⟩
  | 2 => ⟨S32x8x4x8, .f32⟩
  | 3 => ⟨S32x8x4x8, .f32⟩
  | 4 => ⟨S32x8x4x8, .f32⟩
  | 5 => ⟨S1x8x1x8, .f32⟩
  | 6 => ⟨S32x8x4x8, .f32⟩
  | 7 => ⟨S32x8x4x8, .f32⟩
  | 8 => ⟨S1x8x1x8, .f32⟩
  | 9 => ⟨S32x8x4x8, .f32⟩
  | 10 => ⟨S32x8x4x8, .f32⟩
  | 11 => ⟨S32x8x4x8, .f32⟩
  | 12 => ⟨S32x8x4x16, .f32⟩
  | 13 => ⟨S32x8x4x48, .f32⟩
  | 14 => ⟨S32x8x4x64, .f32⟩
  | 15 => ⟨S32x8x1x4x64, .f32⟩
  | 16 => ⟨S32x8x4x64, .f32⟩
  | 17 => ⟨S32x8x1x4x64, .f32⟩
  | 18 => ⟨S32x8x4x64, .f32⟩
  | 19 => ⟨S32x8x1x4x64, .f32⟩
  | 20 => ⟨S32x8x4x64, .f32⟩
  | 21 => ⟨S32x8x1x4x64, .f32⟩
  | 22 => ⟨S32x8x1x4x64, .f32⟩
  | 23 => ⟨S32x8x1x4x64, .f32⟩
  | 24 => ⟨S32x8x1x4x64, .f32⟩
  | 25 => ⟨S32x8x4x4x64, .f32⟩
  | 26 => ⟨S32x8x1x4x64, .f32⟩
  | 27 => ⟨S32x8x4x64, .f32⟩
  | 28 => ⟨S32x8x1x4x64, .f32⟩
  | 29 => ⟨S32x8x1x4x64, .f32⟩
  | 30 => ⟨S32x8x2x4x64, .f32⟩
  | 31 => ⟨S32x520x2x4x64, .f32⟩
  | 32 => ⟨S256x1024, .f32⟩
  | 33 => ⟨S32x512x2x4x64, .f32⟩
  | _ => ⟨S32x8x1024, .f32⟩

abbrev hbmTy (i : Nat) : BufTy := match i / 128 with
  | 0 => hbmTy0_0 i
  | 1 => hbmTy0_1 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_7 : Ref sig .tc := ⟨.hbm, 90, rfl⟩
abbrev main_v76 : Ref sig .tc := ⟨.hbm, 91, rfl⟩
abbrev main_v77 : Ref sig .tc := ⟨.hbm, 92, rfl⟩
abbrev main_cst_8 : Ref sig .tc := ⟨.hbm, 93, rfl⟩
abbrev main_v78 : Ref sig .tc := ⟨.hbm, 94, rfl⟩
abbrev main_v79 : Ref sig .tc := ⟨.hbm, 95, rfl⟩
abbrev main_cst_9 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_10 : Ref sig .tc := ⟨.hbm, 107, rfl⟩
abbrev main_v90 : Ref sig .tc := ⟨.hbm, 108, rfl⟩
abbrev main_v91 : Ref sig .tc := ⟨.hbm, 109, rfl⟩
abbrev main_cst_11 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩

abbrev nD : Nat := 1
abbrev τ : Topo := Topo.v7x

variable {F : FTy → Type} [FloatOps F]
-- ==== Comp.lean ====
abbrev S2560x128x4x4x64 : Shape := ⟨5, ![2560, 128, 4, 4, 64]⟩
abbrev S32x64 : Shape := ⟨2, ![32, 64]⟩
abbrev S3x64 : Shape := ⟨2, ![3, 64]⟩
abbrev S2x32x64 : Shape := ⟨3, ![2, 32, 64]⟩
abbrev S2x32x64x256 : Shape := ⟨4, ![2, 32, 64, 256]⟩
abbrev S2x256x64 : Shape := ⟨3, ![2, 256, 64]⟩
abbrev S1x2x1x32x1x64 : Shape := ⟨6, ![1, 2, 1, 32, 1, 64]⟩
abbrev S1x2x1x32x2x64 : Shape := ⟨6, ![1, 2, 1, 32, 2, 64]⟩
abbrev S2x32x128 : Shape := ⟨3, ![2, 32, 128]⟩
abbrev S2x2048x256 : Shape := ⟨3, ![2, 2048, 256]⟩
abbrev S1x64 : Shape := ⟨2, ![1, 64]⟩
abbrev S64 : Shape := ⟨1, ![64]⟩
abbrev S2560x4x4x64x128 : Shape := ⟨5, ![2560, 4, 4, 64, 128]⟩
abbrev S2560x1024x128 : Shape := ⟨3, ![2560, 1024, 128]⟩
abbrev S2048 : Shape := ⟨1, ![2048]⟩
abbrev S4x8192x64 : Shape := ⟨3, ![4, 8192, 64]⟩
abbrev S1x512x128 : Shape := ⟨3, ![1, 512, 128]⟩
abbrev S1 : Shape := ⟨1, ![1]⟩
abbrev S4x32x64 : Shape := ⟨3, ![4, 32, 64]⟩
abbrev S4x1024x128 : Shape := ⟨3, ![4, 1024, 128]⟩
abbrev S1x128x128 : Shape := ⟨3, ![1, 128, 128]⟩
abbrev S128x128 : Shape := ⟨2, ![128, 128]⟩
abbrev S32x128 : Shape := ⟨2, ![32, 128]⟩
abbrev S1x32x128 : Shape := ⟨3, ![1, 32, 128]⟩
abbrev S1x1x128 : Shape := ⟨3, ![1, 1, 128]⟩
abbrev S1x128 : Shape := ⟨2, ![1, 128]⟩
abbrev S32x2048 : Shape := ⟨2, ![32, 2048]⟩
abbrev S128x2048 : Shape := ⟨2, ![128, 2048]⟩
abbrev S1x2048x256 : Shape := ⟨3, ![1, 2048, 256]⟩
abbrev S2048x256 : Shape := ⟨2, ![2048, 256]⟩
abbrev S128x256 : Shape := ⟨2, ![128, 256]⟩
abbrev S1x256x64 : Shape := ⟨3, ![1, 256, 64]⟩
abbrev S256x64 : Shape := ⟨2, ![256, 64]⟩
abbrev S128x64 : Shape := ⟨2, ![128, 64]⟩
abbrev S128 : Shape := ⟨1, ![128]⟩
abbrev S128x1 : Shape := ⟨2, ![128, 1]⟩
abbrev S1x32x64 : Shape := ⟨3, ![1, 32, 64]⟩

abbrev nBuf : Space → Nat
  | .hbm => 19
  | .vmem => 25
  | .smem => 1
  | _ => 0

abbrev bufTy : (tb : Table) → Fin (tcTables nBuf tb) → BufTy
  | .hbm, ⟨0, _⟩ => ⟨S2560x128x4x4x64, .f32⟩
  | .hbm, ⟨1, _⟩ => ⟨S32x64, .i32⟩
  | .hbm, ⟨2, _⟩ => ⟨S3x64, .f32⟩
  | .hbm, ⟨3, _⟩ => ⟨S2x32x64, .f32⟩
  | .hbm, ⟨4, _⟩ => ⟨S2x32x64x256, .f32⟩
  | .hbm, ⟨5, _⟩ => ⟨S2x256x64, .f32⟩
  | .hbm, ⟨6, _⟩ => ⟨S1x2x1x32x1x64, .f32⟩
  | .hbm, ⟨7, _⟩ => ⟨S1x2x1x32x2x64, .f32⟩
  | .hbm, ⟨8, _⟩ => ⟨S2x32x128, .f32⟩
  | .hbm, ⟨9, _⟩ => ⟨S2x2048x256, .f32⟩
  | .hbm, ⟨10, _⟩ => ⟨S2x2048x256, .bf16⟩
  | .hbm, ⟨11, _⟩ => ⟨S2x256x64, .bf16⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S2560x4x4x64x128, .f32⟩
  | .hbm, ⟨16, _⟩ => ⟨S2560x1024x128, .f32⟩
  | .hbm, ⟨17, _⟩ => ⟨S4x8192x64, .f32⟩
  | .hbm, ⟨18, _⟩ => ⟨S4x8192x64, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S2x32x128, .f32⟩
  | .local _ .vmem, ⟨17, _⟩ => ⟨S2x2048x256, .bf16⟩
  | .local _ .vmem, ⟨18, _⟩ => ⟨S2x256x64, .bf16⟩
  | .local _ .vmem, ⟨19, _⟩ => ⟨S1x64, .f32⟩
  | .local _ .vmem, ⟨20, _⟩ => ⟨S4x32x64, .f32⟩
  | .local _ .vmem, ⟨21, _⟩ => ⟨S4x32x64, .f32⟩
  | .local _ .vmem, ⟨22, _⟩ => ⟨S4x32x64, .f32⟩
  | .local _ .vmem, ⟨23, _⟩ => ⟨S4x32x64, .f32⟩
  | .local _ .vmem, ⟨24, _⟩ => ⟨S4x1024x128, .f32⟩
  | .local _ .smem, ⟨0, _⟩ => ⟨S2048, .i32⟩
  | _, _ => ⟨S2560x128x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v12_0 : Ref sig .tc := ⟨.hbm, 17, rfl⟩
abbrev main_v12_1 : Ref sig .tc := ⟨.hbm, 18, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def cc0_transform_0 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S2048) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S2048) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S2048) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S2048) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S2048) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S2048) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S2048) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S2048) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x256x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x32x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x32x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== CompRefIdeal.lean ====
abbrev S2560x128x4x4x64 : Shape := ⟨5, ![2560, 128, 4, 4, 64]⟩
abbrev S32x64 : Shape := ⟨2, ![32, 64]⟩
abbrev S3x64 : Shape := ⟨2, ![3, 64]⟩
abbrev S2x32x64 : Shape := ⟨3, ![2, 32, 64]⟩
abbrev S2x32x64x256 : Shape := ⟨4, ![2, 32, 64, 256]⟩
abbrev S2x256x64 : Shape := ⟨3, ![2, 256, 64]⟩
abbrev S_ : Shape := ⟨0, ![]⟩
abbrev S32x64x1 : Shape := ⟨3, ![32, 64, 1]⟩
abbrev S32x64x128x4x4x64 : Shape := ⟨6, ![32, 64, 128, 4, 4, 64]⟩
abbrev S32x8192x4x4x64 : Shape := ⟨5, ![32, 8192, 4, 4, 64]⟩
abbrev S1x64 : Shape := ⟨2, ![1, 64]⟩
abbrev S64 : Shape := ⟨1, ![64]⟩
abbrev S32x8192x2x4x64 : Shape := ⟨5, ![32, 8192, 2, 4, 64]⟩
abbrev S32x256x32x2x4x64 : Shape := ⟨6, ![32, 256, 32, 2, 4, 64]⟩
abbrev S32x2x64 : Shape := ⟨3, ![32, 2, 64]⟩
abbrev S32x2x1x64 : Shape := ⟨4, ![32, 2, 1, 64]⟩
abbrev S1x1x32x2x1x64 : Shape := ⟨6, ![1, 1, 32, 2, 1, 64]⟩
abbrev S2x256x32x256x4 : Shape := ⟨5, ![2, 256, 32, 256, 4]⟩
abbrev S32x256x2x4x256 : Shape := ⟨5, ![32, 256, 2, 4, 256]⟩
abbrev S2x64x32x256x4 : Shape := ⟨5, ![2, 64, 32, 256, 4]⟩
abbrev S32x256x2x4x64 : Shape := ⟨5, ![32, 256, 2, 4, 64]⟩
abbrev S32x256x1x4x64 : Shape := ⟨5, ![32, 256, 1, 4, 64]⟩
abbrev S32x256x4x64 : Shape := ⟨4, ![32, 256, 4, 64]⟩
abbrev S32x256x4 : Shape := ⟨3, ![32, 256, 4]⟩
abbrev S32x256x4x1 : Shape := ⟨4, ![32, 256, 4, 1]⟩
abbrev S1x1x1x64 : Shape := ⟨4, ![1, 1, 1, 64]⟩
abbrev S4x32x256x64 : Shape := ⟨4, ![4, 32, 256, 64]⟩
abbrev S4x8192x64 : Shape := ⟨3, ![4, 8192, 64]⟩

abbrev nBuf : Space → Nat
  | .hbm => 70
  | .vmem => 0
  | .smem => 0
  | _ => 0

abbrev bufTy : (tb : Table) → Fin (tcTables nBuf tb) → BufTy
  | .hbm, ⟨0, _⟩ => ⟨S2560x128x4x4x64, .f32⟩
  | .hbm, ⟨1, _⟩ => ⟨S32x64, .i32⟩
  | .hbm, ⟨2, _⟩ => ⟨S3x64, .f32⟩
  | .hbm, ⟨3, _⟩ => ⟨S2x32x64, .f32⟩
  | .hbm, ⟨4, _⟩ => ⟨S2x32x64x256, .f32⟩
  | .hbm, ⟨5, _⟩ => ⟨S2x256x64, .f32⟩
  | .hbm, ⟨6, _⟩ => ⟨S_, .i32⟩
  | .hbm, ⟨7, _⟩ => ⟨S32x64, .i32⟩
  | .hbm, ⟨8, _⟩ => ⟨S32x64, .i1⟩
  | .hbm, ⟨9, _⟩ => ⟨S_, .i32⟩
  | .hbm, ⟨10, _⟩ => ⟨S32x64, .i32⟩
  | .hbm, ⟨11, _⟩ => ⟨S32x64, .i32⟩
  | .hbm, ⟨12, _⟩ => ⟨S32x64, .i32⟩
  | .hbm, ⟨13, _⟩ => ⟨S32x64x1, .i32⟩
  | .hbm, ⟨14, _⟩ => ⟨S32x64x128x4x4x64, .f32⟩
  | .hbm, ⟨15, _⟩ => ⟨S32x8192x4x4x64, .f32⟩
  | .hbm, ⟨16, _⟩ => ⟨S1x64, .f32⟩
  | .hbm, ⟨17, _⟩ => ⟨S64, .f32⟩
  | .hbm, ⟨18, _⟩ => ⟨S32x8192x2x4x64, .f32⟩
  | .hbm, ⟨19, _⟩ => ⟨S32x256x32x2x4x64, .f32⟩
  | .hbm, ⟨20, _⟩ => ⟨S32x2x64, .f32⟩
  | .hbm, ⟨21, _⟩ => ⟨S32x2x1x64, .f32⟩
  | .hbm, ⟨22, _⟩ => ⟨S1x1x32x2x1x64, .f32⟩
  | .hbm, ⟨23, _⟩ => ⟨S32x256x32x2x4x64, .f32⟩
  | .hbm, ⟨24, _⟩ => ⟨S32x256x32x2x4x64, .f32⟩
  | .hbm, ⟨25, _⟩ => ⟨S2x256x32x256x4, .f32⟩
  | .hbm, ⟨26, _⟩ => ⟨S32x256x2x4x256, .f32⟩
  | .hbm, ⟨27, _⟩ => ⟨S32x256x2x4x256, .f32⟩
  | .hbm, ⟨28, _⟩ => ⟨S32x256x2x4x256, .f32⟩
  | .hbm, ⟨29, _⟩ => ⟨S_, .f32⟩
  | .hbm, ⟨30, _⟩ => ⟨S32x256x2x4x256, .f32⟩
  | .hbm, ⟨31, _⟩ => ⟨S32x256x2x4x256, .f32⟩
  | .hbm, ⟨32, _⟩ => ⟨S32x256x2x4x256, .f32⟩
  | .hbm, ⟨33, _⟩ => ⟨S_, .f32⟩
  | .hbm, ⟨34, _⟩ => ⟨S32x256x2x4x256, .f32⟩
  | .hbm, ⟨35, _⟩ => ⟨S32x256x2x4x256, .f32⟩
  | .hbm, ⟨36, _⟩ => ⟨S32x256x2x4x256, .f32⟩
  | .hbm, ⟨37, _⟩ => ⟨S_, .f32⟩
  | .hbm, ⟨38, _⟩ => ⟨S32x256x2x4x256, .f32⟩
  | .hbm, ⟨39, _⟩ => ⟨S32x256x2x4x256, .f32⟩
  | .hbm, ⟨40, _⟩ => ⟨S_, .f32⟩
  | .hbm, ⟨41, _⟩ => ⟨S32x256x2x4x256, .f32⟩
  | .hbm, ⟨42, _⟩ => ⟨S32x256x2x4x256, .f32⟩
  | .hbm, ⟨43, _⟩ => ⟨S32x256x2x4x256, .f32⟩
  | .hbm, ⟨44, _⟩ => ⟨S2x64x32x256x4, .f32⟩
  | .hbm, ⟨45, _⟩ => ⟨S32x256x2x4x64, .f32⟩
  | .hbm, ⟨46, _⟩ => ⟨S32x256x1x4x64, .f32⟩
  | .hbm, ⟨47, _⟩ => ⟨S32x256x4x64, .f32⟩
  | .hbm, ⟨48, _⟩ => ⟨S32x256x4x64, .f32⟩
  | .hbm, ⟨49, _⟩ => ⟨S_, .f32⟩
  | .hbm, ⟨50, _⟩ => ⟨S32x256x4, .f32⟩
  | .hbm, ⟨51, _⟩ => ⟨S32x256x4x1, .f32⟩
  | .hbm, ⟨52, _⟩ => ⟨S_, .f32⟩
  | .hbm, ⟨53, _⟩ => ⟨S32x256x4x1, .f32⟩
  | .hbm, ⟨54, _⟩ => ⟨S32x256x4x1, .f32⟩
  | .hbm, ⟨55, _⟩ => ⟨S_, .f32⟩
  | .hbm, ⟨56, _⟩ => ⟨S32x256x4x1, .f32⟩
  | .hbm, ⟨57, _⟩ => ⟨S32x256x4x1, .f32⟩
  | .hbm, ⟨58, _⟩ => ⟨S32x256x4x1, .f32⟩
  | .hbm, ⟨59, _⟩ => ⟨S32x256x4x64, .f32⟩
  | .hbm, ⟨60, _⟩ => ⟨S32x256x4x64, .f32⟩
  | .hbm, ⟨61, _⟩ => ⟨S1x1x1x64, .f32⟩
  | .hbm, ⟨62, _⟩ => ⟨S32x256x4x64, .f32⟩
  | .hbm, ⟨63, _⟩ => ⟨S32x256x4x64, .f32⟩
  | .hbm, ⟨64, _⟩ => ⟨S32x256x1x4x64, .f32⟩
  | .hbm, ⟨65, _⟩ => ⟨S32x256x4x64, .f32⟩
  | .hbm, ⟨66, _⟩ => ⟨S4x32x256x64, .f32⟩
  | .hbm, ⟨67, _⟩ => ⟨S4x8192x64, .f32⟩
  | .hbm, ⟨68, _⟩ => ⟨S4x32x256x64, .f32⟩
  | .hbm, ⟨69, _⟩ => ⟨S4x8192x64, .f32⟩
  | _, _ => ⟨S2560x128x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Proof.Spec.lean ====
module

public import Idealize.ShloMosaic.Lib.Pipeline.ValueKit
public import Idealize.ShloMosaic.Lib.Pipeline.ReadBack
public import Idealize.ShloMosaic.Lib.Pointwise
public import Idealize.ShloMosaic.Lib.Claim

/-! The row functions of the layer, over the extended reals: what one row of each call's result is. -/

@[expose] public section

set_option maxRecDepth 16384

noncomputable section

namespace Cert.Spec

open Idealize.ShloMosaic

/-- The root-mean-square norm of a row `x` of 1024 entries with gains `g`, at entry `d`. -/
def rms (x g : Fin 1024 → EReal) (d : Fin 1024) : EReal :=
  x d * Ideal.rsqrt (Ideal.div (∑ k, x k * x k) (Ideal.ofBits FTy.f32 1149239296#32) + Ideal.ofBits FTy.f32 897988541#32) * g d

/-- Entry `k` of the gated hidden row `silu(gate) · up` of the normed row: the gate is column `k` of the input weights, the up
    projection column `2816 + k`. -/
def hidden (x g : Fin 1024 → EReal) (w : Fin 1024 → Fin 5632 → EReal) (k : Fin 2816) : EReal :=
  (∑ d, rms x g d * w d ⟨k.val, by omega⟩) * Ideal.logistic (∑ d, rms x g d * w d ⟨k.val, by omega⟩)
    * ∑ d, rms x g d * w d ⟨2816 + k.val, by omega⟩

/-- One row of the feed-forward step: `x + 0.5 · hidden · w_out`. -/
def ffnRow (x g : Fin 1024 → EReal) (w : Fin 1024 → Fin 5632 → EReal) (wo : Fin 2816 → Fin 1024 → EReal) (d : Fin 1024) : EReal :=
  x d + Ideal.ofBits FTy.f32 1056964608#32 * ∑ k, hidden x g w k * wo k d

/-- Equal rows and weights give equal results. -/
theorem ffnRow_congr {x x' g g' : Fin 1024 → EReal} {w w' : Fin 1024 → Fin 5632 → EReal} {wo wo' : Fin 2816 → Fin 1024 → EReal} {d d' : Fin 1024}
    (hx : ∀ k, x k = x' k) (hg : ∀ k, g k = g' k) (hw : ∀ k j, w k j = w' k j) (hwo : ∀ k j, wo k j = wo' k j) (hd : d = d') :
    ffnRow x g w wo d = ffnRow x' g' w' wo' d' := by
  obtain rfl : x = x' := funext hx
  obtain rfl : g = g' := funext hg
  obtain rfl : w = w' := funext fun k => funext (hw k)
  obtain rfl : wo = wo' := funext fun k => funext (hwo k)
  rw [hd]

/-- A row `x` with the row `a` projected by `w` added to it. -/
def addProj (x a : Fin 1024 → EReal) (w : Fin 1024 → Fin 1024 → EReal) (d : Fin 1024) : EReal := x d + ∑ k, a k * w k d

/-- Equal rows and weights give equal results. -/
theorem addProj_congr {x x' a a' : Fin 1024 → EReal} {w w' : Fin 1024 → Fin 1024 → EReal} (hx : ∀ k, x k = x' k) (ha : ∀ k, a k = a' k)
    (hw : ∀ k j, w k j = w' k j) (d : Fin 1024) : addProj x a w d = addProj x' a' w' d := by
  obtain rfl : x = x' := funext hx
  obtain rfl : a = a' := funext ha
  obtain rfl : w = w' := funext fun k => funext (hw k)
  rfl

/-- The logistic function is the quotient the host spells. -/
theorem logistic_eq (x : EReal) : Ideal.div 1 (1 + Ideal.exp (-x)) = Ideal.logistic x := rfl

/-- Column `j` of the short convolution's input projection of the normed row `x`. -/
def proj (x g : Fin 1024 → EReal) (w : Fin 1024 → Fin 3072 → EReal) (j : Fin 3072) : EReal := ∑ d, rms x g d * w d j

/-- The gated row `u` the short convolution runs over: its second third of columns times its last third. -/
def convU (x g : Fin 1024 → EReal) (w : Fin 1024 → Fin 3072 → EReal) (k : Fin 1024) : EReal :=
  proj x g w ⟨1024 + k.val, by omega⟩ * proj x g w ⟨2048 + k.val, by omega⟩

/-- One row of the short convolution's step: `s2`, `s1` and `s0` are the rows of `u` two and one positions before and at the row. -/
def convRow (x g : Fin 1024 → EReal) (w : Fin 1024 → Fin 3072 → EReal) (cw : Fin 3 → Fin 1024 → EReal) (s2 s1 s0 : Fin 1024 → EReal)
    (wo : Fin 1024 → Fin 1024 → EReal) (d : Fin 1024) : EReal :=
  x d + ∑ k : Fin 1024, proj x g w ⟨k.val, by omega⟩ * (cw 0 k * s2 k + cw 1 k * s1 k + cw 2 k * s0 k) * wo k d

/-- Equal rows and weights give equal gated rows. -/
theorem convU_congr {x x' g g' : Fin 1024 → EReal} {w w' : Fin 1024 → Fin 3072 → EReal} (hx : ∀ k, x k = x' k) (hg : ∀ k, g k = g' k)
    (hw : ∀ k j, w k j = w' k j) (d : Fin 1024) : convU x g w d = convU x' g' w' d := by
  obtain rfl : x = x' := funext hx
  obtain rfl : g = g' := funext hg
  obtain rfl : w = w' := funext fun k => funext (hw k)
  rfl

/-- Equal rows and weights give equal results. -/
theorem convRow_congr {x x' g g' s2 s2' s1 s1' s0 s0' : Fin 1024 → EReal} {w w' : Fin 1024 → Fin 3072 → EReal} {cw cw' : Fin 3 → Fin 1024 → EReal}
    {wo wo' : Fin 1024 → Fin 1024 → EReal} {d d' : Fin 1024} (hx : ∀ k, x k = x' k) (hg : ∀ k, g k = g' k) (hw : ∀ k j, w k j = w' k j)
    (hcw : ∀ j k, cw j k = cw' j k) (h2 : ∀ k, s2 k = s2' k) (h1 : ∀ k, s1 k = s1' k) (h0 : ∀ k, s0 k = s0' k) (hwo : ∀ k j, wo k j = wo' k j) (hd : d = d') :
    convRow x g w cw s2 s1 s0 wo d = convRow x' g' w' cw' s2' s1' s0' wo' d' := by
  obtain rfl : x = x' := funext hx
  obtain rfl : g = g' := funext hg
  obtain rfl : w = w' := funext fun k => funext (hw k)
  obtain rfl : cw = cw' := funext fun k => funext (hcw k)
  obtain rfl : s2 = s2' := funext h2
  obtain rfl : s1 = s1' := funext h1
  obtain rfl : s0 = s0' := funext h0
  obtain rfl : wo = wo' := funext fun k => funext (hwo k)
  rw [hd]

end Cert.Spec

end
-- ==== Proof.FfnValue.lean ====
module

public import proofs.«01_k».proof.Proof.Gen.FfnIdeal.Value
public import proofs.«01_k».proof.Proof.Gen.FfnRefIdeal.Read
public import proofs.«01_k».proof.Proof.Spec

@[expose] public section

set_option maxRecDepth 16384

noncomputable section

namespace Cert.FfnIdeal.Val

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The block every grid point of each window works on. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The reference's result as a function of the arguments. -/
abbrev REF (x0 : (⟨Cert.FfnRefIdeal.S4x4096x1024, .f32⟩ : BufTy).Contents (Elt Ideal)) (x1 : (⟨Cert.FfnRefIdeal.S1024, .f32⟩ : BufTy).Contents (Elt Ideal))
    (x2 : (⟨Cert.FfnRefIdeal.S1024x5632, .f32⟩ : BufTy).Contents (Elt Ideal)) (x3 : (⟨Cert.FfnRefIdeal.S2816x1024, .f32⟩ : BufTy).Contents (Elt Ideal)) : FVec Ideal S16384x1024 .f32 :=
  Cert.FfnRefIdeal.Read.val_main_v22 (F := Ideal) x0 x1 x2 x3

open Cert.FfnRefIdeal.Read in
/-- The reference's result, row by row, is the feed-forward step of the row. -/
theorem ref_apply (x0 : (⟨Cert.FfnRefIdeal.S4x4096x1024, .f32⟩ : BufTy).Contents (Elt Ideal)) (x1 : (⟨Cert.FfnRefIdeal.S1024, .f32⟩ : BufTy).Contents (Elt Ideal))
    (x2 : (⟨Cert.FfnRefIdeal.S1024x5632, .f32⟩ : BufTy).Contents (Elt Ideal)) (x3 : (⟨Cert.FfnRefIdeal.S2816x1024, .f32⟩ : BufTy).Contents (Elt Ideal)) (r : Fin 16384) (d : Fin 1024) :
    REF x0 x1 x2 x3 (ix2 r d)
      = Spec.ffnRow (fun k => x0 (ix3 ⟨r.val / 4096, by omega⟩ ⟨r.val % 4096, by omega⟩ k)) (fun k => x1 (ix1 k)) (fun k j => x2 (ix2 k j)) (fun k j => x3 (ix2 k j)) d := by
  pointwise [REF, val_main_v22, val_main_v21, val_main_v20, val_main_v19, val_main_v18, val_main_v17, val_main_v16, val_main_call0_v5, val_main_call0_v4, val_main_call0_v3,
    val_main_call0_v2, val_main_call0_v1, val_main_call0_v0, val_main_v15, val_main_v14, val_main_v13, val_main_v12, val_main_call0_cst, val_main_call0_cst_0, val_main_cst_2,
    val_main_v11, val_main_v10, val_main_v9, val_main_v8, val_main_v7, val_main_v6, val_main_v5, val_main_v4, val_main_v3, val_main_v2, val_main_v1, val_main_v0, val_main_cst,
    val_main_cst_0, val_main_cst_1, Spec.logistic_eq]
  rfl

/-- The first chunk the body stores is columns 0 to 1407 of the hidden row. -/
theorem hid_lo (X0 : Vec Ideal S512x1024 .f32) (X1 : Vec Ideal S1x1024 .f32) (X2 : Vec Ideal S1024x5632 .bf16) (r : Fin 512) (k : Fin 1408) :
    k0_pay5 (F := Ideal) X0 X1 (View.ld X2 (Rect.unit ![0, 0] ![1024, 1408] inb_S1024x5632_S1024x1408_0_0))
        (View.ld X2 (Rect.unit ![0, 2816] ![1024, 1408] inb_S1024x5632_S1024x1408_0_2816)) (ix2 r k)
      = Spec.hidden (fun k => X0 (ix2 r k)) (fun k => X1 (ix2 0 k)) (fun k j => X2 (ix2 k j)) ⟨k.val, by omega⟩ := by
  pointwise [k0_pay5, k0_pay4, k0_pay3]
  rfl

/-- The second chunk is columns 1408 to 2815 of it. -/
theorem hid_hi (X0 : Vec Ideal S512x1024 .f32) (X1 : Vec Ideal S1x1024 .f32) (X2 : Vec Ideal S1024x5632 .bf16) (r : Fin 512) (k : Fin 1408) :
    k0_pay1 (F := Ideal)
        (k0_pay6 X0 X1 (View.ld X2 (Rect.unit ![0, 1408] ![1024, 1408] inb_S1024x5632_S1024x1408_0_1408)))
        (k0_pay7 X0 X1 (View.ld X2 (Rect.unit ![0, 4224] ![1024, 1408] inb_S1024x5632_S1024x1408_0_4224)))
        (k0_pay8 X0 X1 (View.ld X2 (Rect.unit ![0, 1408] ![1024, 1408] inb_S1024x5632_S1024x1408_0_1408))) (ix2 r k)
      = Spec.hidden (fun k => X0 (ix2 r k)) (fun k => X1 (ix2 0 k)) (fun k j => X2 (ix2 k j)) ⟨1408 + k.val, by omega⟩ := by
  pointwise [k0_pay1, k0_pay6, k0_pay7, k0_pay8, k0_pay4, k0_pay3]
  have h : ∀ x : Fin 1024, X2 (ix2 x ⟨2816 + (1408 + k.val), by omega⟩) = X2 (ix2 x ⟨4224 + k.val, by omega⟩) := fun x =>
    congrArg (fun j => X2 (ix2 x j)) (Fin.ext (by show 2816 + (1408 + k.val) = 4224 + k.val; omega))
  simp only [Spec.hidden, h]
  rfl

/-- The two chunks of the hidden row the body leaves in the scratch are the hidden row of the block's row. -/
theorem hid (X0 : Vec Ideal S512x1024 .f32) (X1 : Vec Ideal S1x1024 .f32) (X2 : Vec Ideal S1024x5632 .bf16) (r : Fin 512) (k : Fin 2816) :
    View.canon (Val := Elt Ideal) (s := S512x2816) (e := .bf16) [⟨Rect.unit (s := S512x2816) ![0, 1408] ![512, 1408] inb_S512x2816_S512x1408_0_1408,
                  k0_pay1 (F := Ideal)
                    (k0_pay6 X0 X1 (View.ld X2 (Rect.unit ![0, 1408] ![1024, 1408] inb_S1024x5632_S1024x1408_0_1408)))
                    (k0_pay7 X0 X1 (View.ld X2 (Rect.unit ![0, 4224] ![1024, 1408] inb_S1024x5632_S1024x1408_0_4224)))
                    (k0_pay8 X0 X1 (View.ld X2 (Rect.unit ![0, 1408] ![1024, 1408] inb_S1024x5632_S1024x1408_0_1408)))⟩,
                ⟨Rect.unit (s := S512x2816) ![0, 0] ![512, 1408] inb_S512x2816_S512x1408_0_0,
                  k0_pay5 X0 X1 (View.ld X2 (Rect.unit ![0, 0] ![1024, 1408] inb_S1024x5632_S1024x1408_0_0))
                    (View.ld X2 (Rect.unit ![0, 2816] ![1024, 1408] inb_S1024x5632_S1024x1408_0_2816))⟩] (ix2 r k)
      = Spec.hidden (fun k => X0 (ix2 r k)) (fun k => X1 (ix2 0 k)) (fun k j => X2 (ix2 k j)) k := by
  canon_tiles x h
  · rw [eq_ix2 x]
    refine (hid_hi X0 X1 X2 (x 0) (x 1)).trans ?_
    obtain rfl : r = x 0 := Fin.ext h0
    exact congrArg (Spec.hidden _ _ _) (Fin.ext h1.symm)
  · rw [eq_ix2 x]
    refine (hid_lo X0 X1 X2 (x 0) (x 1)).trans ?_
    obtain rfl : r = x 0 := Fin.ext h0
    exact congrArg (Spec.hidden _ _ _) (Fin.ext h1.symm)

/-- What the body stores into the output block, row by row: the feed-forward step of the block's row. -/
theorem pay (v : View sig .tc .vmem S512x2816 .bf16) (X0 : Vec Ideal S512x1024 .f32) (X1 : Vec Ideal S1x1024 .f32) (X2 : Vec Ideal S1024x5632 .bf16)
    (X3 : Vec Ideal S2816x1024 .bf16) (y : S512x1024.Idx) :
    k0_pay2 (F := Ideal) (k0_pay3 X0) (v.readCov
        [⟨Rect.unit (s := S512x2816) ![0, 1408] ![512, 1408] inb_S512x2816_S512x1408_0_1408,
                  k0_pay1 (F := Ideal)
                    (k0_pay6 X0 X1 (View.ld X2 (Rect.unit ![0, 1408] ![1024, 1408] inb_S1024x5632_S1024x1408_0_1408)))
                    (k0_pay7 X0 X1 (View.ld X2 (Rect.unit ![0, 4224] ![1024, 1408] inb_S1024x5632_S1024x1408_0_4224)))
                    (k0_pay8 X0 X1 (View.ld X2 (Rect.unit ![0, 1408] ![1024, 1408] inb_S1024x5632_S1024x1408_0_1408)))⟩,
                ⟨Rect.unit (s := S512x2816) ![0, 0] ![512, 1408] inb_S512x2816_S512x1408_0_0,
                  k0_pay5 X0 X1 (View.ld X2 (Rect.unit ![0, 0] ![1024, 1408] inb_S1024x5632_S1024x1408_0_0))
                    (View.ld X2 (Rect.unit ![0, 2816] ![1024, 1408] inb_S1024x5632_S1024x1408_0_2816))⟩]
        (Rect.unit (s := S512x2816) ![0, 0] ![512, 2816] inb_S512x2816_S512x2816_0_0).toLoadRect) X3 y
      = Spec.ffnRow (fun k => X0 (ix2 (y 0) k)) (fun k => X1 (ix2 0 k)) (fun k j => X2 (ix2 k j)) (fun k j => X3 (ix2 k j)) (y 1) := by
  idx_vars y
  rw [View.readCov_eq_canon']
  pointwise [k0_pay2, k0_pay3, hid]
  rfl

/-- Row `r` of the input block at point `t` is row `512 t + r` of the flattened input. -/
theorem blk0 (c : Dev nD) (t : Fin cfg0.N) (r : Fin 512) (k : Fin 1024) (j : Fin 16384) (h : j.val = t.val * 512 + r.val) :
    iblk m c 0 t (ix2 r k) = m ((c : Thread nD τ).loc main_arg0) (ix3 ⟨j.val / 4096, by omega⟩ ⟨j.val % 4096, by omega⟩ k) := by
  have e : (((cfg0.win 0).blk t).view.emb (ix2 r k) : S16384x1024.Idx) = ix2 j k := by blk_ext [idx t]
  show V m c main_v0 (((cfg0.win 0).blk t).view.emb (ix2 r k)) = _
  rw [e]
  entry_read
  pointwise

/-- The gains' block is the gains. -/
theorem blk1 (c : Dev nD) (t : Fin cfg0.N) (k : Fin 1024) : iblk m c 1 t (ix2 0 k) = m ((c : Thread nD τ).loc main_arg1) (ix1 k) := by
  blk_point [iblk, V, idx t]

/-- The input weights' block is the input weights. -/
theorem blk2 (c : Dev nD) (t : Fin cfg0.N) (r : Fin 1024) (k : Fin 5632) : iblk m c 2 t (ix2 r k) = m ((c : Thread nD τ).loc main_arg2) (ix2 r k) := by
  blk_point [iblk, V, idx t]

/-- The output weights' block is the output weights. -/
theorem blk3 (c : Dev nD) (t : Fin cfg0.N) (r : Fin 2816) (k : Fin 1024) : iblk m c 3 t (ix2 r k) = m ((c : Thread nD τ).loc main_arg3) (ix2 r k) := by
  blk_point [iblk, V, idx t]

/-- The result array after the run is the reference's. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have h0 : ((((cfg0.win 4).blk t).view.emb y : S16384x1024.Idx) 0 : ℕ) = t.val * 512 + (y 0 : ℕ) := by blk_simp [idx t]
  have h1 : ((((cfg0.win 4).blk t).view.emb y : S16384x1024.Idx) 1 : ℕ) = (y 1 : ℕ) := by blk_simp [idx t]
  revert h0 h1
  generalize (((cfg0.win 4).blk t).view.emb y : S16384x1024.Idx) = j
  intro h0 h1
  blk_simp
  rw [after0_4]; unfold Gen.outsAt0; frame_out
  rw [eq_ix2 j]
  exact (pay _ (iblk m c 0 t) (iblk m c 1 t) (iblk m c 2 t) (iblk m c 3 t) y).trans
    (Eq.trans (Spec.ffnRow_congr (fun k => blk0 m c t (y 0) k (j 0) h0) (fun k => blk1 m c t k) (fun k l => blk2 m c t k l) (fun k l => blk3 m c t k l) (Fin.ext h1.symm))
      (ref_apply _ _ _ _ _ _).symm)

end Cert.FfnIdeal.Val

end
-- ==== Proof.FfnClaim.lean ====
module

public import proofs.«01_k».proof.Defs
public import proofs.«01_k».proof.Proof.Gen.Ffn.Frame
public import proofs.«01_k».proof.Proof.Gen.FfnIdeal.Frame
public import proofs.«01_k».proof.Proof.Gen.FfnRefIdeal.Run
public import proofs.«01_k».proof.Proof.FfnValue
public import Idealize.ShloMosaic.Lib.Claim

/-! The feed-forward step of a block: the claims about it, each from one run of the program it speaks of. -/

@[expose] public section

set_option maxRecDepth 16384

noncomputable section

namespace Cert.FfnClaim

open Idealize.ShloMosaic Idealize.ShloMosaic.TcCoe Idealize.SL.Sem

/-- The kernel runs to its end and keeps its arguments. -/
theorem kernel_frame : Cert.quiescent_Ffn := fun m ρ _ => Cert.Ffn.Gen.frame m ρ

/-- The same of the kernel over the extended reals. -/
theorem ideal_frame : Cert.quiescent_FfnIdeal := fun m ρ _ => Cert.FfnIdeal.Gen.frame m ρ

/-- The same of the reference. -/
theorem ref_frame : Cert.quiescent_FfnRefIdeal := fun m ρ _ =>
  (θ_run _ _ _).mono (fun r h => ⟨fun c => (h c).2, sem_eq_zero_of_no_sems (by decide) r.2⟩) (Cert.FfnRefIdeal.Value.run m ρ)

/-- Over the extended reals the kernel's result array is the reference's. -/
theorem algebraic : Cert.algebraic_FfnIdeal_FfnRefIdeal := by
  pair_intro
  · run_from Cert.FfnIdeal.Value.run_blocks m g
  · run_from Cert.FfnRefIdeal.Value.run m' g'
    exact (Cert.FfnRefIdeal.Read.val_main_v22_eq _ _ _ _).trans (Cert.FfnIdeal.Val.final m c).symm

end Cert.FfnClaim

end
-- ==== Proof.MixValue.lean ====
module

public import proofs.«01_k».proof.Proof.Gen.MixIdeal.Value
public import proofs.«01_k».proof.Proof.Gen.MixRefIdeal.Read
public import proofs.«01_k».proof.Proof.Spec

/-! The attention's output projection, added to the residual stream, and the feed-forward step after it: the call's result array is
    the reference's, row by row. -/

@[expose] public section

set_option maxRecDepth 16384

noncomputable section

namespace Cert.MixIdeal.Val

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ)

/-- The block every grid point of each window works on. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The reference's result as a function of the arguments. -/
abbrev REF (x0 : (⟨Cert.MixRefIdeal.S4x4096x1024, .f32⟩ : BufTy).Contents (Elt Ideal)) (x1 : (⟨Cert.MixRefIdeal.S4x4096x1024, .bf16⟩ : BufTy).Contents (Elt Ideal))
    (x2 : (⟨Cert.MixRefIdeal.S1024x1024, .f32⟩ : BufTy).Contents (Elt Ideal)) (x3 : (⟨Cert.MixRefIdeal.S1024, .f32⟩ : BufTy).Contents (Elt Ideal))
    (x4 : (⟨Cert.MixRefIdeal.S1024x5632, .f32⟩ : BufTy).Contents (Elt Ideal)) (x5 : (⟨Cert.MixRefIdeal.S2816x1024, .f32⟩ : BufTy).Contents (Elt Ideal)) : FVec Ideal S16384x1024 .f32 :=
  Cert.MixRefIdeal.Read.val_main_v25 (F := Ideal) x0 x1 x2 x3 x4 x5

open Cert.MixRefIdeal.Read in
/-- The reference's result, row by row: the projection added, then the feed-forward step. -/
theorem ref_apply (x0 : (⟨Cert.MixRefIdeal.S4x4096x1024, .f32⟩ : BufTy).Contents (Elt Ideal)) (x1 : (⟨Cert.MixRefIdeal.S4x4096x1024, .bf16⟩ : BufTy).Contents (Elt Ideal))
    (x2 : (⟨Cert.MixRefIdeal.S1024x1024, .f32⟩ : BufTy).Contents (Elt Ideal)) (x3 : (⟨Cert.MixRefIdeal.S1024, .f32⟩ : BufTy).Contents (Elt Ideal))
    (x4 : (⟨Cert.MixRefIdeal.S1024x5632, .f32⟩ : BufTy).Contents (Elt Ideal)) (x5 : (⟨Cert.MixRefIdeal.S2816x1024, .f32⟩ : BufTy).Contents (Elt Ideal)) (r : Fin 16384) (d : Fin 1024) :
    REF x0 x1 x2 x3 x4 x5 (ix2 r d)
      = Spec.ffnRow (Spec.addProj (fun k => x0 (ix3 ⟨r.val / 4096, by omega⟩ ⟨r.val % 4096, by omega⟩ k)) (fun k => x1 (ix3 ⟨r.val / 4096, by omega⟩ ⟨r.val % 4096, by omega⟩ k))
          (fun k j => x2 (ix2 k j))) (fun k => x3 (ix1 k)) (fun k j => x4 (ix2 k j)) (fun k j => x5 (ix2 k j)) d := by
  pointwise [REF, val_main_v25, val_main_v24, val_main_v23, val_main_v22, val_main_cst_2, val_main_v21, val_main_v20, val_main_v19, val_main_call0_v5, val_main_call0_v4, val_main_call0_cst_0, val_main_call0_v3, val_main_call0_v2, val_main_call0_cst, val_main_call0_v1, val_main_call0_v0, val_main_v18, val_main_v17, val_main_v16, val_main_v15, val_main_v14, val_main_v13, val_main_v12, val_main_v11, val_main_v10, val_main_v9, val_main_v8, val_main_cst_1, val_main_v7, val_main_v6, val_main_cst_0, val_main_v5, val_main_v4, val_main_cst, val_main_v3, val_main_v2, val_main_v1, val_main_v0, Spec.logistic_eq]
  rfl

/-- The first chunk the body stores is columns 0 to 1407 of the hidden row. -/
theorem hid_lo (X0 : Vec Ideal S512x1024 .f32) (XA : Vec Ideal S512x1024 .bf16) (XW : Vec Ideal S1024x1024 .bf16) (X1 : Vec Ideal S1x1024 .f32)
    (X2 : Vec Ideal S1024x5632 .bf16) (r : Fin 512) (k : Fin 1408) :
    k0_pay5 (F := Ideal) X0 XA XW X1 (View.ld X2 (Rect.unit ![0, 0] ![1024, 1408] inb_S1024x5632_S1024x1408_0_0))
            (View.ld X2 (Rect.unit ![0, 2816] ![1024, 1408] inb_S1024x5632_S1024x1408_0_2816)) (ix2 r k)
      = Spec.hidden (Spec.addProj (fun k => X0 (ix2 r k)) (fun k => XA (ix2 r k)) (fun k j => XW (ix2 k j))) (fun k => X1 (ix2 0 k)) (fun k j => X2 (ix2 k j)) ⟨k.val, by omega⟩ := by
  pointwise [k0_pay5, k0_pay4, k0_pay3]
  rfl

/-- The second chunk is columns 1408 to 2815 of it. -/
theorem hid_hi (X0 : Vec Ideal S512x1024 .f32) (XA : Vec Ideal S512x1024 .bf16) (XW : Vec Ideal S1024x1024 .bf16) (X1 : Vec Ideal S1x1024 .f32)
    (X2 : Vec Ideal S1024x5632 .bf16) (r : Fin 512) (k : Fin 1408) :
    k0_pay1 (F := Ideal) (k0_pay4 X0 XA XW X1)
            (View.ld X2 (Rect.unit ![0, 1408] ![1024, 1408] inb_S1024x5632_S1024x1408_0_1408))
            (View.ld X2 (Rect.unit ![0, 4224] ![1024, 1408] inb_S1024x5632_S1024x1408_0_4224)) (ix2 r k)
      = Spec.hidden (Spec.addProj (fun k => X0 (ix2 r k)) (fun k => XA (ix2 r k)) (fun k j => XW (ix2 k j))) (fun k => X1 (ix2 0 k)) (fun k j => X2 (ix2 k j)) ⟨1408 + k.val, by omega⟩ := by
  pointwise [k0_pay1, k0_pay4, k0_pay3]
  have h : ∀ x : Fin 1024, X2 (ix2 x ⟨2816 + (1408 + k.val), by omega⟩) = X2 (ix2 x ⟨4224 + k.val, by omega⟩) := fun x =>
    congrArg (fun j => X2 (ix2 x j)) (Fin.ext (by show 2816 + (1408 + k.val) = 4224 + k.val; omega))
  simp only [Spec.hidden, h]
  rfl

/-- The two chunks of the hidden row the body leaves in the scratch are the hidden row of the block's row. -/
theorem hid (X0 : Vec Ideal S512x1024 .f32) (XA : Vec Ideal S512x1024 .bf16) (XW : Vec Ideal S1024x1024 .bf16) (X1 : Vec Ideal S1x1024 .f32)
    (X2 : Vec Ideal S1024x5632 .bf16) (r : Fin 512) (k : Fin 2816) :
    View.canon (Val := Elt Ideal) (s := S512x2816) (e := .bf16) [⟨Rect.unit (s := S512x2816) ![0, 1408] ![512, 1408] inb_S512x2816_S512x1408_0_1408,
          k0_pay1 (F := Ideal) (k0_pay4 X0 XA XW X1)
            (View.ld X2 (Rect.unit ![0, 1408] ![1024, 1408] inb_S1024x5632_S1024x1408_0_1408))
            (View.ld X2 (Rect.unit ![0, 4224] ![1024, 1408] inb_S1024x5632_S1024x1408_0_4224))⟩,
        ⟨Rect.unit (s := S512x2816) ![0, 0] ![512, 1408] inb_S512x2816_S512x1408_0_0,
          k0_pay5 (F := Ideal) X0 XA XW X1 (View.ld X2 (Rect.unit ![0, 0] ![1024, 1408] inb_S1024x5632_S1024x1408_0_0))
            (View.ld X2 (Rect.unit ![0, 2816] ![1024, 1408] inb_S1024x5632_S1024x1408_0_2816))⟩] (ix2 r k)
      = Spec.hidden (Spec.addProj (fun k => X0 (ix2 r k)) (fun k => XA (ix2 r k)) (fun k j => XW (ix2 k j))) (fun k => X1 (ix2 0 k)) (fun k j => X2 (ix2 k j)) k := by
  canon_tiles x h
  · rw [eq_ix2 x]
    refine (hid_hi X0 XA XW X1 X2 (x 0) (x 1)).trans ?_
    obtain rfl : r = x 0 := Fin.ext h0
    exact congrArg (Spec.hidden _ _ _) (Fin.ext h1.symm)
  · rw [eq_ix2 x]
    refine (hid_lo X0 XA XW X1 X2 (x 0) (x 1)).trans ?_
    obtain rfl : r = x 0 := Fin.ext h0
    exact congrArg (Spec.hidden _ _ _) (Fin.ext h1.symm)

/-- What the body stores into the output block, row by row. -/
theorem pay (v : View sig .tc .vmem S512x2816 .bf16) (X0 : Vec Ideal S512x1024 .f32) (XA : Vec Ideal S512x1024 .bf16) (XW : Vec Ideal S1024x1024 .bf16) (X1 : Vec Ideal S1x1024 .f32)
    (X2 : Vec Ideal S1024x5632 .bf16)
    (X3 : Vec Ideal S2816x1024 .bf16) (y : S512x1024.Idx) :
    k0_pay2 (F := Ideal) (k0_pay3 X0 XA XW) (v.readCov [⟨Rect.unit (s := S512x2816) ![0, 1408] ![512, 1408] inb_S512x2816_S512x1408_0_1408,
          k0_pay1 (F := Ideal) (k0_pay4 X0 XA XW X1)
            (View.ld X2 (Rect.unit ![0, 1408] ![1024, 1408] inb_S1024x5632_S1024x1408_0_1408))
            (View.ld X2 (Rect.unit ![0, 4224] ![1024, 1408] inb_S1024x5632_S1024x1408_0_4224))⟩,
        ⟨Rect.unit (s := S512x2816) ![0, 0] ![512, 1408] inb_S512x2816_S512x1408_0_0,
          k0_pay5 (F := Ideal) X0 XA XW X1 (View.ld X2 (Rect.unit ![0, 0] ![1024, 1408] inb_S1024x5632_S1024x1408_0_0))
            (View.ld X2 (Rect.unit ![0, 2816] ![1024, 1408] inb_S1024x5632_S1024x1408_0_2816))⟩]
        (Rect.unit (s := S512x2816) ![0, 0] ![512, 2816] inb_S512x2816_S512x2816_0_0).toLoadRect) X3 y
      = Spec.ffnRow (Spec.addProj (fun k => X0 (ix2 (y 0) k)) (fun k => XA (ix2 (y 0) k)) (fun k j => XW (ix2 k j))) (fun k => X1 (ix2 0 k)) (fun k j => X2 (ix2 k j)) (fun k j => X3 (ix2 k j)) (y 1) := by
  idx_vars y
  rw [View.readCov_eq_canon']
  pointwise [k0_pay2, k0_pay3, hid]
  rfl

/-- Row `r` of the input block at point `t` is row `512 t + r` of the flattened input. -/
theorem blk0 (c : Dev nD) (t : Fin cfg0.N) (r : Fin 512) (k : Fin 1024) (j : Fin 16384) (h : j.val = t.val * 512 + r.val) :
    iblk m c 0 t (ix2 r k) = m ((c : Thread nD τ).loc main_arg0) (ix3 ⟨j.val / 4096, by omega⟩ ⟨j.val % 4096, by omega⟩ k) := by
  have e : (((cfg0.win 0).blk t).view.emb (ix2 r k) : S16384x1024.Idx) = ix2 j k := by blk_ext [idx t]
  show V m c main_v0 (((cfg0.win 0).blk t).view.emb (ix2 r k)) = _
  rw [e]
  entry_read
  pointwise

/-- The same of the attention's output. -/
theorem blk1 (c : Dev nD) (t : Fin cfg0.N) (r : Fin 512) (k : Fin 1024) (j : Fin 16384) (h : j.val = t.val * 512 + r.val) :
    iblk m c 1 t (ix2 r k) = m ((c : Thread nD τ).loc main_arg1) (ix3 ⟨j.val / 4096, by omega⟩ ⟨j.val % 4096, by omega⟩ k) := by
  have e : (((cfg0.win 1).blk t).view.emb (ix2 r k) : S16384x1024.Idx) = ix2 j k := by blk_ext [idx t]
  show V m c main_v4 (((cfg0.win 1).blk t).view.emb (ix2 r k)) = _
  rw [e]
  entry_read
  pointwise

/-- The projection's block is the projection. -/
theorem blk2 (c : Dev nD) (t : Fin cfg0.N) (r : Fin 1024) (k : Fin 1024) : iblk m c 2 t (ix2 r k) = m ((c : Thread nD τ).loc main_arg2) (ix2 r k) := by
  blk_point [iblk, V, idx t]

/-- The gains' block is the gains. -/
theorem blk3 (c : Dev nD) (t : Fin cfg0.N) (k : Fin 1024) : iblk m c 3 t (ix2 0 k) = m ((c : Thread nD τ).loc main_arg3) (ix1 k) := by
  blk_point [iblk, V, idx t]

/-- The input weights' block is the input weights. -/
theorem blk4 (c : Dev nD) (t : Fin cfg0.N) (r : Fin 1024) (k : Fin 5632) : iblk m c 4 t (ix2 r k) = m ((c : Thread nD τ).loc main_arg4) (ix2 r k) := by
  blk_point [iblk, V, idx t]

/-- The output weights' block is the output weights. -/
theorem blk5 (c : Dev nD) (t : Fin cfg0.N) (r : Fin 2816) (k : Fin 1024) : iblk m c 5 t (ix2 r k) = m ((c : Thread nD τ).loc main_arg5) (ix2 r k) := by
  blk_point [iblk, V, idx t]

/-- The result array after the run is the reference's. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  have h0 : ((((cfg0.win 6).blk t).view.emb y : S16384x1024.Idx) 0 : ℕ) = t.val * 512 + (y 0 : ℕ) := by blk_simp [idx t]
  have h1 : ((((cfg0.win 6).blk t).view.emb y : S16384x1024.Idx) 1 : ℕ) = (y 1 : ℕ) := by blk_simp [idx t]
  revert h0 h1
  generalize (((cfg0.win 6).blk t).view.emb y : S16384x1024.Idx) = j
  intro h0 h1
  blk_simp
  rw [after0_6]; unfold Gen.outsAt0; frame_out
  rw [eq_ix2 j]
  exact (pay _ (iblk m c 0 t) (iblk m c 1 t) (iblk m c 2 t) (iblk m c 3 t) (iblk m c 4 t) (iblk m c 5 t) y).trans
    (Eq.trans (Spec.ffnRow_congr (Spec.addProj_congr (fun k => blk0 m c t (y 0) k (j 0) h0) (fun k => blk1 m c t (y 0) k (j 0) h0) (fun k l => blk2 m c t k l))
        (fun k => blk3 m c t k) (fun k l => blk4 m c t k l) (fun k l => blk5 m c t k l) (Fin.ext h1.symm))
      (ref_apply _ _ _ _ _ _ _ _).symm)

end Cert.MixIdeal.Val

end
-- ==== Proof.MixClaim.lean ====
module

public import proofs.«01_k».proof.Defs
public import proofs.«01_k».proof.Proof.Gen.Mix.Frame
public import proofs.«01_k».proof.Proof.Gen.MixIdeal.Frame
public import proofs.«01_k».proof.Proof.Gen.MixRefIdeal.Run
public import proofs.«01_k».proof.Proof.MixValue
public import Idealize.ShloMosaic.Lib.Claim

/-! The output projection and the feed-forward step after it: the claims about it, each from one run of the program it speaks of. -/

@[expose] public section

set_option maxRecDepth 16384

noncomputable section

namespace Cert.MixClaim

open Idealize.ShloMosaic Idealize.ShloMosaic.TcCoe Idealize.SL.Sem

/-- The kernel runs to its end and keeps its arguments. -/
theorem kernel_frame : Cert.quiescent_Mix := fun m ρ _ => Cert.Mix.Gen.frame m ρ

/-- The same of the kernel over the extended reals. -/
theorem ideal_frame : Cert.quiescent_MixIdeal := fun m ρ _ => Cert.MixIdeal.Gen.frame m ρ

/-- The same of the reference. -/
theorem ref_frame : Cert.quiescent_MixRefIdeal := fun m ρ _ =>
  (θ_run _ _ _).mono (fun r h => ⟨fun c => (h c).2, sem_eq_zero_of_no_sems (by decide) r.2⟩) (Cert.MixRefIdeal.Value.run m ρ)

/-- Over the extended reals the kernel's result array is the reference's. -/
theorem algebraic : Cert.algebraic_MixIdeal_MixRefIdeal := by
  pair_intro
  · run_from Cert.MixIdeal.Value.run_blocks m g
  · run_from Cert.MixRefIdeal.Value.run m' g'
    rw [Cert.MixRefIdeal.Read.val_main_v25_eq, (hagree c).1, (hagree c).2.1, (hagree c).2.2.1, (hagree c).2.2.2.1, (hagree c).2.2.2.2.1, (hagree c).2.2.2.2.2]
    exact (Cert.MixIdeal.Val.final m c).symm

end Cert.MixClaim

end
-- ==== Proof.ConvValue.lean ====
module

public import proofs.«01_k».proof.Proof.Gen.ConvIdeal.Frame
public import proofs.«01_k».proof.Proof.Gen.ConvRefIdeal.Read
public import proofs.«01_k».proof.Proof.Spec
public import Idealize.ShloMosaic.Lib.KernelVsHost
public import Idealize.ShloMosaic.Lib.Pipeline.ReadBack

/-! The prompt rows' short convolution: both arrays the call returns are the reference's, row by row. The body keeps the last
    eight gated rows of its tile for the next tile of the sequence; a sequence's first tile finds zeros in their place. -/

@[expose] public section

set_option maxRecDepth 16384

noncomputable section

namespace Cert.ConvIdeal.Val

open Cert.ConvIdeal Cert.ConvIdeal.Gen Idealize.ShloMosaic Idealize.ShloMosaic.TcCoe Idealize.SL.Sem
open Idealize.ShloMosaic.Pipeline (Dat)

/-- A call argument's contents. -/
abbrev Arr (s : Shape) := (⟨s, .f32⟩ : BufTy).Contents (Elt Ideal)

section Reference
open Cert.ConvRefIdeal Cert.ConvRefIdeal.Read

variable (x0 : Arr Cert.ConvRefIdeal.S4x4096x1024) (x1 : Arr Cert.ConvRefIdeal.S1024)
  (x2 : Arr Cert.ConvRefIdeal.S1024x3072) (x3 : Arr Cert.ConvRefIdeal.S3x1024) (x4 : Arr Cert.ConvRefIdeal.S1024x1024)

/-- The reference's history: two rows of zeros, then the gated rows of the sequence. -/
abbrev HIST : FVec Ideal Cert.ConvRefIdeal.S4x4098x1024 .f32 := val_main_v19 (F := Ideal) x0 x1 x2

/-- The reference's first result as a function of the arguments. -/
abbrev REF : FVec Ideal Cert.ConvRefIdeal.S16384x1024 .f32 := val_main_v44 (F := Ideal) x0 x1 x2 x3 x4

/-- The reference's second result: the last two rows of the history. -/
abbrev REFST : FVec Ideal Cert.ConvRefIdeal.S4x2x1024 .f32 := val_main_v42 (F := Ideal) x0 x1 x2

/-- Sequence `n`'s gated row at position `t`. -/
abbrev ROW (n : Fin 4) (t : Fin 4096) (k : Fin 1024) : EReal :=
  Spec.convU (fun k => x0 (ix3 n t k)) (fun k => x1 (ix1 k)) (fun k j => x2 (ix2 k j)) k

/-- The gated rows of the reference. -/
theorem ref_u (n : Fin 4) (t : Fin 4096) (k : Fin 1024) : val_main_v18 (F := Ideal) x0 x1 x2 (ix3 n t k) = ROW x0 x1 x2 n t k := by
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The first two rows of the history are zeros. -/
theorem hist_lo (n : Fin 4) (i : Fin 4098) (h : i.val < 2) (k : Fin 1024) : HIST x0 x1 x2 (ix3 n i k) = Ideal.ofBits FTy.f32 0#32 := by
  pointwise [HIST, val_main_v19]
  rw [dif_pos h]
  pointwise [val_main_v13, val_main_cst_2]

/-- The others are the gated rows, two positions on. -/
theorem hist_hi (n : Fin 4) (i : Fin 4098) (t : Fin 4096) (h : i.val = t.val + 2) (k : Fin 1024) : HIST x0 x1 x2 (ix3 n i k) = ROW x0 x1 x2 n t k := by
  rw [← ref_u]
  pointwise [HIST, val_main_v19]
  rw [dif_neg (by omega)]
  exact congrArg (fun j => val_main_v18 (F := Ideal) x0 x1 x2 (ix3 n j k)) (Fin.ext (by show i.val - 2 = t.val; omega))

/-- The reference's first result, row by row. -/
theorem ref_apply (r : Fin 16384) (d : Fin 1024) :
    REF x0 x1 x2 x3 x4 (ix2 r d)
      = Spec.convRow (fun k => x0 (ix3 ⟨r.val / 4096, by omega⟩ ⟨r.val % 4096, by omega⟩ k)) (fun k => x1 (ix1 k)) (fun k j => x2 (ix2 k j))
          (fun j k => x3 (ix2 j k)) (fun k => HIST x0 x1 x2 (ix3 ⟨r.val / 4096, by omega⟩ ⟨r.val % 4096, by omega⟩ k))
          (fun k => HIST x0 x1 x2 (ix3 ⟨r.val / 4096, by omega⟩ ⟨1 + r.val % 4096, by omega⟩ k))
          (fun k => HIST x0 x1 x2 (ix3 ⟨r.val / 4096, by omega⟩ ⟨2 + r.val % 4096, by omega⟩ k)) (fun k j => x4 (ix2 k j)) d := by
  pointwise [REF, val_main_v44, val_main_v43, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The reference's second result, row by row. -/
theorem refst_apply (n : Fin 4) (i : Fin 2) (k : Fin 1024) : REFST x0 x1 x2 (ix3 n i k) = ROW x0 x1 x2 n ⟨4094 + i.val, by omega⟩ k := by
  rw [← hist_hi x0 x1 x2 n ⟨4096 + i.val, by omega⟩ ⟨4094 + i.val, by omega⟩ (by show 4096 + i.val = 4094 + i.val + 2; omega)]
  pointwise [REFST, val_main_v42]

end Reference

variable (m : (ℓ : Loc nD τ sig) → Buf (Elt Ideal) ℓ)

/-- The block every grid point of each window works on. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val / 8, 0] ∧ win0_6.index t = ![t.val, 0]
    ∧ win0_7.index t = ![t.val / 8, 0] :=
  (by decide +kernel : ∀ t : Fin grid0.N, _)

/-- The body stores the tail of a sequence at the last tile of it. -/
theorem flush7 : ∀ t : Fin cfg0.N, (cfg0.win 7).flush t = true → t.val % 8 = 7 :=
  (by decide +kernel : ∀ t : Fin grid0.N, _)

section Body
variable (X0 : Vec Ideal S512x1024 .f32) (X1 : Vec Ideal S1x1024 .f32) (X2 : Vec Ideal S1024x3072 .bf16)

/-- The gated row of row `r` of the block. -/
abbrev BROW (r : Fin 512) (k : Fin 1024) : EReal := Spec.convU (fun k => X0 (ix2 r k)) (fun k => X1 (ix2 0 k)) (fun k j => X2 (ix2 k j)) k

/-- The gated rows the body computes. -/
theorem u_apply (r : Fin 512) (k : Fin 1024) : k0_pay4 (F := Ideal) X0 X1 X2 (ix2 r k) = BROW X0 X1 X2 r k := by
  pointwise [k0_pay4, k0_pay2, k0_pay1]
  rfl

/-- The gates the body computes. -/
theorem b_apply (r : Fin 512) (k : Fin 1024) :
    k0_pay3 (F := Ideal) X0 X1 X2 (ix2 r k) = Spec.proj (fun k => X0 (ix2 r k)) (fun k => X1 (ix2 0 k)) (fun k j => X2 (ix2 k j)) ⟨k.val, by omega⟩ := by
  pointwise [k0_pay3, k0_pay2, k0_pay1]
  rfl

/-- The rows moved one down. -/
theorem s1_apply (r r' : Fin 512) (k : Fin 1024) (h : r.val = r'.val + 1) : k0_pay5 (F := Ideal) X0 X1 X2 (ix2 r k) = BROW X0 X1 X2 r' k := by
  rw [← u_apply]
  unfold k0_pay5
  refine dynamicRotate_apply (s := S512x1024) 0 1#32 _ _ _ _ fun b => ?_
  fin_cases b
  · show r'.val = (r.val + 512 - 1) % 512
    omega
  · rfl

/-- The rows moved two down. -/
theorem s2_apply (r r' : Fin 512) (k : Fin 1024) (h : r.val = r'.val + 2) : k0_pay6 (F := Ideal) X0 X1 X2 (ix2 r k) = BROW X0 X1 X2 r' k := by
  rw [← u_apply]
  unfold k0_pay6
  refine dynamicRotate_apply (s := S512x1024) 0 2#32 _ _ _ _ fun b => ?_
  fin_cases b
  · show r'.val = (r.val + 512 - 2) % 512
    omega
  · rfl

/-- The output row over any gated rows, rows before them and weights. -/
theorem out_apply (X B U R1 R2 : FVec Ideal S512x1024 .f32) (P1 P2 c0 c1 c2 : Vec Ideal S1x1024 .f32) (W : Vec Ideal S1024x1024 .bf16) (r : Fin 512) (d : Fin 1024) :
    k0_pay10 (F := Ideal) X B U (iota .tc S512x1 32 [0] iota_S512x1_d0_w32) R1 R2 P1 P2 k0_pay8 (k0_pay9 P1) c0 c1 c2 W (ix2 r d)
      = X (ix2 r d) + ∑ k, B (ix2 r k) * (c0 (ix2 0 k) * (if r.val = 0 then P2 (ix2 0 k) else if r.val = 1 then P1 (ix2 0 k) else R2 (ix2 r k))
          + c1 (ix2 0 k) * (if r.val = 0 then P1 (ix2 0 k) else R1 (ix2 r k)) + c2 (ix2 0 k) * U (ix2 r k)) * W (ix2 k d) := by
  have e (b : ℕ) (hb : b < 2) (x y : EReal) : Scalar.select (IntOp.cmpi .eq (BitVec.ofNat 32 r.val) (BitVec.ofNat 32 b)) x y = if r.val = b then x else y := by
    rw [WordCmp.cmpi_eq_ofNat (by omega) (by omega), WordCmp.select_decide]
  pointwise [k0_pay10, k0_pay8, k0_pay9]
  simp only [e 0 (by omega), e 1 (by omega)]

/-- What the body stores into the output block: the step's row, over any rows `h2`, `h1` that are the rows `P2`, `P1` kept from
    the tile before or the gated rows of this tile, according to the position. -/
theorem pay (P1 P2 : Vec Ideal S1x1024 .f32) (X3 : Vec Ideal S3x1024 .f32) (X4 : Vec Ideal S1024x1024 .bf16) (y : S512x1024.Idx) (h2 h1 : Fin 1024 → EReal)
    (a0 : (y 0).val = 0 → ∀ k, P2 (ix2 0 k) = h2 k) (a1 : (y 0).val = 1 → ∀ k, P1 (ix2 0 k) = h2 k)
    (a2 : ∀ r' : Fin 512, (y 0).val = r'.val + 2 → ∀ k, BROW X0 X1 X2 r' k = h2 k)
    (b0 : (y 0).val = 0 → ∀ k, P1 (ix2 0 k) = h1 k)
    (b1 : ∀ r' : Fin 512, (y 0).val = r'.val + 1 → ∀ k, BROW X0 X1 X2 r' k = h1 k) :
    k0_pay10 (F := Ideal) (k0_pay1 X0) (k0_pay3 X0 X1 X2) (k0_pay4 X0 X1 X2) (iota .tc S512x1 32 [0] iota_S512x1_d0_w32)
        (k0_pay5 X0 X1 X2) (k0_pay6 X0 X1 X2) P1 P2 k0_pay8 (k0_pay9 P1)
        (View.ld X3 (Rect.unit ![0, 0] ![1, 1024] inb_S3x1024_S1x1024_0_0)) (View.ld X3 (Rect.unit ![1, 0] ![1, 1024] inb_S3x1024_S1x1024_1_0))
        (View.ld X3 (Rect.unit ![2, 0] ![1, 1024] inb_S3x1024_S1x1024_2_0)) X4 y
      = Spec.convRow (fun k => X0 (ix2 (y 0) k)) (fun k => X1 (ix2 0 k)) (fun k j => X2 (ix2 k j)) (fun j k => X3 (ix2 j k)) h2 h1
          (BROW X0 X1 X2 (y 0)) (fun k j => X4 (ix2 k j)) (y 1) := by
  rw [eq_ix2 y]
  refine (out_apply _ _ _ _ _ _ _ _ _ _ _ _ _).trans ?_
  have l0 (k : Fin 1024) : View.ld X3 (Rect.unit ![0, 0] ![1, 1024] inb_S3x1024_S1x1024_0_0) (ix2 0 k) = X3 (ix2 0 k) := by pointwise
  have l1 (k : Fin 1024) : View.ld X3 (Rect.unit ![1, 0] ![1, 1024] inb_S3x1024_S1x1024_1_0) (ix2 0 k) = X3 (ix2 1 k) := by pointwise
  have l2 (k : Fin 1024) : View.ld X3 (Rect.unit ![2, 0] ![1, 1024] inb_S3x1024_S1x1024_2_0) (ix2 0 k) = X3 (ix2 2 k) := by pointwise
  refine congrArg₂ (· + ·) (by pointwise [k0_pay1]) (Finset.sum_congr rfl fun k _ => ?_)
  have hr : (y 0).val < 512 := (y 0).isLt
  have e2 : (if (y 0).val = 0 then P2 (ix2 0 k) else if (y 0).val = 1 then P1 (ix2 0 k) else k0_pay6 (F := Ideal) X0 X1 X2 (ix2 (y 0) k)) = h2 k := by
    split_ifs with c d
    · exact a0 c k
    · exact a1 d k
    · exact (s2_apply X0 X1 X2 (y 0) ⟨(y 0).val - 2, by omega⟩ k (by show (y 0).val = (y 0).val - 2 + 2; omega)).trans
        (a2 _ (by show (y 0).val = (y 0).val - 2 + 2; omega) k)
  have e1 : (if (y 0).val = 0 then P1 (ix2 0 k) else k0_pay5 (F := Ideal) X0 X1 X2 (ix2 (y 0) k)) = h1 k := by
    split_ifs with c
    · exact b0 c k
    · exact (s1_apply X0 X1 X2 (y 0) ⟨(y 0).val - 1, by omega⟩ k (by show (y 0).val = (y 0).val - 1 + 1; omega)).trans
        (b1 _ (by show (y 0).val = (y 0).val - 1 + 1; omega) k)
  rw [l0, l1, l2]
  exact congrArg₂ (· * ·) (congrArg₂ (· * ·) (b_apply X0 X1 X2 (y 0) k) (congrArg₂ (· + ·) (congrArg₂ (· + ·) (congrArg _ e2) (congrArg _ e1))
    (congrArg _ (u_apply X0 X1 X2 (y 0) k)))) rfl

/-- The rows the body keeps: the last eight gated rows. -/
theorem keep_apply (i : Fin 8) (k : Fin 1024) : k0_pay11 (F := Ideal) (k0_pay4 X0 X1 X2) (ix2 i k) = BROW X0 X1 X2 ⟨504 + i.val, by omega⟩ k := by
  rw [← u_apply]
  pointwise [k0_pay11]

/-- The rows it stores as the tail: the same. -/
theorem tail_apply (i : Fin 8) (k : Fin 1024) : k0_pay12 (F := Ideal) (k0_pay4 X0 X1 X2) (ix2 i k) = BROW X0 X1 X2 ⟨504 + i.val, by omega⟩ k := by
  rw [← u_apply]
  pointwise [k0_pay12]

/-- Row `i` of the buffer just filled with zeros' block is that row of the block. -/
theorem first_apply (v : View sig .tc .vmem S8x1024 .f32) (X5 : Vec Ideal S8x1024 .f32) (i : Fin 8) (h : ∀ a, (![i.val, 0] : Fin 2 → ℕ) a + (![1, 1024] : Fin 2 → ℕ) a ≤ S8x1024.size a) (k : Fin 1024) :
    v.readCov (Val := Elt Ideal) [⟨Rect.unit (s := S8x1024) ![0, 0] ![8, 1024] inb_S8x1024_S8x1024_0_0, k0_pay7 X5⟩] (Rect.unit (s := S8x1024) ![i.val, 0] ![1, 1024] h).toLoadRect (ix2 0 k)
      = X5 (ix2 i k) := by
  rw [View.readCov_eq_canon']
  pointwise [k0_pay7]
  frame_out

end Body

/-- Row `r` of the input block at point `t` is row `512 t + r` of the flattened input. -/
theorem blk0 (c : Dev nD) (t : Fin cfg0.N) (r : Fin 512) (k : Fin 1024) (j : Fin 16384) (h : j.val = t.val * 512 + r.val) :
    iblk m c 0 t (ix2 r k) = m ((c : Thread nD τ).loc main_arg0) (ix3 ⟨j.val / 4096, by omega⟩ ⟨j.val % 4096, by omega⟩ k) := by
  have e : (((cfg0.win 0).blk t).view.emb (ix2 r k) : S16384x1024.Idx) = ix2 j k := by blk_ext [idx t]
  show StableHlo.after hostOps0 (fun b => m (c, b)) (Proc.devRef .tc main_v1) (((cfg0.win 0).blk t).view.emb (ix2 r k)) = _
  rw [e]
  after_results
  try pointwise

/-- The gains' block is the gains. -/
theorem blk1 (c : Dev nD) (t : Fin cfg0.N) (k : Fin 1024) :
    iblk m c 1 t (ix2 (0 : Fin 1) k) = m ((c : Thread nD τ).loc main_arg1) (ix1 k) := by
  have e : (((cfg0.win 1).blk t).view.emb (ix2 (0 : Fin 1) k) : S1x1024.Idx) = ix2 (0 : Fin 1) k := by blk_ext [idx t]
  show StableHlo.after hostOps0 (fun b => m (c, b)) (Proc.devRef .tc main_v2) (((cfg0.win 1).blk t).view.emb (ix2 (0 : Fin 1) k)) = _
  rw [e]
  after_results
  try pointwise

/-- The input weights' block is the input weights. -/
theorem blk2 (c : Dev nD) (t : Fin cfg0.N) (r : Fin 1024) (k : Fin 3072) :
    iblk m c 2 t (ix2 r k) = m ((c : Thread nD τ).loc main_arg2) (ix2 r k) := by
  have e : (((cfg0.win 2).blk t).view.emb (ix2 r k) : S1024x3072.Idx) = ix2 r k := by blk_ext [idx t]
  show StableHlo.after hostOps0 (fun b => m (c, b)) (Proc.devRef .tc main_v3) (((cfg0.win 2).blk t).view.emb (ix2 r k)) = _
  rw [e]
  after_results
  try pointwise

/-- The taps' block is the taps. -/
theorem blk3 (c : Dev nD) (t : Fin cfg0.N) (r : Fin 3) (k : Fin 1024) :
    iblk m c 3 t (ix2 r k) = m ((c : Thread nD τ).loc main_arg3) (ix2 r k) := by
  have e : (((cfg0.win 3).blk t).view.emb (ix2 r k) : S3x1024.Idx) = ix2 r k := by blk_ext [idx t]
  show StableHlo.after hostOps0 (fun b => m (c, b)) (Proc.devRef .tc main_arg3) (((cfg0.win 3).blk t).view.emb (ix2 r k)) = _
  rw [e]
  after_results
  try pointwise

/-- The output weights' block is the output weights. -/
theorem blk4 (c : Dev nD) (t : Fin cfg0.N) (r : Fin 1024) (k : Fin 1024) :
    iblk m c 4 t (ix2 r k) = m ((c : Thread nD τ).loc main_arg4) (ix2 r k) := by
  have e : (((cfg0.win 4).blk t).view.emb (ix2 r k) : S1024x1024.Idx) = ix2 r k := by blk_ext [idx t]
  show StableHlo.after hostOps0 (fun b => m (c, b)) (Proc.devRef .tc main_v4) (((cfg0.win 4).blk t).view.emb (ix2 r k)) = _
  rw [e]
  after_results
  try pointwise

/-- The block before a sequence is zeros. -/
theorem blk5 (c : Dev nD) (t : Fin cfg0.N) (i : Fin 8) (k : Fin 1024) :
    iblk m c 5 t (ix2 i k) = Ideal.ofBits FTy.f32 0#32 := by
  have e : (((cfg0.win 5).blk t).view.emb (ix2 i k) : S32x1024.Idx) = ix2 (⟨t.val / 8 * 8 + i.val, by have := t.isLt; change t.val < 32 at this; omega⟩ : Fin 32) k := by blk_ext [idx t]
  show StableHlo.after hostOps0 (fun b => m (c, b)) (Proc.devRef .tc main_v0) (((cfg0.win 5).blk t).view.emb (ix2 i k)) = _
  rw [e]
  after_results
  try pointwise

/-- The gated row of the block's row `r` at point `t` is the reference's of row `512 t + r`. -/
theorem brow (c : Dev nD) (t : Fin cfg0.N) (r : Fin 512) (k : Fin 1024) (n : Fin 4) (q : Fin 4096) (h : n.val * 4096 + q.val = t.val * 512 + r.val) :
    BROW (iblk m c 0 t) (iblk m c 1 t) (iblk m c 2 t) r k
      = ROW (m ((c : Thread nD τ).loc main_arg0)) (m ((c : Thread nD τ).loc main_arg1)) (m ((c : Thread nD τ).loc main_arg2)) n q k := by
  refine Spec.convU_congr (fun k => ?_) (fun k => blk1 m c t k) (fun k l => blk2 m c t k l) k
  refine (blk0 m c t r k ⟨n.val * 4096 + q.val, by omega⟩ h).trans ?_
  exact congrArg₂ (fun a b => m ((c : Thread nD τ).loc main_arg0) (ix3 a b k)) (Fin.ext (by show (n.val * 4096 + q.val) / 4096 = n.val; omega))
    (Fin.ext (by show (n.val * 4096 + q.val) % 4096 = q.val; omega))

/-- What the body keeps for the next tile, at every point. -/
theorem kept (c : Dev nD) (t : Fin cfg0.N) (i : Fin 8) (k : Fin 1024) :
    (outsAt0 m c t.val t.isLt).2.2 (ix2 i k) = BROW (iblk m c 0 t) (iblk m c 1 t) (iblk m c 2 t) ⟨504 + i.val, by omega⟩ k := by
  by_cases h : t.val % 8 = 0
  · rw [outsAt0_A m c t h]
    dsimp only
    unfold sout0_A_0
    frame_out
    exact keep_apply _ _ _ i k
  · rw [outsAt0_B m c t h]
    dsimp only
    unfold sout0_B_0
    frame_out
    exact keep_apply _ _ _ i k

/-- What the body stores as the tail, at every point. -/
theorem stored (c : Dev nD) (t : Fin cfg0.N) (i : Fin 8) (k : Fin 1024) :
    (outsAt0 m c t.val t.isLt).2.1 (ix2 i k) = BROW (iblk m c 0 t) (iblk m c 1 t) (iblk m c 2 t) ⟨504 + i.val, by omega⟩ k := by
  by_cases h : t.val % 8 = 0
  · rw [outsAt0_A m c t h]
    dsimp only
    unfold out0_A_7
    frame_out
    exact tail_apply _ _ _ i k
  · rw [outsAt0_B m c t h]
    dsimp only
    unfold out0_B_7
    frame_out
    exact tail_apply _ _ _ i k

/-- The output row at a point, over the two rows the tile finds kept. -/
theorem step (c : Dev nD) (t : Fin cfg0.N) (y : S512x1024.Idx) (n : Fin 4) (q : Fin 4096) (hq : n.val * 4096 + q.val = t.val * 512 + (y 0).val)
    (P1 P2 : Vec Ideal S1x1024 .f32)
    (h2 : ∀ k, P2 (ix2 0 k) = HIST (m ((c : Thread nD τ).loc main_arg0)) (m ((c : Thread nD τ).loc main_arg1)) (m ((c : Thread nD τ).loc main_arg2)) (ix3 n ⟨q.val - (y 0).val, by omega⟩ k))
    (h1 : ∀ k, P1 (ix2 0 k) = HIST (m ((c : Thread nD τ).loc main_arg0)) (m ((c : Thread nD τ).loc main_arg1)) (m ((c : Thread nD τ).loc main_arg2)) (ix3 n ⟨q.val - (y 0).val + 1, by omega⟩ k)) :
    k0_pay10 (F := Ideal) (k0_pay1 (iblk m c 0 t)) (k0_pay3 (iblk m c 0 t) (iblk m c 1 t) (iblk m c 2 t)) (k0_pay4 (iblk m c 0 t) (iblk m c 1 t) (iblk m c 2 t))
        (iota .tc S512x1 32 [0] iota_S512x1_d0_w32) (k0_pay5 (iblk m c 0 t) (iblk m c 1 t) (iblk m c 2 t)) (k0_pay6 (iblk m c 0 t) (iblk m c 1 t) (iblk m c 2 t)) P1 P2 k0_pay8 (k0_pay9 P1)
        (View.ld (iblk m c 3 t) (Rect.unit ![0, 0] ![1, 1024] inb_S3x1024_S1x1024_0_0)) (View.ld (iblk m c 3 t) (Rect.unit ![1, 0] ![1, 1024] inb_S3x1024_S1x1024_1_0))
        (View.ld (iblk m c 3 t) (Rect.unit ![2, 0] ![1, 1024] inb_S3x1024_S1x1024_2_0)) (iblk m c 4 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (ix2 ⟨n.val * 4096 + q.val, by omega⟩ (y 1)) := by
  have hy : (y 0).val < 512 := (y 0).isLt
  have en : (n.val * 4096 + q.val) / 4096 = n.val := by omega
  have eq : (n.val * 4096 + q.val) % 4096 = q.val := by omega
  have ref := ref_apply (m ((c : Thread nD τ).loc main_arg0)) (m ((c : Thread nD τ).loc main_arg1)) (m ((c : Thread nD τ).loc main_arg2)) (m ((c : Thread nD τ).loc main_arg3)) (m ((c : Thread nD τ).loc main_arg4)) ⟨n.val * 4096 + q.val, by omega⟩ (y 1)
  simp only [en, eq] at ref
  refine (pay (iblk m c 0 t) (iblk m c 1 t) (iblk m c 2 t) P1 P2 (iblk m c 3 t) (iblk m c 4 t) y
    (fun k => HIST (m ((c : Thread nD τ).loc main_arg0)) (m ((c : Thread nD τ).loc main_arg1)) (m ((c : Thread nD τ).loc main_arg2)) (ix3 n ⟨q.val, by omega⟩ k)) (fun k => HIST (m ((c : Thread nD τ).loc main_arg0)) (m ((c : Thread nD τ).loc main_arg1)) (m ((c : Thread nD τ).loc main_arg2)) (ix3 n ⟨1 + q.val, by omega⟩ k)) ?_ ?_ ?_ ?_ ?_).trans
    (Eq.trans (Spec.convRow_congr (fun k => ?_) (fun k => blk1 m c t k) (fun k l => blk2 m c t k l)
        (fun k l => blk3 m c t k l) (fun _ => rfl) (fun _ => rfl)
        (fun k => (brow m c t (y 0) k n q hq).trans (hist_hi _ _ _ n ⟨2 + q.val, by omega⟩ q (Nat.add_comm _ _) k).symm)
        (fun k l => blk4 m c t k l) rfl) ref.symm)
  · intro h k
    exact (h2 k).trans (congrArg (fun i => HIST (m ((c : Thread nD τ).loc main_arg0)) (m ((c : Thread nD τ).loc main_arg1)) (m ((c : Thread nD τ).loc main_arg2)) (ix3 n i k)) (Fin.ext (by show q.val - (y 0).val = q.val; omega)))
  · intro h k
    exact (h1 k).trans (congrArg (fun i => HIST (m ((c : Thread nD τ).loc main_arg0)) (m ((c : Thread nD τ).loc main_arg1)) (m ((c : Thread nD τ).loc main_arg2)) (ix3 n i k)) (Fin.ext (by show q.val - (y 0).val + 1 = q.val; omega)))
  · intro r' h k
    exact (brow m c t r' k n ⟨q.val - 2, by omega⟩ (by show n.val * 4096 + (q.val - 2) = _; omega)).trans
      (hist_hi _ _ _ n ⟨q.val, by omega⟩ ⟨q.val - 2, by omega⟩ (by show q.val = q.val - 2 + 2; omega) k).symm
  · intro h k
    exact (h1 k).trans (congrArg (fun i => HIST (m ((c : Thread nD τ).loc main_arg0)) (m ((c : Thread nD τ).loc main_arg1)) (m ((c : Thread nD τ).loc main_arg2)) (ix3 n i k)) (Fin.ext (by show q.val - (y 0).val + 1 = 1 + q.val; omega)))
  · intro r' h k
    exact (brow m c t r' k n ⟨q.val - 1, by omega⟩ (by show n.val * 4096 + (q.val - 1) = _; omega)).trans
      (hist_hi _ _ _ n ⟨1 + q.val, by omega⟩ ⟨q.val - 1, by omega⟩ (by show 1 + q.val = q.val - 1 + 2; omega) k).symm
  · refine (blk0 m c t (y 0) k ⟨n.val * 4096 + q.val, by omega⟩ hq).trans ?_
    simp only [en, eq]

/-- The first result array after the run is the reference's. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  have h0 : ((((cfg0.win 6).blk t).view.emb y : S16384x1024.Idx) 0 : ℕ) = t.val * 512 + (y 0 : ℕ) := by blk_simp [idx t]
  have h1 : ((((cfg0.win 6).blk t).view.emb y : S16384x1024.Idx) 1 : ℕ) = (y 1 : ℕ) := by blk_simp [idx t]
  revert h0 h1
  generalize (((cfg0.win 6).blk t).view.emb y : S16384x1024.Idx) = j
  intro h0 h1
  have ht : t.val < 32 := t.isLt
  have hy : (y 0).val < 512 := (y 0).isLt
  have ej : j = ix2 (⟨(⟨t.val / 8, by omega⟩ : Fin 4).val * 4096 + (⟨t.val % 8 * 512 + (y 0).val, by omega⟩ : Fin 4096).val, by show t.val / 8 * 4096 + (t.val % 8 * 512 + (y 0).val) < 16384; omega⟩ : Fin 16384) (y 1) := by
    rw [eq_ix2 j]
    exact congrArg₂ ix2 (Fin.ext (by show (j 0).val = t.val / 8 * 4096 + (t.val % 8 * 512 + (y 0).val); omega)) (Fin.ext h1)
  blk_simp
  rw [after0_6, ej]
  have hp : t.val - 1 < cfg0.N := by
    show t.val - 1 < 32
    omega
  have hq : (⟨t.val / 8, by omega⟩ : Fin 4).val * 4096 + (⟨t.val % 8 * 512 + (y 0).val, by omega⟩ : Fin 4096).val = t.val * 512 + (y 0).val := by
    show t.val / 8 * 4096 + (t.val % 8 * 512 + (y 0).val) = _
    omega
  by_cases h : t.val % 8 = 0
  · rw [outsAt0_A m c t h]
    dsimp only
    unfold out0_A_6
    frame_out
    refine step m c t y _ _ hq _ _ (fun k => ?_) (fun k => ?_)
    · exact ((first_apply _ _ 6 _ k).trans (blk5 m c t 6 k)).trans (hist_lo _ _ _ _ _ (by show t.val % 8 * 512 + (y 0).val - (y 0).val < 2; omega) k).symm
    · exact ((first_apply _ _ 7 _ k).trans (blk5 m c t 7 k)).trans (hist_lo _ _ _ _ _ (by show t.val % 8 * 512 + (y 0).val - (y 0).val + 1 < 2; omega) k).symm
  · rw [outsAt0_B m c t h]
    dsimp only
    unfold out0_B_6
    frame_out
    refine step m c t y _ _ hq _ _ (fun k => ?_) (fun k => ?_)
    · rw [read_unread_whole]
      refine Eq.trans (Eq.trans (by pointwise) (kept m c ⟨t.val - 1, hp⟩ 6 k)) ?_
      exact (brow m c ⟨t.val - 1, hp⟩ _ k _ ⟨t.val % 8 * 512 - 2, by omega⟩ (by show t.val / 8 * 4096 + (t.val % 8 * 512 - 2) = (t.val - 1) * 512 + (504 + 6); omega)).trans
        (hist_hi _ _ _ _ _ ⟨t.val % 8 * 512 - 2, by omega⟩ (by show t.val % 8 * 512 + (y 0).val - (y 0).val = t.val % 8 * 512 - 2 + 2; omega) k).symm
    · rw [read_unread_whole]
      refine Eq.trans (Eq.trans (by pointwise) (kept m c ⟨t.val - 1, hp⟩ 7 k)) ?_
      exact (brow m c ⟨t.val - 1, hp⟩ _ k _ ⟨t.val % 8 * 512 - 1, by omega⟩ (by show t.val / 8 * 4096 + (t.val % 8 * 512 - 1) = (t.val - 1) * 512 + (504 + 7); omega)).trans
        (hist_hi _ _ _ _ _ ⟨t.val % 8 * 512 - 1, by omega⟩ (by show t.val % 8 * 512 + (y 0).val - (y 0).val + 1 = t.val % 8 * 512 - 1 + 2; omega) k).symm

/-- The second result array after the run: the last eight gated rows of every sequence. -/
theorem finalU (c : Dev nD) : (dats m 0 c).arrAt 7 (cfgs 0).N
    = ((fun j : S32x1024.Idx => ROW (m ((c : Thread nD τ).loc main_arg0)) (m ((c : Thread nD τ).loc main_arg1)) (m ((c : Thread nD τ).loc main_arg2)) ⟨(j 0).val / 8, by have := (j 0).isLt; change (j 0).val < 32 at this; omega⟩ ⟨4088 + (j 0).val % 8, by omega⟩ (j 1)) : FVec Ideal S32x1024 .f32) := by
  refine (dats m 0 c).arrAt_eq_of_covers 7 _ (by decide +kernel) fun t hf y => ?_
  have h0 : ((((cfg0.win 7).blk t).view.emb y : S32x1024.Idx) 0 : ℕ) = t.val / 8 * 8 + (y 0 : ℕ) := by blk_simp [idx t]
  have h1 : ((((cfg0.win 7).blk t).view.emb y : S32x1024.Idx) 1 : ℕ) = (y 1 : ℕ) := by blk_simp [idx t]
  revert h0 h1
  generalize (((cfg0.win 7).blk t).view.emb y : S32x1024.Idx) = j
  intro h0 h1
  have h7 := flush7 t hf
  have ht : t.val < 32 := t.isLt
  have hy : (y 0).val < 8 := (y 0).isLt
  blk_simp
  rw [after0_7]
  have e : (y 1 : Fin 1024) = j 1 := Fin.ext h1.symm
  rw [eq_ix2 y]
  refine ((stored m c t (y 0) (y 1)).trans (brow m c t _ (y 1) ⟨(j 0).val / 8, by omega⟩ ⟨4088 + (j 0).val % 8, by omega⟩
    (by show (j 0).val / 8 * 4096 + (4088 + (j 0).val % 8) = t.val * 512 + (504 + (y 0).val); omega))).trans ?_
  rw [e]

/-- Entry `(n, i)` of the last two rows of every eight. -/
theorem last_apply (U : FVec Ideal S32x1024 .f32) (n : Fin 4) (i : Fin 2) (k : Fin 1024) :
    extractStridedSlice S4x2x1024 ![0, 6, 0] (shapeCast S4x8x1024 U shapeCasts_S32x1024_S4x8x1024) slices_S4x8x1024_S4x2x1024_0_6_0 (ix3 n i k)
      = U (ix2 ⟨n.val * 8 + (6 + i.val), by omega⟩ k) := by
  pointwise

/-- The last two rows of every sequence of it are the reference's state. -/
theorem finalSt (c : Dev nD) : extractStridedSlice S4x2x1024 ![0, 6, 0] (shapeCast S4x8x1024 ((dats m 0 c).arrAt 7 (cfgs 0).N : FVec Ideal S32x1024 .f32) shapeCasts_S32x1024_S4x8x1024) slices_S4x8x1024_S4x2x1024_0_6_0
    = REFST (m ((c : Thread nD τ).loc main_arg0)) (m ((c : Thread nD τ).loc main_arg1)) (m ((c : Thread nD τ).loc main_arg2)) := by
  rw [finalU]
  funext y
  rw [eq_ix3 y]
  refine (last_apply _ (y 0) (y 1) (y 2)).trans (Eq.trans ?_ (refst_apply _ _ _ (y 0) (y 1) (y 2)).symm)
  have hn : (y 0).val < 4 := (y 0).isLt
  have hi : (y 1).val < 2 := (y 1).isLt
  exact congrArg₂ (fun a b => ROW _ _ _ a b (y 2)) (Fin.ext (by show ((y 0).val * 8 + (6 + (y 1).val)) / 8 = (y 0).val; omega))
    (Fin.ext (by show 4088 + ((y 0).val * 8 + (6 + (y 1).val)) % 8 = 4094 + (y 1).val; omega))

/-- The second array @main returns, after the lines that follow the call. -/
theorem tail (c : Dev nD) : Pipeline.afterTail₀ cfgs (dats m) 0 (V0 m) [hostOps1] c main_v7 = REFST (m ((c : Thread nD τ).loc main_arg0)) (m ((c : Thread nD τ).loc main_arg1)) (m ((c : Thread nD τ).loc main_arg2)) := by
  rw [← finalSt]
  show StableHlo.after hostOps1 (Pipeline.withArrays (cfgs 0).spec c (V0 m c) fun w => (dats m 0 c).arrAt w (cfgs 0).N) (Proc.devRef .tc main_v7) = _
  after_results
  rw [Pipeline.withArrays_arr (cfgs 0).spec (by decide) c (V0 m c) (fun w => (dats m 0 c).arrAt w (cfgs 0).N) 7]
  rfl

end Cert.ConvIdeal.Val

end
-- ==== Proof.ConvClaim.lean ====
module

public import proofs.«01_k».proof.Defs
public import proofs.«01_k».proof.Proof.Gen.Conv.Frame
public import proofs.«01_k».proof.Proof.Gen.ConvIdeal.Frame
public import proofs.«01_k».proof.Proof.Gen.ConvRefIdeal.Run
public import proofs.«01_k».proof.Proof.ConvValue
public import Idealize.ShloMosaic.Lib.Claim

/-! The short convolution of the prompt rows: the claims about it, each from one run of the program it speaks of. -/

@[expose] public section

set_option maxRecDepth 16384

noncomputable section

namespace Cert.ConvClaim

open Idealize.ShloMosaic Idealize.ShloMosaic.TcCoe Idealize.SL.Sem

/-- The kernel runs to its end and keeps its arguments. -/
theorem kernel_frame : Cert.quiescent_Conv := fun m ρ _ => Cert.Conv.Gen.frame m ρ

/-- The same of the kernel over the extended reals. -/
theorem ideal_frame : Cert.quiescent_ConvIdeal := fun m ρ _ => Cert.ConvIdeal.Gen.frame m ρ

/-- The same of the reference. -/
theorem ref_frame : Cert.quiescent_ConvRefIdeal := fun m ρ _ =>
  (θ_run _ _ _).mono (fun r h => ⟨fun c => (h c).2.2, sem_eq_zero_of_no_sems (by decide) r.2⟩) (Cert.ConvRefIdeal.Value.run m ρ)

/-- Over the extended reals the kernel's result array is the reference's. -/
theorem algebraic : Cert.algebraic_ConvIdeal_ConvRefIdeal := by
  pair_intro
  · run_from Cert.ConvIdeal.Gen.run_main m g
    all_goals first | exact Cert.ConvIdeal.Gen.W_main_arg0 m (Cert.ConvIdeal.Gen.dats m) _ | exact Cert.ConvIdeal.Gen.W_main_arg1 m (Cert.ConvIdeal.Gen.dats m) _ | exact Cert.ConvIdeal.Gen.W_main_arg2 m (Cert.ConvIdeal.Gen.dats m) _ | exact Cert.ConvIdeal.Gen.W_main_arg4 m (Cert.ConvIdeal.Gen.dats m) _
  · run_from Cert.ConvRefIdeal.Value.run m' g'
    · rw [Cert.ConvRefIdeal.Read.val_main_v44_eq, (hagree c).1, (hagree c).2.1, (hagree c).2.2.1, (hagree c).2.2.2.1, (hagree c).2.2.2.2]
      exact (Cert.ConvIdeal.Val.final m c).symm
    · exact (Cert.ConvRefIdeal.Read.val_main_v42_eq _ _ _).trans (Cert.ConvIdeal.Val.tail m c).symm

end Cert.ConvClaim

end
-- ==== Proof.ConvSValue.lean ====
module

public import proofs.«01_k».proof.Proof.Gen.ConvSIdeal.Frame
public import proofs.«01_k».proof.Proof.Gen.ConvSRefIdeal.Read
public import proofs.«01_k».proof.Proof.Spec
public import Idealize.ShloMosaic.Lib.KernelVsHost

/-! The sample rows' short convolution: both arrays the call returns are the reference's, row by row. -/

@[expose] public section

set_option maxRecDepth 16384

noncomputable section

namespace Cert.ConvSIdeal.Val

open Cert.ConvSIdeal Cert.ConvSIdeal.Gen Idealize.ShloMosaic Idealize.ShloMosaic.TcCoe Idealize.SL.Sem
open Idealize.ShloMosaic.Pipeline (Dat)

/-- A call argument's contents. -/
abbrev Arr (s : Shape) := (⟨s, .f32⟩ : BufTy).Contents (Elt Ideal)

section Reference
open Cert.ConvSRefIdeal Cert.ConvSRefIdeal.Read

variable (x0 : Arr Cert.ConvSRefIdeal.S32x8x1024) (x1 : Arr Cert.ConvSRefIdeal.S32x2x1024) (x2 : Arr Cert.ConvSRefIdeal.S1024)
  (x3 : Arr Cert.ConvSRefIdeal.S1024x3072) (x4 : Arr Cert.ConvSRefIdeal.S3x1024) (x5 : Arr Cert.ConvSRefIdeal.S1024x1024)

/-- The reference's history: the two rows of the state, then the gated rows of the sequence. -/
abbrev HIST : FVec Ideal Cert.ConvSRefIdeal.S32x10x1024 .f32 := val_main_v18 (F := Ideal) x0 x1 x2 x3

/-- The reference's first result as a function of the arguments. -/
abbrev REF : FVec Ideal Cert.ConvSRefIdeal.S256x1024 .f32 := val_main_v43 (F := Ideal) x0 x1 x2 x3 x4 x5

/-- The reference's second result: the last two rows of the history. -/
abbrev REFST : FVec Ideal Cert.ConvSRefIdeal.S32x2x1024 .f32 := val_main_v41 (F := Ideal) x0 x1 x2 x3

/-- Sequence `n`'s gated row at position `t`. -/
abbrev ROW (n : Fin 32) (t : Fin 8) (k : Fin 1024) : EReal :=
  Spec.convU (fun k => x0 (ix3 n t k)) (fun k => x2 (ix1 k)) (fun k j => x3 (ix2 k j)) k

/-- The gated rows of the reference. -/
theorem ref_u (n : Fin 32) (t : Fin 8) (k : Fin 1024) : val_main_v17 (F := Ideal) x0 x2 x3 (ix3 n t k) = ROW x0 x2 x3 n t k := by
  pointwise [val_main_v17, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The first two rows of the history are the state. -/
theorem hist_lo (n : Fin 32) (i : Fin 10) (i' : Fin 2) (h : i.val = i'.val) (k : Fin 1024) : HIST x0 x1 x2 x3 (ix3 n i k) = x1 (ix3 n i' k) := by
  pointwise [HIST, val_main_v18]
  rw [dif_pos (by omega)]
  exact congrArg (fun j => x1 (ix3 n j k)) (Fin.ext h)

/-- The others are the gated rows, two positions on. -/
theorem hist_hi (n : Fin 32) (i : Fin 10) (t : Fin 8) (h : i.val = t.val + 2) (k : Fin 1024) : HIST x0 x1 x2 x3 (ix3 n i k) = ROW x0 x2 x3 n t k := by
  rw [← ref_u]
  pointwise [HIST, val_main_v18]
  rw [dif_neg (by omega)]
  exact congrArg (fun j => val_main_v17 (F := Ideal) x0 x2 x3 (ix3 n j k)) (Fin.ext (by show i.val - 2 = t.val; omega))

/-- The reference's first result, row by row. -/
theorem ref_apply (r : Fin 256) (d : Fin 1024) :
    REF x0 x1 x2 x3 x4 x5 (ix2 r d)
      = Spec.convRow (fun k => x0 (ix3 ⟨r.val / 8, by omega⟩ ⟨r.val % 8, by omega⟩ k)) (fun k => x2 (ix1 k)) (fun k j => x3 (ix2 k j))
          (fun j k => x4 (ix2 j k)) (fun k => HIST x0 x1 x2 x3 (ix3 ⟨r.val / 8, by omega⟩ ⟨r.val % 8, by omega⟩ k))
          (fun k => HIST x0 x1 x2 x3 (ix3 ⟨r.val / 8, by omega⟩ ⟨1 + r.val % 8, by omega⟩ k))
          (fun k => HIST x0 x1 x2 x3 (ix3 ⟨r.val / 8, by omega⟩ ⟨2 + r.val % 8, by omega⟩ k)) (fun k j => x5 (ix2 k j)) d := by
  pointwise [REF, val_main_v43, val_main_v42, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v17, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The reference's second result, row by row. -/
theorem refst_apply (n : Fin 32) (i : Fin 2) (k : Fin 1024) : REFST x0 x1 x2 x3 (ix3 n i k) = ROW x0 x2 x3 n ⟨6 + i.val, by omega⟩ k := by
  rw [← hist_hi x0 x1 x2 x3 n ⟨8 + i.val, by omega⟩ ⟨6 + i.val, by omega⟩ (by show 8 + i.val = 6 + i.val + 2; omega)]
  pointwise [REFST, val_main_v41]

end Reference

variable (m : (ℓ : Loc nD τ sig) → Buf (Elt Ideal) ℓ)

/-- The block every grid point of each window works on. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- Row `r` of the block stands at position `r mod 8` of its sequence, as the body computes it. -/
theorem pos : ∀ r : Fin 256, select k0_pay8 (addi k0_pay7 k0_pay9) k0_pay7 (ix2 r (0 : Fin 1)) = BitVec.ofNat 32 (r.val % 8) := by
  decide +kernel

section Body
variable (X0 : Vec Ideal S256x1024 .f32) (X1 : Vec Ideal S1x1024 .f32) (X2 : Vec Ideal S1024x3072 .bf16)

/-- The gated row of row `r` of the block. -/
abbrev BROW (r : Fin 256) (k : Fin 1024) : EReal := Spec.convU (fun k => X0 (ix2 r k)) (fun k => X1 (ix2 0 k)) (fun k j => X2 (ix2 k j)) k

/-- The gated rows the body computes. -/
theorem u_apply (r : Fin 256) (k : Fin 1024) : k0_pay4 (F := Ideal) X0 X1 X2 (ix2 r k) = BROW X0 X1 X2 r k := by
  pointwise [k0_pay4, k0_pay2, k0_pay1]
  rfl

/-- The gates the body computes. -/
theorem b_apply (r : Fin 256) (k : Fin 1024) :
    k0_pay3 (F := Ideal) X0 X1 X2 (ix2 r k) = Spec.proj (fun k => X0 (ix2 r k)) (fun k => X1 (ix2 0 k)) (fun k j => X2 (ix2 k j)) ⟨k.val, by omega⟩ := by
  pointwise [k0_pay3, k0_pay2, k0_pay1]
  rfl

/-- The rows moved one down. -/
theorem s1_apply (r r' : Fin 256) (k : Fin 1024) (h : r.val = r'.val + 1) : k0_pay5 (F := Ideal) X0 X1 X2 (ix2 r k) = BROW X0 X1 X2 r' k := by
  rw [← u_apply]
  unfold k0_pay5
  refine dynamicRotate_apply (s := S256x1024) 0 1#32 _ _ _ _ fun b => ?_
  fin_cases b
  · show r'.val = (r.val + 256 - 1) % 256
    omega
  · rfl

/-- The rows moved two down. -/
theorem s2_apply (r r' : Fin 256) (k : Fin 1024) (h : r.val = r'.val + 2) : k0_pay6 (F := Ideal) X0 X1 X2 (ix2 r k) = BROW X0 X1 X2 r' k := by
  rw [← u_apply]
  unfold k0_pay6
  refine dynamicRotate_apply (s := S256x1024) 0 2#32 _ _ _ _ fun b => ?_
  fin_cases b
  · show r'.val = (r.val + 256 - 2) % 256
    omega
  · rfl

/-- The output row over any gated rows, rows before them and weights. -/
theorem out_apply (X B U R1 R2 P0 P1 : FVec Ideal S256x1024 .f32) (c0 c1 c2 : Vec Ideal S1x1024 .f32) (W : Vec Ideal S1024x1024 .bf16) (r : Fin 256) (d : Fin 1024) :
    k0_pay10 (F := Ideal) X B U R1 R2 k0_pay7 k0_pay8 k0_pay9 P1 P0 P1 c0 c1 c2 W (ix2 r d)
      = X (ix2 r d) + ∑ k, B (ix2 r k) * (c0 (ix2 0 k) * (if r.val % 8 = 0 then P0 (ix2 r k) else if r.val % 8 = 1 then P1 (ix2 r k) else R2 (ix2 r k))
          + c1 (ix2 0 k) * (if r.val % 8 = 0 then P1 (ix2 r k) else R1 (ix2 r k)) + c2 (ix2 0 k) * U (ix2 r k)) * W (ix2 k d) := by
  have e (b : ℕ) (hb : b < 2) (x y : EReal) : Scalar.select (IntOp.cmpi .eq (BitVec.ofNat 32 (r.val % 8)) (BitVec.ofNat 32 b)) x y = if r.val % 8 = b then x else y := by
    rw [WordCmp.cmpi_eq_ofNat (by omega) (by omega), WordCmp.select_decide]
  pointwise [k0_pay10, pos]
  simp only [e 0 (by omega), e 1 (by omega)]

/-- What the body stores into the output block: the step's row, over any rows `h2`, `h1` that are the state's or the gated
    rows before, according to the position. -/
theorem pay (X3 : Vec Ideal S3x1024 .f32) (X4 : Vec Ideal S1024x1024 .bf16) (X5 X6 : Vec Ideal S256x1024 .f32) (y : S256x1024.Idx) (h2 h1 : Fin 1024 → EReal)
    (a0 : (y 0).val % 8 = 0 → ∀ k, X5 (ix2 (y 0) k) = h2 k) (a1 : (y 0).val % 8 = 1 → ∀ k, X6 (ix2 (y 0) k) = h2 k)
    (a2 : ∀ r' : Fin 256, (y 0).val = r'.val + 2 → 2 ≤ (y 0).val % 8 → ∀ k, BROW X0 X1 X2 r' k = h2 k)
    (b0 : (y 0).val % 8 = 0 → ∀ k, X6 (ix2 (y 0) k) = h1 k)
    (b1 : ∀ r' : Fin 256, (y 0).val = r'.val + 1 → 1 ≤ (y 0).val % 8 → ∀ k, BROW X0 X1 X2 r' k = h1 k) :
    out0_7 (F := Ideal) X0 X1 X2 X3 X4 X5 X6 y
      = Spec.convRow (fun k => X0 (ix2 (y 0) k)) (fun k => X1 (ix2 0 k)) (fun k j => X2 (ix2 k j)) (fun j k => X3 (ix2 j k)) h2 h1
          (BROW X0 X1 X2 (y 0)) (fun k j => X4 (ix2 k j)) (y 1) := by
  unfold out0_7
  unfold k0_pay11
  frame_out
  rw [eq_ix2 y]
  refine (out_apply _ _ _ _ _ _ _ _ _ _ _ _ _).trans ?_
  have l0 (k : Fin 1024) : View.ld X3 r0_3 (ix2 0 k) = X3 (ix2 0 k) := by pointwise [r0_3]
  have l1 (k : Fin 1024) : View.ld X3 r0_4 (ix2 0 k) = X3 (ix2 1 k) := by pointwise [r0_4]
  have l2 (k : Fin 1024) : View.ld X3 r0_5 (ix2 0 k) = X3 (ix2 2 k) := by pointwise [r0_5]
  refine congrArg₂ (· + ·) (by pointwise [k0_pay1]) (Finset.sum_congr rfl fun k _ => ?_)
  have hr : (y 0).val < 256 := (y 0).isLt
  have e2 : (if (y 0).val % 8 = 0 then X5 (ix2 (y 0) k) else if (y 0).val % 8 = 1 then X6 (ix2 (y 0) k) else k0_pay6 (F := Ideal) X0 X1 X2 (ix2 (y 0) k)) = h2 k := by
    split_ifs with c d
    · exact a0 c k
    · exact a1 d k
    · exact (s2_apply X0 X1 X2 (y 0) ⟨(y 0).val - 2, by omega⟩ k (by show (y 0).val = (y 0).val - 2 + 2; omega)).trans
        (a2 _ (by show (y 0).val = (y 0).val - 2 + 2; omega) (by omega) k)
  have e1 : (if (y 0).val % 8 = 0 then X6 (ix2 (y 0) k) else k0_pay5 (F := Ideal) X0 X1 X2 (ix2 (y 0) k)) = h1 k := by
    split_ifs with c
    · exact b0 c k
    · exact (s1_apply X0 X1 X2 (y 0) ⟨(y 0).val - 1, by omega⟩ k (by show (y 0).val = (y 0).val - 1 + 1; omega)).trans
        (b1 _ (by show (y 0).val = (y 0).val - 1 + 1; omega) (by omega) k)
  rw [l0, l1, l2]
  exact congrArg₂ (· * ·) (congrArg₂ (· * ·) (b_apply X0 X1 X2 (y 0) k) (congrArg₂ (· + ·) (congrArg₂ (· + ·) (congrArg _ e2) (congrArg _ e1))
    (congrArg _ (u_apply X0 X1 X2 (y 0) k)))) rfl

end Body

/-- Row `r` of the input block at point `t` is row `256 t + r` of the flattened input. -/
theorem blk0 (c : Dev nD) (t : Fin cfg0.N) (r : Fin 256) (k : Fin 1024) (j : Fin 256) (h : j.val = t.val * 256 + r.val) :
    iblk m c 0 t (ix2 r k) = m ((c : Thread nD τ).loc main_arg0) (ix3 ⟨j.val / 8, by omega⟩ ⟨j.val % 8, by omega⟩ k) := by
  have e : (((cfg0.win 0).blk t).view.emb (ix2 r k) : S256x1024.Idx) = ix2 j k := by blk_ext [idx t]
  show StableHlo.after hostOps0 (fun b => m (c, b)) (Proc.devRef .tc main_v8) (((cfg0.win 0).blk t).view.emb (ix2 r k)) = _
  rw [e]
  after_results
  pointwise

/-- The gains' block is the gains. -/
theorem blk1 (c : Dev nD) (t : Fin cfg0.N) (k : Fin 1024) : iblk m c 1 t (ix2 0 k) = m ((c : Thread nD τ).loc main_arg2) (ix1 k) := by
  have e : (((cfg0.win 1).blk t).view.emb (ix2 (0 : Fin 1) k) : S1x1024.Idx) = ix2 (0 : Fin 1) k := by blk_ext [idx t]
  show StableHlo.after hostOps0 (fun b => m (c, b)) (Proc.devRef .tc main_v9) (((cfg0.win 1).blk t).view.emb (ix2 (0 : Fin 1) k)) = _
  rw [e]
  after_results
  try pointwise

/-- The input weights' block is the input weights. -/
theorem blk2 (c : Dev nD) (t : Fin cfg0.N) (r : Fin 1024) (k : Fin 3072) : iblk m c 2 t (ix2 r k) = m ((c : Thread nD τ).loc main_arg3) (ix2 r k) := by
  have e : (((cfg0.win 2).blk t).view.emb (ix2 r k) : S1024x3072.Idx) = ix2 r k := by blk_ext [idx t]
  show StableHlo.after hostOps0 (fun b => m (c, b)) (Proc.devRef .tc main_v10) (((cfg0.win 2).blk t).view.emb (ix2 r k)) = _
  rw [e]
  after_results
  try pointwise

/-- The taps' block is the taps. -/
theorem blk3 (c : Dev nD) (t : Fin cfg0.N) (r : Fin 3) (k : Fin 1024) : iblk m c 3 t (ix2 r k) = m ((c : Thread nD τ).loc main_arg4) (ix2 r k) := by
  have e : (((cfg0.win 3).blk t).view.emb (ix2 r k) : S3x1024.Idx) = ix2 r k := by blk_ext [idx t]
  show StableHlo.after hostOps0 (fun b => m (c, b)) (Proc.devRef .tc main_arg4) (((cfg0.win 3).blk t).view.emb (ix2 r k)) = _
  rw [e]
  after_results
  try pointwise

/-- The output weights' block is the output weights. -/
theorem blk4 (c : Dev nD) (t : Fin cfg0.N) (r : Fin 1024) (k : Fin 1024) : iblk m c 4 t (ix2 r k) = m ((c : Thread nD τ).loc main_arg5) (ix2 r k) := by
  have e : (((cfg0.win 4).blk t).view.emb (ix2 r k) : S1024x1024.Idx) = ix2 r k := by blk_ext [idx t]
  show StableHlo.after hostOps0 (fun b => m (c, b)) (Proc.devRef .tc main_v11) (((cfg0.win 4).blk t).view.emb (ix2 r k)) = _
  rw [e]
  after_results
  try pointwise

/-- Row `r` of the block of repeated older states is the first state row of the sequence the row lies in. -/
theorem blk5 (c : Dev nD) (t : Fin cfg0.N) (r : Fin 256) (k : Fin 1024) (j : Fin 256) (h : j.val = t.val * 256 + r.val) :
    iblk m c 5 t (ix2 r k) = m ((c : Thread nD τ).loc main_arg1) (ix3 ⟨j.val / 8, by omega⟩ 0 k) := by
  have e : (((cfg0.win 5).blk t).view.emb (ix2 r k) : S256x1024.Idx) = ix2 j k := by blk_ext [idx t]
  show StableHlo.after hostOps0 (fun b => m (c, b)) (Proc.devRef .tc main_v3) (((cfg0.win 5).blk t).view.emb (ix2 r k)) = _
  rw [e]
  after_results
  pointwise

/-- The same of the newer states: the second state row. -/
theorem blk6 (c : Dev nD) (t : Fin cfg0.N) (r : Fin 256) (k : Fin 1024) (j : Fin 256) (h : j.val = t.val * 256 + r.val) :
    iblk m c 6 t (ix2 r k) = m ((c : Thread nD τ).loc main_arg1) (ix3 ⟨j.val / 8, by omega⟩ 1 k) := by
  have e : (((cfg0.win 6).blk t).view.emb (ix2 r k) : S256x1024.Idx) = ix2 j k := by blk_ext [idx t]
  show StableHlo.after hostOps0 (fun b => m (c, b)) (Proc.devRef .tc main_v7) (((cfg0.win 6).blk t).view.emb (ix2 r k)) = _
  rw [e]
  after_results
  pointwise

/-- The gated row of the block's row `r` at point `t` is the reference's of row `256 t + r`. -/
theorem brow (c : Dev nD) (t : Fin cfg0.N) (r : Fin 256) (k : Fin 1024) (j : Fin 256) (h : j.val = t.val * 256 + r.val) :
    BROW (iblk m c 0 t) (iblk m c 1 t) (iblk m c 2 t) r k
      = ROW (m ((c : Thread nD τ).loc main_arg0)) (m ((c : Thread nD τ).loc main_arg2)) (m ((c : Thread nD τ).loc main_arg3)) ⟨j.val / 8, by omega⟩ ⟨j.val % 8, by omega⟩ k :=
  Spec.convU_congr (fun k => blk0 m c t r k j h) (fun k => blk1 m c t k) (fun k l => blk2 m c t k l) k

/-- The first result array after the run is the reference's. -/
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  have h0 : ((((cfg0.win 7).blk t).view.emb y : S256x1024.Idx) 0 : ℕ) = t.val * 256 + (y 0 : ℕ) := by blk_simp [idx t]
  have h1 : ((((cfg0.win 7).blk t).view.emb y : S256x1024.Idx) 1 : ℕ) = (y 1 : ℕ) := by blk_simp [idx t]
  revert h0 h1
  generalize (((cfg0.win 7).blk t).view.emb y : S256x1024.Idx) = j
  intro h0 h1
  have hj : (j 0).val < 256 := (j 0).isLt
  blk_simp
  rw [after0_7, eq_ix2 j]
  refine (pay (iblk m c 0 t) (iblk m c 1 t) (iblk m c 2 t) (iblk m c 3 t) (iblk m c 4 t) (iblk m c 5 t) (iblk m c 6 t) y
    (fun k => HIST (m ((c : Thread nD τ).loc main_arg0)) (m ((c : Thread nD τ).loc main_arg1)) (m ((c : Thread nD τ).loc main_arg2)) (m ((c : Thread nD τ).loc main_arg3))
      (ix3 ⟨(j 0).val / 8, by omega⟩ ⟨(j 0).val % 8, by omega⟩ k))
    (fun k => HIST (m ((c : Thread nD τ).loc main_arg0)) (m ((c : Thread nD τ).loc main_arg1)) (m ((c : Thread nD τ).loc main_arg2)) (m ((c : Thread nD τ).loc main_arg3))
      (ix3 ⟨(j 0).val / 8, by omega⟩ ⟨1 + (j 0).val % 8, by omega⟩ k)) ?_ ?_ ?_ ?_ ?_).trans
    (Eq.trans (Spec.convRow_congr (fun k => blk0 m c t (y 0) k (j 0) h0) (fun k => blk1 m c t k) (fun k l => blk2 m c t k l)
        (fun k l => blk3 m c t k l) (fun _ => rfl) (fun _ => rfl)
        (fun k => (brow m c t (y 0) k (j 0) h0).trans (hist_hi _ _ _ _ _ ⟨2 + (j 0).val % 8, by omega⟩ _ (Nat.add_comm _ _) k).symm)
        (fun k l => blk4 m c t k l) (Fin.ext h1.symm))
      (ref_apply _ _ _ _ _ _ _ _).symm)
  · intro h k
    exact (blk5 m c t (y 0) k (j 0) h0).trans (hist_lo _ _ _ _ _ _ 0 (by show (j 0).val % 8 = 0; omega) k).symm
  · intro h k
    exact (blk6 m c t (y 0) k (j 0) h0).trans (hist_lo _ _ _ _ _ _ 1 (by show (j 0).val % 8 = 1; omega) k).symm
  · intro r' hr h k
    refine (brow m c t r' k ⟨t.val * 256 + r'.val, by omega⟩ rfl).trans ?_
    rw [← hist_hi _ (m ((c : Thread nD τ).loc main_arg1)) _ _ _ ⟨(t.val * 256 + r'.val) % 8 + 2, by omega⟩ _ rfl]
    exact congrArg₂ (fun a b => HIST _ _ _ _ (ix3 a b k)) (Fin.ext (by show (t.val * 256 + r'.val) / 8 = (j 0).val / 8; omega))
      (Fin.ext (by show (t.val * 256 + r'.val) % 8 + 2 = (j 0).val % 8; omega))
  · intro h k
    exact (blk6 m c t (y 0) k (j 0) h0).trans (hist_lo _ _ _ _ _ _ 1 (by show 1 + (j 0).val % 8 = 1; omega) k).symm
  · intro r' hr h k
    refine (brow m c t r' k ⟨t.val * 256 + r'.val, by omega⟩ rfl).trans ?_
    rw [← hist_hi _ (m ((c : Thread nD τ).loc main_arg1)) _ _ _ ⟨(t.val * 256 + r'.val) % 8 + 2, by omega⟩ _ rfl]
    exact congrArg₂ (fun a b => HIST _ _ _ _ (ix3 a b k)) (Fin.ext (by show (t.val * 256 + r'.val) / 8 = (j 0).val / 8; omega))
      (Fin.ext (by show (t.val * 256 + r'.val) % 8 + 2 = 1 + (j 0).val % 8; omega))

/-- The second result array after the run is the gated rows. -/
theorem finalU (c : Dev nD) : (dats m 0 c).arrAt 8 (cfgs 0).N
    = ((fun j : S256x1024.Idx => ROW (m ((c : Thread nD τ).loc main_arg0)) (m ((c : Thread nD τ).loc main_arg2)) (m ((c : Thread nD τ).loc main_arg3))
        ⟨(j 0).val / 8, by have := (j 0).isLt; change (j 0).val < 256 at this; omega⟩ ⟨(j 0).val % 8, by omega⟩ (j 1)) : FVec Ideal S256x1024 .f32) := by
  refine (dats m 0 c).arrAt_eq_of_covers 8 _ (by decide +kernel) fun t _ y => ?_
  have h0 : ((((cfg0.win 8).blk t).view.emb y : S256x1024.Idx) 0 : ℕ) = t.val * 256 + (y 0 : ℕ) := by blk_simp [idx t]
  have h1 : ((((cfg0.win 8).blk t).view.emb y : S256x1024.Idx) 1 : ℕ) = (y 1 : ℕ) := by blk_simp [idx t]
  revert h0 h1
  generalize (((cfg0.win 8).blk t).view.emb y : S256x1024.Idx) = j
  intro h0 h1
  blk_simp
  rw [after0_8]
  unfold out0_8
  unfold k0_pay11
  frame_out
  have e : (y 1 : Fin 1024) = j 1 := Fin.ext h1.symm
  rw [eq_ix2 y]
  refine ((u_apply _ _ _ (y 0) (y 1)).trans (brow m c t (y 0) (y 1) (j 0) h0)).trans ?_
  rw [e]

/-- Entry `(n, i)` of the last two rows of every eight. -/
theorem last_apply (U : FVec Ideal S256x1024 .f32) (n : Fin 32) (i : Fin 2) (k : Fin 1024) :
    extractStridedSlice S32x2x1024 ![0, 6, 0] (shapeCast S32x8x1024 U shapeCasts_S256x1024_S32x8x1024) slices_S32x8x1024_S32x2x1024_0_6_0 (ix3 n i k)
      = U (ix2 ⟨n.val * 8 + (6 + i.val), by omega⟩ k) := by
  pointwise

/-- The last two rows of every sequence of it are the reference's state. -/
theorem finalSt (c : Dev nD) : extractStridedSlice S32x2x1024 ![0, 6, 0] (shapeCast S32x8x1024 ((dats m 0 c).arrAt 8 (cfgs 0).N : FVec Ideal S256x1024 .f32) shapeCasts_S256x1024_S32x8x1024) slices_S32x8x1024_S32x2x1024_0_6_0
    = REFST (m ((c : Thread nD τ).loc main_arg0)) (m ((c : Thread nD τ).loc main_arg1)) (m ((c : Thread nD τ).loc main_arg2)) (m ((c : Thread nD τ).loc main_arg3)) := by
  rw [finalU]
  funext y
  rw [eq_ix3 y]
  refine (last_apply _ (y 0) (y 1) (y 2)).trans (Eq.trans ?_ (refst_apply _ _ _ _ (y 0) (y 1) (y 2)).symm)
  have hn : (y 0).val < 32 := (y 0).isLt
  have hi : (y 1).val < 2 := (y 1).isLt
  exact congrArg₂ (fun a b => ROW _ _ _ a b (y 2)) (Fin.ext (by show ((y 0).val * 8 + (6 + (y 1).val)) / 8 = (y 0).val; omega))
    (Fin.ext (by show ((y 0).val * 8 + (6 + (y 1).val)) % 8 = 6 + (y 1).val; omega))

/-- The second array @main returns, after the lines that follow the call. -/
theorem tail (c : Dev nD) : Pipeline.afterTail₀ cfgs (dats m) 0 (V0 m) [hostOps1] c main_v14
    = REFST (m ((c : Thread nD τ).loc main_arg0)) (m ((c : Thread nD τ).loc main_arg1)) (m ((c : Thread nD τ).loc main_arg2)) (m ((c : Thread nD τ).loc main_arg3)) := by
  rw [← finalSt]
  show StableHlo.after hostOps1 (Pipeline.withArrays (cfgs 0).spec c (V0 m c) fun w => (dats m 0 c).arrAt w (cfgs 0).N) (Proc.devRef .tc main_v14) = _
  after_results
  rw [Pipeline.withArrays_arr (cfgs 0).spec (by decide) c (V0 m c) (fun w => (dats m 0 c).arrAt w (cfgs 0).N) 8]
  rfl

end Cert.ConvSIdeal.Val

end
-- ==== Proof.ConvSClaim.lean ====
module

public import proofs.«01_k».proof.Defs
public import proofs.«01_k».proof.Proof.Gen.ConvS.Frame
public import proofs.«01_k».proof.Proof.Gen.ConvSIdeal.Frame
public import proofs.«01_k».proof.Proof.Gen.ConvSRefIdeal.Run
public import proofs.«01_k».proof.Proof.ConvSValue
public import Idealize.ShloMosaic.Lib.Claim

/-! The short convolution of the sample rows: the claims about it, each from one run of the program it speaks of. -/

@[expose] public section

set_option maxRecDepth 16384

noncomputable section

namespace Cert.ConvSClaim

open Idealize.ShloMosaic Idealize.ShloMosaic.TcCoe Idealize.SL.Sem

/-- The kernel runs to its end and keeps its arguments. -/
theorem kernel_frame : Cert.quiescent_ConvS := fun m ρ _ => Cert.ConvS.Gen.frame m ρ

/-- The same of the kernel over the extended reals. -/
theorem ideal_frame : Cert.quiescent_ConvSIdeal := fun m ρ _ => Cert.ConvSIdeal.Gen.frame m ρ

/-- The same of the reference. -/
theorem ref_frame : Cert.quiescent_ConvSRefIdeal := fun m ρ _ =>
  (θ_run _ _ _).mono (fun r h => ⟨fun c => (h c).2.2, sem_eq_zero_of_no_sems (by decide) r.2⟩) (Cert.ConvSRefIdeal.Value.run m ρ)

/-- Over the extended reals the kernel's result array is the reference's. -/
theorem algebraic : Cert.algebraic_ConvSIdeal_ConvSRefIdeal := by
  pair_intro
  · run_from Cert.ConvSIdeal.Gen.run_main m g
    all_goals first | exact Cert.ConvSIdeal.Gen.W_main_arg0 m (Cert.ConvSIdeal.Gen.dats m) _ | exact Cert.ConvSIdeal.Gen.W_main_arg1 m (Cert.ConvSIdeal.Gen.dats m) _ | exact Cert.ConvSIdeal.Gen.W_main_arg2 m (Cert.ConvSIdeal.Gen.dats m) _ | exact Cert.ConvSIdeal.Gen.W_main_arg3 m (Cert.ConvSIdeal.Gen.dats m) _ | exact Cert.ConvSIdeal.Gen.W_main_arg5 m (Cert.ConvSIdeal.Gen.dats m) _
  · run_from Cert.ConvSRefIdeal.Value.run m' g'
    · rw [Cert.ConvSRefIdeal.Read.val_main_v43_eq, (hagree c).1, (hagree c).2.1, (hagree c).2.2.1, (hagree c).2.2.2.1, (hagree c).2.2.2.2.1, (hagree c).2.2.2.2.2]
      exact (Cert.ConvSIdeal.Val.final m c).symm
    · exact (Cert.ConvSRefIdeal.Read.val_main_v41_eq _ _ _ _).trans (Cert.ConvSIdeal.Val.tail m c).symm

end Cert.ConvSClaim

end
-- ==== Proof.MixSValue.lean ====
module

public import proofs.«01_k».proof.Proof.Gen.MixSIdeal.Value
public import proofs.«01_k».proof.Proof.Gen.MixSRefIdeal.Read
public import proofs.«01_k».proof.Proof.Spec

/-! The sample rows' output projection and feed-forward step: the call's result array is
    the reference's, row by row. -/

@[expose] public section

set_option maxRecDepth 16384

noncomputable section

namespace Cert.MixSIdeal.Val

open Cert.MixSIdeal Cert.MixSIdeal.Gen Idealize.ShloMosaic Idealize.ShloMosaic.TcCoe Idealize.SL.Sem
open Idealize.ShloMosaic.Pipeline (Dat)

variable (m : (ℓ : Loc nD τ sig) → Buf (Elt Ideal) ℓ)

/-- The block every grid point of each window works on. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The reference's result as a function of the arguments. -/
abbrev REF (x0 : (⟨Cert.MixSRefIdeal.S32x8x1024, .f32⟩ : BufTy).Contents (Elt Ideal)) (x1 : (⟨Cert.MixSRefIdeal.S32x8x1024, .f32⟩ : BufTy).Contents (Elt Ideal))
    (x2 : (⟨Cert.MixSRefIdeal.S1024x1024, .f32⟩ : BufTy).Contents (Elt Ideal)) (x3 : (⟨Cert.MixSRefIdeal.S1024, .f32⟩ : BufTy).Contents (Elt Ideal))
    (x4 : (⟨Cert.MixSRefIdeal.S1024x5632, .f32⟩ : BufTy).Contents (Elt Ideal)) (x5 : (⟨Cert.MixSRefIdeal.S2816x1024, .f32⟩ : BufTy).Contents (Elt Ideal)) : FVec Ideal S256x1024 .f32 :=
  Cert.MixSRefIdeal.Read.val_main_v24 (F := Ideal) x0 x1 x2 x3 x4 x5

open Cert.MixSRefIdeal.Read in
/-- The reference's result, row by row: the projection added, then the feed-forward step. -/
theorem ref_apply (x0 : (⟨Cert.MixSRefIdeal.S32x8x1024, .f32⟩ : BufTy).Contents (Elt Ideal)) (x1 : (⟨Cert.MixSRefIdeal.S32x8x1024, .f32⟩ : BufTy).Contents (Elt Ideal))
    (x2 : (⟨Cert.MixSRefIdeal.S1024x1024, .f32⟩ : BufTy).Contents (Elt Ideal)) (x3 : (⟨Cert.MixSRefIdeal.S1024, .f32⟩ : BufTy).Contents (Elt Ideal))
    (x4 : (⟨Cert.MixSRefIdeal.S1024x5632, .f32⟩ : BufTy).Contents (Elt Ideal)) (x5 : (⟨Cert.MixSRefIdeal.S2816x1024, .f32⟩ : BufTy).Contents (Elt Ideal)) (r : Fin 256) (d : Fin 1024) :
    REF x0 x1 x2 x3 x4 x5 (ix2 r d)
      = Spec.ffnRow (Spec.addProj (fun k => x0 (ix3 ⟨r.val / 8, by omega⟩ ⟨r.val % 8, by omega⟩ k)) (fun k => x1 (ix3 ⟨r.val / 8, by omega⟩ ⟨r.val % 8, by omega⟩ k))
          (fun k j => x2 (ix2 k j))) (fun k => x3 (ix1 k)) (fun k j => x4 (ix2 k j)) (fun k j => x5 (ix2 k j)) d := by
  pointwise [REF, val_main_v24, val_main_v23, val_main_v22, val_main_v21, val_main_cst_2, val_main_v20, val_main_v19, val_main_v18, val_main_call0_v5, val_main_call0_v4, val_main_call0_cst_0, val_main_call0_v3, val_main_call0_v2, val_main_call0_cst, val_main_call0_v1, val_main_call0_v0, val_main_v17, val_main_v16, val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0, Spec.logistic_eq]
  rfl

/-- The first chunk the body stores is columns 0 to 1407 of the hidden row. -/
theorem hid_lo (X0 : Vec Ideal S256x1024 .f32) (XA : Vec Ideal S256x1024 .f32) (XW : Vec Ideal S1024x1024 .bf16) (X1 : Vec Ideal S1x1024 .f32)
    (X2 : Vec Ideal S1024x5632 .bf16) (r : Fin 256) (k : Fin 1408) :
    k0_pay5 (F := Ideal) X0 XA XW X1 (View.ld X2 (Rect.unit ![0, 0] ![1024, 1408] inb_S1024x5632_S1024x1408_0_0))
            (View.ld X2 (Rect.unit ![0, 2816] ![1024, 1408] inb_S1024x5632_S1024x1408_0_2816)) (ix2 r k)
      = Spec.hidden (Spec.addProj (fun k => X0 (ix2 r k)) (fun k => XA (ix2 r k)) (fun k j => XW (ix2 k j))) (fun k => X1 (ix2 0 k)) (fun k j => X2 (ix2 k j)) ⟨k.val, by omega⟩ := by
  pointwise [k0_pay5, k0_pay4, k0_pay3]
  rfl

/-- The second chunk is columns 1408 to 2815 of it. -/
theorem hid_hi (X0 : Vec Ideal S256x1024 .f32) (XA : Vec Ideal S256x1024 .f32) (XW : Vec Ideal S1024x1024 .bf16) (X1 : Vec Ideal S1x1024 .f32)
    (X2 : Vec Ideal S1024x5632 .bf16) (r : Fin 256) (k : Fin 1408) :
    k0_pay1 (F := Ideal) (k0_pay4 X0 XA XW X1)
            (View.ld X2 (Rect.unit ![0, 1408] ![1024, 1408] inb_S1024x5632_S1024x1408_0_1408))
            (View.ld X2 (Rect.unit ![0, 4224] ![1024, 1408] inb_S1024x5632_S1024x1408_0_4224)) (ix2 r k)
      = Spec.hidden (Spec.addProj (fun k => X0 (ix2 r k)) (fun k => XA (ix2 r k)) (fun k j => XW (ix2 k j))) (fun k => X1 (ix2 0 k)) (fun k j => X2 (ix2 k j)) ⟨1408 + k.val, by omega⟩ := by
  pointwise [k0_pay1, k0_pay4, k0_pay3]
  have h : ∀ x : Fin 1024, X2 (ix2 x ⟨2816 + (1408 + k.val), by omega⟩) = X2 (ix2 x ⟨4224 + k.val, by omega⟩) := fun x =>
    congrArg (fun j => X2 (ix2 x j)) (Fin.ext (by show 2816 + (1408 + k.val) = 4224 + k.val; omega))
  simp only [Spec.hidden, h]
  rfl

/-- The two chunks of the hidden row the body leaves in the scratch are the hidden row of the block's row. -/
theorem hid (X0 : Vec Ideal S256x1024 .f32) (XA : Vec Ideal S256x1024 .f32) (XW : Vec Ideal S1024x1024 .bf16) (X1 : Vec Ideal S1x1024 .f32)
    (X2 : Vec Ideal S1024x5632 .bf16) (r : Fin 256) (k : Fin 2816) :
    View.canon (Val := Elt Ideal) (s := S256x2816) (e := .bf16) [⟨Rect.unit (s := S256x2816) ![0, 1408] ![256, 1408] inb_S256x2816_S256x1408_0_1408,
          k0_pay1 (F := Ideal) (k0_pay4 X0 XA XW X1)
            (View.ld X2 (Rect.unit ![0, 1408] ![1024, 1408] inb_S1024x5632_S1024x1408_0_1408))
            (View.ld X2 (Rect.unit ![0, 4224] ![1024, 1408] inb_S1024x5632_S1024x1408_0_4224))⟩,
        ⟨Rect.unit (s := S256x2816) ![0, 0] ![256, 1408] inb_S256x2816_S256x1408_0_0,
          k0_pay5 (F := Ideal) X0 XA XW X1 (View.ld X2 (Rect.unit ![0, 0] ![1024, 1408] inb_S1024x5632_S1024x1408_0_0))
            (View.ld X2 (Rect.unit ![0, 2816] ![1024, 1408] inb_S1024x5632_S1024x1408_0_2816))⟩] (ix2 r k)
      = Spec.hidden (Spec.addProj (fun k => X0 (ix2 r k)) (fun k => XA (ix2 r k)) (fun k j => XW (ix2 k j))) (fun k => X1 (ix2 0 k)) (fun k j => X2 (ix2 k j)) k := by
  canon_tiles x h
  · rw [eq_ix2 x]
    refine (hid_hi X0 XA XW X1 X2 (x 0) (x 1)).trans ?_
    obtain rfl : r = x 0 := Fin.ext h0
    exact congrArg (Spec.hidden _ _ _) (Fin.ext h1.symm)
  · rw [eq_ix2 x]
    refine (hid_lo X0 XA XW X1 X2 (x 0) (x 1)).trans ?_
    obtain rfl : r = x 0 := Fin.ext h0
    exact congrArg (Spec.hidden _ _ _) (Fin.ext h1.symm)

/-- What the body stores into the output block, row by row. -/
theorem pay (v : View sig .tc .vmem S256x2816 .bf16) (X0 : Vec Ideal S256x1024 .f32) (XA : Vec Ideal S256x1024 .f32) (XW : Vec Ideal S1024x1024 .bf16) (X1 : Vec Ideal S1x1024 .f32)
    (X2 : Vec Ideal S1024x5632 .bf16)
    (X3 : Vec Ideal S2816x1024 .bf16) (y : S256x1024.Idx) :
    k0_pay2 (F := Ideal) (k0_pay3 X0 XA XW) (v.readCov [⟨Rect.unit (s := S256x2816) ![0, 1408] ![256, 1408] inb_S256x2816_S256x1408_0_1408,
          k0_pay1 (F := Ideal) (k0_pay4 X0 XA XW X1)
            (View.ld X2 (Rect.unit ![0, 1408] ![1024, 1408] inb_S1024x5632_S1024x1408_0_1408))
            (View.ld X2 (Rect.unit ![0, 4224] ![1024, 1408] inb_S1024x5632_S1024x1408_0_4224))⟩,
        ⟨Rect.unit (s := S256x2816) ![0, 0] ![256, 1408] inb_S256x2816_S256x1408_0_0,
          k0_pay5 (F := Ideal) X0 XA XW X1 (View.ld X2 (Rect.unit ![0, 0] ![1024, 1408] inb_S1024x5632_S1024x1408_0_0))
            (View.ld X2 (Rect.unit ![0, 2816] ![1024, 1408] inb_S1024x5632_S1024x1408_0_2816))⟩]
        (Rect.unit (s := S256x2816) ![0, 0] ![256, 2816] inb_S256x2816_S256x2816_0_0).toLoadRect) X3 y
      = Spec.ffnRow (Spec.addProj (fun k => X0 (ix2 (y 0) k)) (fun k => XA (ix2 (y 0) k)) (fun k j => XW (ix2 k j))) (fun k => X1 (ix2 0 k)) (fun k j => X2 (ix2 k j)) (fun k j => X3 (ix2 k j)) (y 1) := by
  idx_vars y
  rw [View.readCov_eq_canon']
  pointwise [k0_pay2, k0_pay3, hid]
  rfl

/-- Row `r` of the input block at point `t` is row `256 t + r` of the flattened input. -/
theorem blk0 (c : Dev nD) (t : Fin cfg0.N) (r : Fin 256) (k : Fin 1024) (j : Fin 256) (h : j.val = t.val * 256 + r.val) :
    iblk m c 0 t (ix2 r k) = m ((c : Thread nD τ).loc main_arg0) (ix3 ⟨j.val / 8, by omega⟩ ⟨j.val % 8, by omega⟩ k) := by
  have e : (((cfg0.win 0).blk t).view.emb (ix2 r k) : S256x1024.Idx) = ix2 j k := by blk_ext [idx t]
  show V m c main_v0 (((cfg0.win 0).blk t).view.emb (ix2 r k)) = _
  rw [e]
  entry_read
  pointwise

/-- The same of the attention's output. -/
theorem blk1 (c : Dev nD) (t : Fin cfg0.N) (r : Fin 256) (k : Fin 1024) (j : Fin 256) (h : j.val = t.val * 256 + r.val) :
    iblk m c 1 t (ix2 r k) = m ((c : Thread nD τ).loc main_arg1) (ix3 ⟨j.val / 8, by omega⟩ ⟨j.val % 8, by omega⟩ k) := by
  have e : (((cfg0.win 1).blk t).view.emb (ix2 r k) : S256x1024.Idx) = ix2 j k := by blk_ext [idx t]
  show V m c main_v4 (((cfg0.win 1).blk t).view.emb (ix2 r k)) = _
  rw [e]
  entry_read
  pointwise

/-- The projection's block is the projection. -/
theorem blk2 (c : Dev nD) (t : Fin cfg0.N) (r : Fin 1024) (k : Fin 1024) : iblk m c 2 t (ix2 r k) = m ((c : Thread nD τ).loc main_arg2) (ix2 r k) := by
  blk_point [iblk, V, idx t]

/-- The gains' block is the gains. -/
theorem blk3 (c : Dev nD) (t : Fin cfg0.N) (k : Fin 1024) : iblk m c 3 t (ix2 0 k) = m ((c : Thread nD τ).loc main_arg3) (ix1 k) := by
  blk_point [iblk, V, idx t]

/-- The input weights' block is the input weights. -/
theorem blk4 (c : Dev nD) (t : Fin cfg0.N) (r : Fin 1024) (k : Fin 5632) : iblk m c 4 t (ix2 r k) = m ((c : Thread nD τ).loc main_arg4) (ix2 r k) := by
  blk_point [iblk, V, idx t]

/-- The output weights' block is the output weights. -/
theorem blk5 (c : Dev nD) (t : Fin cfg0.N) (r : Fin 2816) (k : Fin 1024) : iblk m c 5 t (ix2 r k) = m ((c : Thread nD τ).loc main_arg5) (ix2 r k) := by
  blk_point [iblk, V, idx t]

/-- The result array after the run is the reference's. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  have h0 : ((((cfg0.win 6).blk t).view.emb y : S256x1024.Idx) 0 : ℕ) = t.val * 256 + (y 0 : ℕ) := by blk_simp [idx t]
  have h1 : ((((cfg0.win 6).blk t).view.emb y : S256x1024.Idx) 1 : ℕ) = (y 1 : ℕ) := by blk_simp [idx t]
  revert h0 h1
  generalize (((cfg0.win 6).blk t).view.emb y : S256x1024.Idx) = j
  intro h0 h1
  blk_simp
  rw [after0_6]; unfold Gen.outsAt0; frame_out
  rw [eq_ix2 j]
  exact (pay _ (iblk m c 0 t) (iblk m c 1 t) (iblk m c 2 t) (iblk m c 3 t) (iblk m c 4 t) (iblk m c 5 t) y).trans
    (Eq.trans (Spec.ffnRow_congr (Spec.addProj_congr (fun k => blk0 m c t (y 0) k (j 0) h0) (fun k => blk1 m c t (y 0) k (j 0) h0) (fun k l => blk2 m c t k l))
        (fun k => blk3 m c t k) (fun k l => blk4 m c t k l) (fun k l => blk5 m c t k l) (Fin.ext h1.symm))
      (ref_apply _ _ _ _ _ _ _ _).symm)

end Cert.MixSIdeal.Val

end
-- ==== Proof.MixSClaim.lean ====
module

public import proofs.«01_k».proof.Defs
public import proofs.«01_k».proof.Proof.Gen.MixS.Frame
public import proofs.«01_k».proof.Proof.Gen.MixSIdeal.Frame
public import proofs.«01_k».proof.Proof.Gen.MixSRefIdeal.Run
public import proofs.«01_k».proof.Proof.MixSValue
public import Idealize.ShloMosaic.Lib.Claim

/-! The output projection and the feed-forward step after it, of the sample rows: the claims about it, each from one run of the program it speaks of. -/

@[expose] public section

set_option maxRecDepth 16384

noncomputable section

namespace Cert.MixSClaim

open Idealize.ShloMosaic Idealize.ShloMosaic.TcCoe Idealize.SL.Sem

/-- The kernel runs to its end and keeps its arguments. -/
theorem kernel_frame : Cert.quiescent_MixS := fun m ρ _ => Cert.MixS.Gen.frame m ρ

/-- The same of the kernel over the extended reals. -/
theorem ideal_frame : Cert.quiescent_MixSIdeal := fun m ρ _ => Cert.MixSIdeal.Gen.frame m ρ

/-- The same of the reference. -/
theorem ref_frame : Cert.quiescent_MixSRefIdeal := fun m ρ _ =>
  (θ_run _ _ _).mono (fun r h => ⟨fun c => (h c).2, sem_eq_zero_of_no_sems (by decide) r.2⟩) (Cert.MixSRefIdeal.Value.run m ρ)

/-- Over the extended reals the kernel's result array is the reference's. -/
theorem algebraic : Cert.algebraic_MixSIdeal_MixSRefIdeal := by
  pair_intro
  · run_from Cert.MixSIdeal.Value.run_blocks m g
  · run_from Cert.MixSRefIdeal.Value.run m' g'
    rw [Cert.MixSRefIdeal.Read.val_main_v24_eq, (hagree c).1, (hagree c).2.1, (hagree c).2.2.1, (hagree c).2.2.2.1, (hagree c).2.2.2.2.1, (hagree c).2.2.2.2.2]
    exact (Cert.MixSIdeal.Val.final m c).symm

end Cert.MixSClaim

end
-- ==== Proof.HeadNorm.lean ====
module

public import proofs.«01_k».proof.Proof.Spec
public import Idealize.ShloMosaic.Lib.IdealHost

/-! Norms of 64-wide heads over the extended reals: the sum over a head as a product with the block-diagonal matrix of ones, and what stays a real number. -/

@[expose] public section

set_option maxRecDepth 16384

noncomputable section

namespace Cert.Spec

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} [Fintype ι] {f : ι → EReal} (h : ∀ i, IsReal (f i)) : IsReal (∑ i, f i) := by
  classical
  choose g hg using h
  refine ⟨∑ i, g i, ?_⟩
  rw [Finset.sum_congr rfl fun i _ => hg i]
  exact (map_sum (⟨⟨fun r : ℝ => (r : EReal), rfl⟩, EReal.coe_add⟩ : ℝ →+ EReal) g Finset.univ).symm

/-- A number whose magnitude is below infinity is real. -/
theorem isReal_of_abs_lt {x : EReal} (h : max x (-x) < ⊤) : IsReal x := by
  induction x with
  | bot => simp at h
  | top => simp at h
  | coe r => exact ⟨r, rfl⟩

/-- A real less itself is zero. -/
theorem IsReal.sub_self {x : EReal} (h : IsReal x) : x - x = 0 := by
  obtain ⟨r, rfl⟩ := h
  rw [← EReal.coe_sub, _root_.sub_self, EReal.coe_zero]

theorem eps_pos : ∃ e : ℝ, 0 < e ∧ Ideal.ofBits FTy.f32 897988541#32 = (e : EReal) := by
  refine ⟨(2 : ℝ) ^ (-20 : ℤ) * (1 + 407485 / 8388608), by positivity, ?_⟩
  simp [Ideal.ofBits, Ideal.ieee, -EReal.coe_mul]
  norm_num

theorem c1024 : Ideal.ofBits FTy.f32 1149239296#32 = ((1024 : ℝ) : EReal) := by
  simp [Ideal.ofBits, Ideal.ieee, -EReal.coe_mul]
  norm_num

theorem c64 : Ideal.ofBits FTy.f32 0x42800000#32 = ((64 : ℝ) : EReal) := by
  simp [Ideal.ofBits, Ideal.ieee, -EReal.coe_mul]
  norm_num

theorem cInv64 : Ideal.ofBits FTy.f32 0x3C800000#32 = ((1 / 64 : ℝ) : EReal) := by
  simp [Ideal.ofBits, Ideal.ieee, -EReal.coe_mul]
  norm_num

/-- Every entry of a normalized row of reals is real. -/
theorem isReal_rms {x g : Fin 1024 → EReal} (hx : ∀ k, IsReal (x k)) (hg : ∀ k, IsReal (g k)) (d : Fin 1024) : IsReal (rms x g d) := by
  choose a ha using hx
  obtain ⟨e, he, hE⟩ := eps_pos
  refine IsReal.mul (IsReal.mul ⟨a d, ha d⟩ ?_) (hg d)
  have hs : ∑ k, x k * x k = ((∑ k, a k * a k : ℝ) : EReal) := by
    rw [Finset.sum_congr rfl fun k _ => by rw [ha k, ← EReal.coe_mul]]
    exact (map_sum (⟨⟨fun r : ℝ => (r : EReal), rfl⟩, EReal.coe_add⟩ : ℝ →+ EReal) _ Finset.univ).symm
  have hp : 0 < (∑ k, a k * a k) * (1 / 1024 : ℝ) + e := by
    have : 0 ≤ ∑ k, a k * a k := Finset.sum_nonneg fun k _ => mul_self_nonneg _
    positivity
  rw [hs, c1024, hE, Ideal.div_coe (by norm_num : (1024 : ℝ) ≠ 0), ← EReal.coe_mul, ← EReal.coe_add, Ideal.rsqrt_coe, if_neg (not_lt.2 hp.le), if_neg hp.ne']
  exact ⟨_, rfl⟩

/-- A projection of a normalized row. -/
def projRow (x g : Fin 1024 → EReal) (w : Fin 1024 → Fin 1536 → EReal) (c : Fin 1536) : EReal := ∑ k, rms x g k * w k c

theorem projRow_congr {x x' g g' : Fin 1024 → EReal} {w w' : Fin 1024 → Fin 1536 → EReal} {c c' : Fin 1536} (hx : ∀ k, x k = x' k)
    (hg : ∀ k, g k = g' k) (hw : ∀ k l, w k l = w' k l) (hc : c = c') : projRow x g w c = projRow x' g' w' c' := by
  obtain rfl : x = x' := funext hx
  obtain rfl : g = g' := funext hg
  obtain rfl : w = w' := funext fun k => funext (hw k)
  rw [hc]

theorem isReal_projRow {x g : Fin 1024 → EReal} {w : Fin 1024 → Fin 1536 → EReal} (hx : ∀ k, IsReal (x k)) (hg : ∀ k, IsReal (g k))
    (hw : ∀ k c, IsReal (w k c)) (c : Fin 1536) : IsReal (projRow x g w c) :=
  IsReal.sum fun k => (isReal_rms hx hg k).mul (hw k c)

/-- A product with the block-diagonal matrix of ones is the sum over the column's own block of 64. -/
theorem block_sum (f : Fin 256 → EReal) (O : Fin 256 → EReal) (g : Fin 4) (hO : ∀ l, O l = if l.val / 64 = g.val then 1 else 0) :
    ∑ l, f l * O l = ∑ d : Fin 64, f ⟨g.val * 64 + d.val, by omega⟩ := by
  have e : ∀ l : Fin 256, f l * O l = if l.val / 64 = g.val then f l else 0 := fun l => by
    rw [hO l]
    split <;> simp
  rw [Finset.sum_congr rfl fun l _ => e l, ← Finset.sum_filter]
  refine Finset.sum_bij' (fun l _ => (⟨l.val % 64, by omega⟩ : Fin 64)) (fun d _ => (⟨g.val * 64 + d.val, by omega⟩ : Fin 256)) (fun _ _ => Finset.mem_univ _)
    (fun d _ => Finset.mem_filter.2 ⟨Finset.mem_univ _, by show (g.val * 64 + d.val) / 64 = g.val; omega⟩) (fun l h => ?_) (fun d _ => ?_) (fun l h => ?_)
  · have := (Finset.mem_filter.1 h).2
    exact Fin.ext (by show g.val * 64 + l.val % 64 = l.val; omega)
  · exact Fin.ext (by show (g.val * 64 + d.val) % 64 = d.val; omega)
  · have := (Finset.mem_filter.1 h).2
    exact congrArg f (Fin.ext (by show l.val = g.val * 64 + l.val % 64; omega))

/-- A head's norm: its entries over the root of their mean square, times the gains. -/
def headNorm (p n : Fin 64 → EReal) (d : Fin 64) : EReal :=
  p d * Ideal.rsqrt (Ideal.div (∑ k, p k * p k) (Ideal.ofBits FTy.f32 0x42800000#32) + Ideal.ofBits FTy.f32 897988541#32) * n d

/-- The mean square of a head from the product with the block-diagonal ones, the squares split in two parts of which the second is zero. -/
theorem head_mean (p : Fin 256 → EReal) (hp : ∀ l, IsReal (p l)) (O : Fin 256 → EReal) (g : Fin 4) (hO : ∀ l, O l = if l.val / 64 = g.val then 1 else 0) :
    (∑ l, p l * p l * O l + ∑ l, (p l * p l - p l * p l) * O l) * Ideal.ofBits FTy.f32 0x3C800000#32
      = Ideal.div (∑ d : Fin 64, p ⟨g.val * 64 + d.val, by omega⟩ * p ⟨g.val * 64 + d.val, by omega⟩) (Ideal.ofBits FTy.f32 0x42800000#32) := by
  have z : ∑ l, (p l * p l - p l * p l) * O l = 0 := Finset.sum_eq_zero fun l _ => by
    rw [((hp l).mul (hp l)).sub_self, zero_mul]
  rw [z, add_zero, block_sum (fun l => p l * p l) O g hO, c64, cInv64, Ideal.div_coe (by norm_num : (64 : ℝ) ≠ 0)]

/-- The angle of position word `p` at frequency `f`. -/
def angle (p : BitVec 32) (f : Fin 8) : EReal :=
  FloatOps.sitofp (F := Ideal) FTy.f32 p * Ideal.pow (Ideal.ofBits FTy.f32 1223959552#32)
    (Ideal.div (-FloatOps.sitofp (F := Ideal) FTy.f32 (BitVec.ofNat 32 f.val)) (Ideal.ofBits FTy.f32 1090519040#32))

/-- The rotation of a head's first sixteen entries by the angles whose cosines and sines are given. -/
def ropeRow (y : Fin 64 → EReal) (c s : Fin 8 → EReal) (d : Fin 64) : EReal :=
  if h : d.val < 8 then y d * c ⟨d.val, h⟩ - y ⟨d.val + 8, by omega⟩ * s ⟨d.val, h⟩
  else if h : d.val < 16 then y d * c ⟨d.val - 8, by omega⟩ + y ⟨d.val - 8, by omega⟩ * s ⟨d.val - 8, by omega⟩
  else y d

theorem ropeRow_congr {y y' : Fin 64 → EReal} {c c' s s' : Fin 8 → EReal} {d d' : Fin 64} (hy : ∀ k, y k = y' k) (hc : ∀ k, c k = c' k)
    (hs : ∀ k, s k = s' k) (hd : d = d') : ropeRow y c s d = ropeRow y' c' s' d' := by
  obtain rfl : y = y' := funext hy
  obtain rfl : c = c' := funext hc
  obtain rfl : s = s' := funext hs
  rw [hd]

/-- The rotation written as two halves put together and the entries after them. -/
theorem rope_split (y : Fin 64 → EReal) (c s : Fin 8 → EReal) (d : Fin 64) :
    (if h : d.val < 16 then
      if h₁ : d.val < 8 then y d * c ⟨d.val, h₁⟩ - y ⟨8 + d.val, by omega⟩ * s ⟨d.val, h₁⟩
      else y ⟨8 + (d.val - 8), by omega⟩ * c ⟨d.val - 8, by omega⟩ + y ⟨d.val - 8, by omega⟩ * s ⟨d.val - 8, by omega⟩
    else y ⟨16 + (d.val - 16), by omega⟩) = ropeRow y c s d := by
  unfold ropeRow
  by_cases h8 : d.val < 8
  · rw [dif_pos (by omega : d.val < 16), dif_pos h8, dif_pos h8]
    exact congrArg (fun i => y d * c ⟨d.val, h8⟩ - y i * s ⟨d.val, h8⟩) (Fin.ext (Nat.add_comm _ _))
  · by_cases h16 : d.val < 16
    · rw [dif_pos h16, dif_neg h8, dif_neg h8, dif_pos h16]
      exact congrArg (fun i => y i * c ⟨d.val - 8, by omega⟩ + y ⟨d.val - 8, by omega⟩ * s ⟨d.val - 8, by omega⟩) (Fin.ext (by show 8 + (d.val - 8) = d.val; omega))
    · rw [dif_neg h16, dif_neg h8, dif_neg h16]
      exact congrArg y (Fin.ext (by show 16 + (d.val - 16) = d.val; omega))

theorem headNorm_congr {p p' n n' : Fin 64 → EReal} {d d' : Fin 64} (hp : ∀ k, p k = p' k) (hn : ∀ k, n k = n' k) (hd : d = d') :
    headNorm p n d = headNorm p' n' d' := by
  obtain rfl : p = p' := funext hp
  obtain rfl : n = n' := funext hn
  rw [hd]

/-- The same rotation as the entry times one table, the entry eight to the right times a second and the entry eight to the left times a third. -/
theorem rope_tables (y : Fin 64 → EReal) (c s : Fin 8 → EReal) (d : Fin 64) (yd up down C A B : EReal) (hd : yd = y d)
    (hup : ∀ h : d.val < 8, up = y ⟨d.val + 8, by omega⟩) (hdn : ∀ h : d.val < 16, 8 ≤ d.val → down = y ⟨d.val - 8, by omega⟩)
    (hC : C = if h : d.val < 8 then c ⟨d.val, h⟩ else if h : d.val < 16 then c ⟨d.val - 8, by omega⟩ else 1)
    (hA : A = if h : d.val < 8 then -s ⟨d.val, h⟩ else 0)
    (hB : B = if h : d.val < 8 then 0 else if h : d.val < 16 then s ⟨d.val - 8, by omega⟩ else 0) :
    yd * C + up * A + down * B = ropeRow y c s d := by
  subst hd
  unfold ropeRow
  by_cases h8 : d.val < 8
  · rw [dif_pos h8] at hC hA hB ⊢
    rw [hC, hA, hB, hup h8, mul_zero, add_zero, mul_neg, sub_eq_add_neg]
  · by_cases h16 : d.val < 16
    · rw [dif_neg h8, dif_pos h16] at hC hB ⊢
      rw [dif_neg h8] at hA
      rw [hC, hA, hB, hdn h16 (by omega), mul_zero, add_zero]
    · rw [dif_neg h8, dif_neg h16] at hC hB ⊢
      rw [dif_neg h8] at hA
      rw [hC, hA, hB, mul_zero, mul_zero, add_zero, add_zero, mul_one]

/-- A head's entry: the norm with the mean from the block-diagonal product. -/
theorem norm_entry (p : Fin 256 → EReal) (hp : ∀ l, IsReal (p l)) (O : Fin 256 → Fin 256 → EReal) (hO : ∀ l k, O l k = if l.val / 64 = k.val / 64 then 1 else 0)
    (n : Fin 256 → EReal) (gn : Fin 64 → EReal) (hn : ∀ k, n k = gn ⟨k.val % 64, by omega⟩) (k : Fin 256) :
    p k * Ideal.rsqrt ((∑ l, p l * p l * O l k + ∑ l, (p l * p l - p l * p l) * O l k) * Ideal.ofBits FTy.f32 0x3C800000#32 + Ideal.ofBits FTy.f32 897988541#32) * n k
      = headNorm (fun d => p ⟨k.val / 64 * 64 + d.val, by omega⟩) gn ⟨k.val % 64, by omega⟩ := by
  rw [head_mean p hp (fun l => O l k) ⟨k.val / 64, by omega⟩ fun l => hO l k, hn]
  unfold headNorm
  exact congrArg (fun i => p i * _ * _) (Fin.ext (by show k.val = k.val / 64 * 64 + k.val % 64; omega))

/-- The table that multiplies an entry itself. -/
def tabC (c : Fin 8 → EReal) (d : ℕ) : EReal := if h : d < 8 then c ⟨d, h⟩ else if h : d < 16 then c ⟨d - 8, by omega⟩ else 1

/-- The table that multiplies the entry eight to the right. -/
def tabA (s : Fin 8 → EReal) (d : ℕ) : EReal := if h : d < 8 then -s ⟨d, h⟩ else 0

/-- The table that multiplies the entry eight to the left. -/
def tabB (s : Fin 8 → EReal) (d : ℕ) : EReal := if h : d < 8 then 0 else if h : d < 16 then s ⟨d - 8, by omega⟩ else 0

/-- The rotation of four heads side by side by tables that repeat for every head. -/
theorem rot_entry (Y : Fin 256 → EReal) (q : Fin 4 → Fin 64 → EReal) (hY : ∀ k : Fin 256, Y k = q ⟨k.val / 64, by omega⟩ ⟨k.val % 64, by omega⟩) (c s : Fin 8 → EReal)
    (k : Fin 256) (C A B : EReal)
    (hC : C = tabC c (k.val % 64)) (hA : A = tabA s (k.val % 64)) (hB : B = tabB s (k.val % 64)) :
    Y k * C + Y ⟨(k.val + 256 - 248) % 256, by omega⟩ * A + Y ⟨(k.val + 256 - 8) % 256, by omega⟩ * B
      = ropeRow (q ⟨k.val / 64, by omega⟩) c s ⟨k.val % 64, by omega⟩ := by
  refine rope_tables (q ⟨k.val / 64, by omega⟩) c s ⟨k.val % 64, by omega⟩ _ _ _ C A B (hY k) (fun h => ?_) (fun h h' => ?_) hC hA hB
  · have h : k.val % 64 < 8 := h
    rw [hY]
    exact congrArg₂ q (Fin.ext (by show (k.val + 256 - 248) % 256 / 64 = k.val / 64; omega)) (Fin.ext (by show (k.val + 256 - 248) % 256 % 64 = k.val % 64 + 8; omega))
  · have h : k.val % 64 < 16 := h
    have h' : 8 ≤ k.val % 64 := h'
    rw [hY]
    exact congrArg₂ q (Fin.ext (by show (k.val + 256 - 8) % 256 / 64 = k.val / 64; omega)) (Fin.ext (by show (k.val + 256 - 8) % 256 % 64 = k.val % 64 - 8; omega))

/-- A table written as two pieces of eight put together and a constant after them. -/
theorem tab_split (a b : Fin 8 → EReal) (z : EReal) (d : ℕ) :
    (if h : d < 8 then a ⟨d, h⟩ else if h : d - 8 < 8 then b ⟨d - 8, h⟩ else z) = if h : d < 8 then a ⟨d, h⟩ else if h : d < 16 then b ⟨d - 8, by omega⟩ else z := by
  by_cases h : d < 8
  · rw [dif_pos h, dif_pos h]
  · by_cases h' : d < 16
    · rw [dif_neg h, dif_neg h, dif_pos h', dif_pos (by omega : d - 8 < 8)]
    · rw [dif_neg h, dif_neg h, dif_neg h', dif_neg (by omega : ¬ d - 8 < 8)]

/-- A table of 128 lanes put twice side by side, where its entries depend on the lane's place in its head only. -/
theorem tab_twice (T : Fin 128 → EReal) (f : ℕ → EReal) (hT : ∀ k : Fin 128, T k = f (k.val % 64)) (c : Fin 256) :
    (if h : c.val < 128 then T ⟨c.val, h⟩ else T ⟨c.val - 128, by omega⟩) = f (c.val % 64) := by
  by_cases h : c.val < 128
  · rw [dif_pos h, hT]
  · rw [dif_neg h, hT]
    exact congrArg f (by show (c.val - 128) % 64 = c.val % 64; omega)

/-- Equality of two block numbers, compared as words and read as a number. -/
theorem same_block (a b : Fin 4) : FloatOps.uitofp (F := Ideal) FTy.f32 (IntOp.cmpi CmpIPredicate.eq (IntOp.addi (BitVec.ofNat 32 a.val) 0#32) (BitVec.ofNat 32 b.val))
    = if a.val = b.val then (1 : EReal) else 0 := by
  have e : IntOp.cmpi CmpIPredicate.eq (IntOp.addi (BitVec.ofNat 32 a.val) 0#32) (BitVec.ofNat 32 b.val) = if a.val = b.val then 1#1 else 0#1 := by
    revert a b
    decide
  rw [e]
  by_cases h : a.val = b.val
  · rw [if_pos h, if_pos h]
    show (((1#1 : BitVec 1).toNat : ℝ) : EReal) = 1
    norm_num
  · rw [if_neg h, if_neg h]
    show (((0#1 : BitVec 1).toNat : ℝ) : EReal) = 0
    norm_num

/-- A position's row of the first result: four entries of four heads, the third of them normed and rotated. -/
def kvRow (p : Fin 1536 → EReal) (gn : Fin 64 → EReal) (cs sn : Fin 8 → EReal) (c : Fin 1024) : EReal :=
  if c.val / 256 = 2 then ropeRow (headNorm (fun d => p ⟨512 + c.val / 64 % 4 * 64 + d.val, by omega⟩) gn) cs sn ⟨c.val % 64, by omega⟩ else p ⟨c.val, by omega⟩

theorem kvRow_ne (p : Fin 1536 → EReal) (gn : Fin 64 → EReal) (cs sn : Fin 8 → EReal) (c : Fin 1024) (h : ¬ c.val / 256 = 2) : kvRow p gn cs sn c = p ⟨c.val, by omega⟩ := if_neg h

theorem kvRow_eq (p : Fin 1536 → EReal) (gn : Fin 64 → EReal) (cs sn : Fin 8 → EReal) (c : Fin 1024) (h : c.val / 256 = 2) :
    kvRow p gn cs sn c = ropeRow (headNorm (fun d => p ⟨512 + c.val / 64 % 4 * 64 + d.val, by omega⟩) gn) cs sn ⟨c.val % 64, by omega⟩ := if_pos h

theorem kvRow_congr {p p' : Fin 1536 → EReal} {gn gn' : Fin 64 → EReal} {cs cs' sn sn' : Fin 8 → EReal} {c c' : Fin 1024} (hp : ∀ k, p k = p' k)
    (hg : ∀ k, gn k = gn' k) (hc : ∀ k, cs k = cs' k) (hs : ∀ k, sn k = sn' k) (h : c = c') : kvRow p gn cs sn c = kvRow p' gn' cs' sn' c' := by
  rw [funext hp, funext hg, funext hc, funext hs, h]

/-- A position's row of the second result: the window keys, normed and rotated, and the window values. -/
def winRow (p : Fin 1536 → EReal) (gn : Fin 64 → EReal) (cs sn : Fin 8 → EReal) (c : Fin 512) : EReal :=
  if c.val < 256 then ropeRow (headNorm (fun d => p ⟨1024 + c.val / 64 % 4 * 64 + d.val, by omega⟩) gn) cs sn ⟨c.val % 64, by omega⟩ else p ⟨1024 + c.val, by omega⟩

theorem winRow_hi (p : Fin 1536 → EReal) (gn : Fin 64 → EReal) (cs sn : Fin 8 → EReal) (c : Fin 512) (h : ¬ c.val < 256) : winRow p gn cs sn c = p ⟨1024 + c.val, by omega⟩ := if_neg h

theorem winRow_lo (p : Fin 1536 → EReal) (gn : Fin 64 → EReal) (cs sn : Fin 8 → EReal) (c : Fin 512) (h : c.val < 256) :
    winRow p gn cs sn c = ropeRow (headNorm (fun d => p ⟨1024 + c.val / 64 % 4 * 64 + d.val, by omega⟩) gn) cs sn ⟨c.val % 64, by omega⟩ := if_pos h

theorem winRow_congr {p p' : Fin 1536 → EReal} {gn gn' : Fin 64 → EReal} {cs cs' sn sn' : Fin 8 → EReal} {c c' : Fin 512} (hp : ∀ k, p k = p' k)
    (hg : ∀ k, gn k = gn' k) (hc : ∀ k, cs k = cs' k) (hs : ∀ k, sn k = sn' k) (h : c = c') : winRow p gn cs sn c = winRow p' gn' cs' sn' c' := by
  rw [funext hp, funext hg, funext hc, funext hs, h]

/-- The first result's row written as a stack of four entries. -/
theorem kv_stack (p : Fin 1536 → EReal) (gn : Fin 64 → EReal) (cs sn : Fin 8 → EReal) (c : Fin 1024) :
    (if h : c.val / 256 < 1 then p ⟨c.val / 64 % 4 * 64 + c.val % 64, by omega⟩
      else if h : c.val / 256 - 1 < 1 then p ⟨256 + c.val / 64 % 4 * 64 + c.val % 64, by omega⟩
      else if h : c.val / 256 - 1 - 1 < 1 then ropeRow (fun d => headNorm (fun d => p ⟨512 + c.val / 64 % 4 * 64 + d.val, by omega⟩) gn d) cs sn ⟨c.val % 64, by omega⟩
      else p ⟨768 + c.val / 64 % 4 * 64 + c.val % 64, by omega⟩) = kvRow p gn cs sn c := by
  by_cases h0 : c.val / 256 < 1
  · rw [kvRow_ne p gn cs sn c (by omega), dif_pos h0]
    exact congrArg p (Fin.ext (by show c.val / 64 % 4 * 64 + c.val % 64 = c.val; omega))
  · by_cases h1 : c.val / 256 - 1 < 1
    · rw [kvRow_ne p gn cs sn c (by omega), dif_neg h0, dif_pos h1]
      exact congrArg p (Fin.ext (by show 256 + c.val / 64 % 4 * 64 + c.val % 64 = c.val; omega))
    · by_cases h2 : c.val / 256 - 1 - 1 < 1
      · rw [kvRow_eq p gn cs sn c (by omega), dif_neg h0, dif_neg h1, dif_pos h2]
      · rw [kvRow_ne p gn cs sn c (by omega), dif_neg h0, dif_neg h1, dif_neg h2]
        exact congrArg p (Fin.ext (by show 768 + c.val / 64 % 4 * 64 + c.val % 64 = c.val; omega))

/-- The same written as four pieces of 256 columns put together. -/
theorem kv_cat (p : Fin 1536 → EReal) (gn : Fin 64 → EReal) (cs sn : Fin 8 → EReal) (W : Fin 256 → EReal)
    (hW : ∀ c : Fin 256, W c = ropeRow (headNorm (fun d => p ⟨512 + (c.val / 64 * 64 + d.val), by omega⟩) gn) cs sn ⟨c.val % 64, by omega⟩) (c : Fin 1024) :
    (if h : c.val < 256 then p ⟨c.val, by omega⟩
      else if h : c.val - 256 < 256 then p ⟨256 + (c.val - 256), by omega⟩
      else if h : c.val - 256 - 256 < 256 then W ⟨c.val - 256 - 256, h⟩
      else p ⟨768 + (c.val - 256 - 256 - 256), by omega⟩) = kvRow p gn cs sn c := by
  by_cases h0 : c.val < 256
  · rw [kvRow_ne p gn cs sn c (by omega), dif_pos h0]
  · by_cases h1 : c.val - 256 < 256
    · rw [kvRow_ne p gn cs sn c (by omega), dif_neg h0, dif_pos h1]
      exact congrArg p (Fin.ext (by show 256 + (c.val - 256) = c.val; omega))
    · by_cases h2 : c.val - 256 - 256 < 256
      · rw [kvRow_eq p gn cs sn c (by omega), dif_neg h0, dif_neg h1, dif_pos h2, hW]
        refine ropeRow_congr (fun k => headNorm_congr (fun k => ?_) (fun _ => rfl) rfl) (fun _ => rfl) (fun _ => rfl) (Fin.ext (by show (c.val - 256 - 256) % 64 = c.val % 64; omega))
        exact congrArg p (Fin.ext (by show 512 + ((c.val - 256 - 256) / 64 * 64 + k.val) = 512 + c.val / 64 % 4 * 64 + k.val; omega))
      · rw [kvRow_ne p gn cs sn c (by omega), dif_neg h0, dif_neg h1, dif_neg h2]
        exact congrArg p (Fin.ext (by show 768 + (c.val - 256 - 256 - 256) = c.val; omega))

/-- The second result's row written as a stack of two entries. -/
theorem win_stack (p : Fin 1536 → EReal) (gn : Fin 64 → EReal) (cs sn : Fin 8 → EReal) (e : Fin 2) (g : Fin 4) (d : Fin 64) :
    (if h : e.val < 1 then ropeRow (fun d => headNorm (fun d => p ⟨1024 + g.val * 64 + d.val, by omega⟩) gn d) cs sn d else p ⟨1280 + g.val * 64 + d.val, by omega⟩)
      = winRow p gn cs sn ⟨e.val * 256 + g.val * 64 + d.val, by omega⟩ := by
  by_cases h1 : e.val < 1
  · rw [winRow_lo p gn cs sn _ (by show e.val * 256 + g.val * 64 + d.val < 256; omega), dif_pos h1]
    refine ropeRow_congr (fun k => headNorm_congr (fun k => ?_) (fun _ => rfl) rfl) (fun _ => rfl) (fun _ => rfl) (Fin.ext (by show d.val = (e.val * 256 + g.val * 64 + d.val) % 64; omega))
    exact congrArg p (Fin.ext (by show 1024 + g.val * 64 + k.val = 1024 + (e.val * 256 + g.val * 64 + d.val) / 64 % 4 * 64 + k.val; omega))
  · rw [winRow_hi p gn cs sn _ (by show ¬ e.val * 256 + g.val * 64 + d.val < 256; omega), dif_neg h1]
    exact congrArg p (Fin.ext (by show 1280 + g.val * 64 + d.val = 1024 + (e.val * 256 + g.val * 64 + d.val); omega))

/-- The same written as two pieces of 256 columns put together. -/
theorem win_cat (p : Fin 1536 → EReal) (gn : Fin 64 → EReal) (cs sn : Fin 8 → EReal) (W : Fin 256 → EReal)
    (hW : ∀ c : Fin 256, W c = ropeRow (headNorm (fun d => p ⟨1024 + (c.val / 64 * 64 + d.val), by omega⟩) gn) cs sn ⟨c.val % 64, by omega⟩) (c : Fin 512) :
    (if h : c.val < 256 then W ⟨c.val, h⟩ else p ⟨1280 + (c.val - 256), by omega⟩) = winRow p gn cs sn c := by
  by_cases h0 : c.val < 256
  · rw [winRow_lo p gn cs sn c h0, dif_pos h0, hW]
    refine ropeRow_congr (fun k => headNorm_congr (fun k => ?_) (fun _ => rfl) rfl) (fun _ => rfl) (fun _ => rfl) rfl
    exact congrArg p (Fin.ext (by show 1024 + (c.val / 64 * 64 + k.val) = 1024 + c.val / 64 % 4 * 64 + k.val; omega))
  · rw [winRow_hi p gn cs sn c h0, dif_neg h0]
    exact congrArg p (Fin.ext (by show 1280 + (c.val - 256) = 1024 + c.val; omega))

/-- A head of the norm and the rotation of a slice of the projected row: what the body computes for 256 columns. -/
theorem rot_slice (p : Fin 256 → EReal) (hp : ∀ l, IsReal (p l)) (O : Fin 256 → Fin 256 → EReal) (hO : ∀ l k, O l k = if l.val / 64 = k.val / 64 then 1 else 0)
    (n : Fin 256 → EReal) (gn : Fin 64 → EReal) (hn : ∀ k, n k = gn ⟨k.val % 64, by omega⟩) (cs sn : Fin 8 → EReal) (TC TA TB : Fin 128 → EReal)
    (hC : ∀ k, TC k = tabC cs (k.val % 64)) (hA : ∀ k, TA k = tabA sn (k.val % 64)) (hB : ∀ k, TB k = tabB sn (k.val % 64)) (Y : Fin 256 → EReal)
    (hY : ∀ k, Y k = p k * Ideal.rsqrt ((∑ l, p l * p l * O l k + ∑ l, (p l * p l - p l * p l) * O l k) * Ideal.ofBits FTy.f32 0x3C800000#32 + Ideal.ofBits FTy.f32 897988541#32) * n k)
    (c : Fin 256) :
    Y c * (if h : c.val < 128 then TC ⟨c.val, h⟩ else TC ⟨c.val - 128, by omega⟩)
        + Y ⟨(c.val + 256 - 248) % 256, by omega⟩ * (if h : c.val < 128 then TA ⟨c.val, h⟩ else TA ⟨c.val - 128, by omega⟩)
        + Y ⟨(c.val + 256 - 8) % 256, by omega⟩ * (if h : c.val < 128 then TB ⟨c.val, h⟩ else TB ⟨c.val - 128, by omega⟩)
      = ropeRow (headNorm (fun d => p ⟨c.val / 64 * 64 + d.val, by omega⟩) gn) cs sn ⟨c.val % 64, by omega⟩ :=
  rot_entry Y (fun g d => headNorm (fun d => p ⟨g.val * 64 + d.val, by omega⟩) gn d)
    (fun k => (hY k).trans (norm_entry p hp O hO n gn hn k)) cs sn c _ _ _ (tab_twice TC _ hC c) (tab_twice TA _ hA c) (tab_twice TB _ hB c)

end Cert.Spec

end
-- ==== Proof.KvBlk.lean ====
module

public import proofs.«01_k».proof.Proof.Gen.KvIdeal.Frame
public import proofs.«01_k».proof.Proof.HeadNorm
public import Idealize.ShloMosaic.Lib.KernelVsHost
public import Idealize.ShloMosaic.Lib.StableHlo.RunRead

/-! The prompt's key and value rows: what the call's argument blocks hold of the program's arguments. -/

@[expose] public section

set_option maxRecDepth 16384

noncomputable section

namespace Cert.KvIdeal.Val

open Cert.KvIdeal Cert.KvIdeal.Gen Idealize.ShloMosaic Idealize.ShloMosaic.TcCoe Idealize.SL.Sem
open Idealize.ShloMosaic.Pipeline (Dat)

variable (m : (ℓ : Loc nD τ sig) → Buf (Elt Ideal) ℓ)

/-- The block every grid point of each window works on. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val % 8, 0]
    ∧ win0_7.index t = ![t.val % 8, 0] ∧ win0_8.index t = ![t.val % 8, 0] ∧ win0_9.index t = ![t.val, 0] ∧ win0_10.index t = ![t.val, 0] :=
  (by decide +kernel : ∀ t : Fin grid0.N, _)

/-- The number of row `r` of block `t`. -/
abbrev row (t : Fin cfg0.N) (r : Fin 512) : Fin 16384 := ⟨t.val * 512 + r.val, by have : t.val < 32 := t.isLt; omega⟩

/-- The rows' block: row `r` of block `t` is a row of a sequence. -/
theorem blk0 (c : Dev nD) (t : Fin cfg0.N) (r : Fin 512) (k : Fin 1024) :
    iblk m c 0 t (ix2 r k) = m ((c : Thread nD τ).loc main_arg0) (ix3 ⟨(row t r).val / 4096, by omega⟩ ⟨(row t r).val % 4096, by omega⟩ k) := by
  have ht : t.val < 32 := t.isLt
  have e : (((cfg0.win 0).blk t).view.emb (ix2 r k) : S16384x1024.Idx) = ix2 (row t r) k := by blk_ext [idx t]
  show StableHlo.after (List.flatten [hostOps0, hostOps0_1, hostOps0_2]) (fun b => m (c, b)) (Proc.devRef .tc main_v59) (((cfg0.win 0).blk t).view.emb (ix2 r k)) = _
  rw [e]
  simp only [List.flatten_cons, List.flatten_nil, List.append_nil, List.cons_append, List.nil_append]
  after_results
  pointwise

/-- The gains' block is the gains. -/
theorem blk1 (c : Dev nD) (t : Fin cfg0.N) (k : Fin 1024) : iblk m c 1 t (ix2 0 k) = m ((c : Thread nD τ).loc main_arg1) (ix1 k) := by
  have e : (((cfg0.win 1).blk t).view.emb (ix2 (0 : Fin 1) k) : S1x1024.Idx) = ix2 (0 : Fin 1) k := by blk_ext [idx t]
  show StableHlo.after (List.flatten [hostOps0, hostOps0_1, hostOps0_2]) (fun b => m (c, b)) (Proc.devRef .tc main_v60) (((cfg0.win 1).blk t).view.emb (ix2 (0 : Fin 1) k)) = _
  rw [e]
  simp only [List.flatten_cons, List.flatten_nil, List.append_nil, List.cons_append, List.nil_append]
  after_results
  try pointwise

/-- The weights' block is the weights. -/
theorem blk2 (c : Dev nD) (t : Fin cfg0.N) (r : Fin 1024) (k : Fin 1536) : iblk m c 2 t (ix2 r k) = m ((c : Thread nD τ).loc main_arg2) (ix2 r k) := by
  have e : (((cfg0.win 2).blk t).view.emb (ix2 r k) : S1024x1536.Idx) = ix2 r k := by blk_ext [idx t]
  show StableHlo.after (List.flatten [hostOps0, hostOps0_1, hostOps0_2]) (fun b => m (c, b)) (Proc.devRef .tc main_v61) (((cfg0.win 2).blk t).view.emb (ix2 r k)) = _
  rw [e]
  simp only [List.flatten_cons, List.flatten_nil, List.append_nil, List.cons_append, List.nil_append]
  after_results
  try pointwise

/-- The block-diagonal ones. -/
theorem blk3 (c : Dev nD) (t : Fin cfg0.N) (r k : Fin 256) : iblk m c 3 t (ix2 r k) = if r.val / 64 = k.val / 64 then 1 else (0 : EReal) := by
  have e : (((cfg0.win 3).blk t).view.emb (ix2 r k) : S256x256.Idx) = ix2 r k := by blk_ext [idx t]
  show StableHlo.after (List.flatten [hostOps0, hostOps0_1, hostOps0_2]) (fun b => m (c, b)) (Proc.devRef .tc main_v8) (((cfg0.win 3).blk t).view.emb (ix2 r k)) = _
  rw [e]
  simp only [List.flatten_cons, List.flatten_nil, List.append_nil, List.cons_append, List.nil_append]
  after_results
  show mulf (F := Ideal) (broadcastInDim S4x64x4x64 ![0, 1, 2, 3] bcast_S4x1x4x1_S4x64x4x64_0_1_2_3 (broadcastInDim S4x1x4x1 ![0, 2] bcast_S4x4_S4x1x4x1_0_2 (uitofp (F := Ideal) FTy.f32 (cmpi CmpIPredicate.eq (addi (iotaInDim S4x4 32 0) (broadcastInDim S4x4 ![] bcast_S_S4x4 (constantI S_ 32 0#32))) (iotaInDim S4x4 32 1))))) (broadcastInDim S4x64x4x64 ![0, 1, 2, 3] bcast_S1x64x1x64_S4x64x4x64_0_1_2_3 (broadcastInDim S1x64x1x64 ![1, 3] bcast_S64x64_S1x64x1x64_1_3 (broadcastInDim S64x64 ![] bcast_S_S64x64 (constant (F := Ideal) S_ FTy.f32 1065353216#32)))) _ = _
  pointwise
  exact Spec.same_block ⟨r.val / 64, by omega⟩ ⟨k.val / 64, by omega⟩

/-- The selected keys' gains, repeated for every head. -/
theorem blk4 (c : Dev nD) (t : Fin cfg0.N) (k : Fin 256) : iblk m c 4 t (ix2 0 k) = m ((c : Thread nD τ).loc main_arg3) (ix2 1 ⟨k.val % 64, by omega⟩) := by
  have e : (((cfg0.win 4).blk t).view.emb (ix2 (0 : Fin 1) k) : S1x256.Idx) = ix2 (0 : Fin 1) k := by blk_ext [idx t]
  show StableHlo.after (List.flatten [hostOps0, hostOps0_1, hostOps0_2]) (fun b => m (c, b)) (Proc.devRef .tc main_v52) (((cfg0.win 4).blk t).view.emb (ix2 (0 : Fin 1) k)) = _
  rw [e]
  simp only [List.flatten_cons, List.flatten_nil, List.append_nil, List.cons_append, List.nil_append]
  after_results
  pointwise

/-- The window keys' gains, repeated for every head. -/
theorem blk5 (c : Dev nD) (t : Fin cfg0.N) (k : Fin 256) : iblk m c 5 t (ix2 0 k) = m ((c : Thread nD τ).loc main_arg3) (ix2 2 ⟨k.val % 64, by omega⟩) := by
  have e : (((cfg0.win 5).blk t).view.emb (ix2 (0 : Fin 1) k) : S1x256.Idx) = ix2 (0 : Fin 1) k := by blk_ext [idx t]
  show StableHlo.after (List.flatten [hostOps0, hostOps0_1, hostOps0_2]) (fun b => m (c, b)) (Proc.devRef .tc main_v58) (((cfg0.win 5).blk t).view.emb (ix2 (0 : Fin 1) k)) = _
  rw [e]
  simp only [List.flatten_cons, List.flatten_nil, List.append_nil, List.cons_append, List.nil_append]
  after_results
  pointwise

/-- The word of row `r`'s position in its sequence, of block `t`. -/
abbrev posw (t : Fin cfg0.N) (r : Fin 512) : BitVec 32 := BitVec.ofNat 32 (t.val % 8 * 512 + r.val)

/-- The cosines' table. -/
theorem blk6 (c : Dev nD) (t : Fin cfg0.N) (r : Fin 512) (k : Fin 128) : iblk m c 6 t (ix2 r k) = Spec.tabC (fun f => Ideal.cos (Spec.angle (posw t r) f)) (k.val % 64) := by
  have e : (((cfg0.win 6).blk t).view.emb (ix2 r k) : S4096x128.Idx) = ix2 ⟨t.val % 8 * 512 + r.val, by omega⟩ k := by blk_ext [idx t]
  show StableHlo.after (List.flatten [hostOps0, hostOps0_1, hostOps0_2]) (fun b => m (c, b)) (Proc.devRef .tc main_v34) (((cfg0.win 6).blk t).view.emb (ix2 r k)) = _
  rw [e]
  simp only [List.flatten_cons, List.flatten_nil, List.append_nil, List.cons_append, List.nil_append]
  after_reads_simp
  pointwise
  try after_reads_simp
  try pointwise
  exact Spec.tab_split (fun f => Ideal.cos (Spec.angle (posw t r) f)) (fun f => Ideal.cos (Spec.angle (posw t r) f)) 1 (k.val % 64)

/-- The table of the sines with the sign turned. -/
theorem blk7 (c : Dev nD) (t : Fin cfg0.N) (r : Fin 512) (k : Fin 128) : iblk m c 7 t (ix2 r k) = Spec.tabA (fun f => Ideal.sin (Spec.angle (posw t r) f)) (k.val % 64) := by
  have e : (((cfg0.win 7).blk t).view.emb (ix2 r k) : S4096x128.Idx) = ix2 ⟨t.val % 8 * 512 + r.val, by omega⟩ k := by blk_ext [idx t]
  show StableHlo.after (List.flatten [hostOps0, hostOps0_1, hostOps0_2]) (fun b => m (c, b)) (Proc.devRef .tc main_v37) (((cfg0.win 7).blk t).view.emb (ix2 r k)) = _
  rw [e]
  simp only [List.flatten_cons, List.flatten_nil, List.append_nil, List.cons_append, List.nil_append]
  after_reads_simp
  pointwise
  try after_reads_simp
  try pointwise
  rfl

/-- The sines' table. -/
theorem blk8 (c : Dev nD) (t : Fin cfg0.N) (r : Fin 512) (k : Fin 128) : iblk m c 8 t (ix2 r k) = Spec.tabB (fun f => Ideal.sin (Spec.angle (posw t r) f)) (k.val % 64) := by
  have e : (((cfg0.win 8).blk t).view.emb (ix2 r k) : S4096x128.Idx) = ix2 ⟨t.val % 8 * 512 + r.val, by omega⟩ k := by blk_ext [idx t]
  show StableHlo.after (List.flatten [hostOps0, hostOps0_1, hostOps0_2]) (fun b => m (c, b)) (Proc.devRef .tc main_v40) (((cfg0.win 8).blk t).view.emb (ix2 r k)) = _
  rw [e]
  simp only [List.flatten_cons, List.flatten_nil, List.append_nil, List.cons_append, List.nil_append]
  after_reads_simp
  pointwise
  try after_reads_simp
  try pointwise
  exact Spec.tab_split (fun _ => 0) (fun f => Ideal.sin (Spec.angle (posw t r) f)) 0 (k.val % 64)

end Cert.KvIdeal.Val
end
-- ==== Proof.KvRef.lean ====
module

public import proofs.«01_k».proof.Proof.Gen.KvRefIdeal.Read
public import proofs.«01_k».proof.Proof.HeadNorm
public import Idealize.ShloMosaic.Lib.KernelVsHost

/-! The prompt's key and value rows: what the reference's two arrays hold, entry by entry. -/

@[expose] public section

set_option maxRecDepth 16384

noncomputable section

namespace Cert.KvRefIdeal.Val

open Idealize.ShloMosaic Idealize.ShloMosaic.TcCoe Idealize.SL.Sem

section Reference

variable (x0 : (⟨Cert.KvRefIdeal.S4x4096x1024, .f32⟩ : BufTy).Contents (Elt Ideal)) (x1 : (⟨Cert.KvRefIdeal.S1024, .f32⟩ : BufTy).Contents (Elt Ideal))
  (x2 : (⟨Cert.KvRefIdeal.S1024x1536, .f32⟩ : BufTy).Contents (Elt Ideal)) (x3 : (⟨Cert.KvRefIdeal.S3x64, .f32⟩ : BufTy).Contents (Elt Ideal))

open Cert.KvRefIdeal.Read

/-- The projected row of position `t` of sequence `n`. -/
abbrev PROJ (n : Fin 4) (t : Fin 4096) (c : Fin 1536) : EReal :=
  Spec.projRow (fun k => x0 (ix3 n t k)) (fun k => x1 (ix1 k)) (fun k c => x2 (ix2 k c)) c

/-- The reference's projection, reshaped to six entries of four heads. -/
theorem proj_apply (n : Fin 4) (t : Fin 4096) (e : Fin 6) (g : Fin 4) (d : Fin 64) :
    val_main_v15 (F := Ideal) x0 x1 x2 (ix5 n t e g d) = PROJ x0 x1 x2 n t ⟨e.val * 256 + g.val * 64 + d.val, by omega⟩ := by
  pointwise [val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  rfl

/-- The selected keys' norm of head `g`. -/
theorem sel_apply (n : Fin 4) (t : Fin 4096) (g : Fin 4) (d : Fin 64) :
    val_main_v32 (F := Ideal) x0 x1 x2 x3 (ix4 n t g d)
      = Spec.headNorm (fun d => PROJ x0 x1 x2 n t ⟨512 + g.val * 64 + d.val, by omega⟩) (fun d => x3 (ix2 1 d)) d := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_cst_2, val_main_cst_3, val_main_cst_4, proj_apply]
  rfl

/-- The window keys' norm of head `g`. -/
theorem win_apply (n : Fin 4) (t : Fin 4096) (g : Fin 4) (d : Fin 64) :
    val_main_v85 (F := Ideal) x0 x1 x2 x3 (ix4 n t g d)
      = Spec.headNorm (fun d => PROJ x0 x1 x2 n t ⟨1024 + g.val * 64 + d.val, by omega⟩) (fun d => x3 (ix2 2 d)) d := by
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_cst_7, val_main_cst_8, val_main_cst_9, proj_apply]
  rfl

/-- The rotated selected keys. -/
theorem rope_sel (n : Fin 4) (t : Fin 4096) (g : Fin 4) (d : Fin 64) :
    val_main_v68 (F := Ideal) x0 x1 x2 x3 (ix4 n t g d)
      = Spec.ropeRow (fun d => Spec.headNorm (fun d => PROJ x0 x1 x2 n t ⟨512 + g.val * 64 + d.val, by omega⟩) (fun d => x3 (ix2 1 d)) d)
          (fun f => Ideal.cos (Spec.angle (BitVec.ofNat 32 t.val) f)) (fun f => Ideal.sin (Spec.angle (BitVec.ofNat 32 t.val) f)) d := by
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_cst_5, val_main_cst_6, val_main_v0, sel_apply]
  exact Spec.rope_split (fun d => Spec.headNorm (fun d => PROJ x0 x1 x2 n t ⟨512 + g.val * 64 + d.val, by omega⟩) (fun d => x3 (ix2 1 d)) d) (fun f => Ideal.cos (Spec.angle (BitVec.ofNat 32 t.val) f)) (fun f => Ideal.sin (Spec.angle (BitVec.ofNat 32 t.val) f)) d

/-- The rotated window keys. -/
theorem rope_win (n : Fin 4) (t : Fin 4096) (g : Fin 4) (d : Fin 64) :
    val_main_v121 (F := Ideal) x0 x1 x2 x3 (ix4 n t g d)
      = Spec.ropeRow (fun d => Spec.headNorm (fun d => PROJ x0 x1 x2 n t ⟨1024 + g.val * 64 + d.val, by omega⟩) (fun d => x3 (ix2 2 d)) d)
          (fun f => Ideal.cos (Spec.angle (BitVec.ofNat 32 t.val) f)) (fun f => Ideal.sin (Spec.angle (BitVec.ofNat 32 t.val) f)) d := by
  pointwise [val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_cst_10, val_main_cst_11, val_main_v0, win_apply]
  exact Spec.rope_split (fun d => Spec.headNorm (fun d => PROJ x0 x1 x2 n t ⟨1024 + g.val * 64 + d.val, by omega⟩) (fun d => x3 (ix2 2 d)) d) (fun f => Ideal.cos (Spec.angle (BitVec.ofNat 32 t.val) f)) (fun f => Ideal.sin (Spec.angle (BitVec.ofNat 32 t.val) f)) d

/-- The reference's first result, entry by entry. -/
theorem ref_apply (r : Fin 16384) (c : Fin 1024) :
    val_main_v138 (F := Ideal) x0 x1 x2 x3 (ix2 r c)
      = Spec.kvRow (PROJ x0 x1 x2 ⟨r.val / 4096, by omega⟩ ⟨r.val % 4096, by omega⟩) (fun d => x3 (ix2 1 d)) (fun f => Ideal.cos (Spec.angle (BitVec.ofNat 32 (r.val % 4096)) f)) (fun f => Ideal.sin (Spec.angle (BitVec.ofNat 32 (r.val % 4096)) f)) c := by
  pointwise [val_main_v138, val_main_v132, val_main_v131, val_main_v130, val_main_v129, val_main_v128, val_main_v127, val_main_v126, val_main_v125, val_main_v124, val_main_v123, val_main_v122, proj_apply, rope_sel]
  exact Spec.kv_stack (PROJ x0 x1 x2 ⟨r.val / 4096, by omega⟩ ⟨r.val % 4096, by omega⟩) (fun d => x3 (ix2 1 d)) (fun f => Ideal.cos (Spec.angle (BitVec.ofNat 32 (r.val % 4096)) f)) (fun f => Ideal.sin (Spec.angle (BitVec.ofNat 32 (r.val % 4096)) f)) c

/-- The reference's second result, entry by entry: the last 512 rows of each sequence. -/
theorem refwin_apply (n : Fin 4) (i : Fin 512) (e : Fin 2) (g : Fin 4) (d : Fin 64) :
    val_main_v139 (F := Ideal) x0 x1 x2 x3 (ix5 n i e g d)
      = Spec.winRow (PROJ x0 x1 x2 n ⟨3584 + i.val, by omega⟩) (fun d => x3 (ix2 2 d)) (fun f => Ideal.cos (Spec.angle (BitVec.ofNat 32 (3584 + i.val)) f)) (fun f => Ideal.sin (Spec.angle (BitVec.ofNat 32 (3584 + i.val)) f)) ⟨e.val * 256 + g.val * 64 + d.val, by omega⟩ := by
  pointwise [val_main_v139, val_main_v137, val_main_v136, val_main_v135, val_main_v134, val_main_v133, proj_apply, rope_win]
  exact Spec.win_stack (PROJ x0 x1 x2 n ⟨3584 + i.val, by omega⟩) (fun d => x3 (ix2 2 d)) (fun f => Ideal.cos (Spec.angle (BitVec.ofNat 32 (3584 + i.val)) f)) (fun f => Ideal.sin (Spec.angle (BitVec.ofNat 32 (3584 + i.val)) f)) e g d

end Reference

end Cert.KvRefIdeal.Val
end
-- ==== Proof.KvValue.lean ====
module

public import proofs.«01_k».proof.Proof.Gen.KvIdeal.Frame
public import proofs.«01_k».proof.Proof.Gen.KvRefIdeal.Read
public import proofs.«01_k».proof.Proof.HeadNorm
public import proofs.«01_k».proof.Proof.KvBlk
public import proofs.«01_k».proof.Proof.KvRef
public import Idealize.ShloMosaic.Lib.KernelVsHost

/-! The prompt's key and value rows: the call's arrays are the reference's where the rows, gains and weights are real numbers. -/

@[expose] public section

set_option maxRecDepth 16384

noncomputable section

namespace Cert.KvIdeal.Val

open Cert.KvRefIdeal.Val (PROJ ref_apply refwin_apply)
open Cert.KvIdeal Cert.KvIdeal.Gen Idealize.ShloMosaic Idealize.ShloMosaic.TcCoe Idealize.SL.Sem
open Idealize.ShloMosaic.Pipeline (Dat)

section Body

variable (X0 : Vec Ideal S512x1024 .f32) (X1 : Vec Ideal S1x1024 .f32) (X2 : Vec Ideal S1024x1536 .bf16) (XO : Vec Ideal S256x256 .bf16)
  (X4 : Vec Ideal S1x256 .f32) (XC XA XB : Vec Ideal S512x128 .f32)

/-- The projected row `r` of the block. -/
abbrev BP (r : Fin 512) (c : Fin 1536) : EReal :=
  Spec.projRow (fun k => X0 (ix2 r k)) (fun k => X1 (ix2 0 k)) (fun k c => X2 (ix2 k c)) c

theorem p_apply (r : Fin 512) (c : Fin 1536) : k0_pay2 (F := Ideal) X0 X1 X2 (ix2 r c) = BP X0 X1 X2 r c := by
  pointwise [k0_pay2]
  rfl

variable (r : Fin 512) (gn : Fin 64 → EReal) (cs sn : Fin 8 → EReal)

/-- The selected keys' part of the body, normed and rotated. -/
theorem sel_rot (hp : ∀ c, Spec.IsReal (BP X0 X1 X2 r c)) (hO : ∀ l k : Fin 256, XO (ix2 l k) = if l.val / 64 = k.val / 64 then (1 : EReal) else 0)
    (hg : ∀ k : Fin 256, X4 (ix2 0 k) = gn ⟨k.val % 64, by omega⟩) (hC : ∀ k : Fin 128, XC (ix2 r k) = Spec.tabC cs (k.val % 64))
    (hA : ∀ k : Fin 128, XA (ix2 r k) = Spec.tabA sn (k.val % 64)) (hB : ∀ k : Fin 128, XB (ix2 r k) = Spec.tabB sn (k.val % 64)) (c : Fin 256) :
    k0_pay11 (F := Ideal) (k0_pay5 X0 X1 X2) (k0_pay9 X4) (k0_pay10 X0 X1 X2 XO) (Scalar.ofBits .f32 0x358637BD#32) XC XA XB (ix2 r c)
      = Spec.ropeRow (Spec.headNorm (fun d => BP X0 X1 X2 r ⟨512 + (c.val / 64 * 64 + d.val), by omega⟩) gn) cs sn ⟨c.val % 64, by omega⟩ := by
  pointwise [k0_pay11, k0_pay9, k0_pay10, k0_pay5, p_apply]
  exact Spec.rot_slice (fun k => BP X0 X1 X2 r ⟨512 + k.val, by omega⟩) (fun l => hp _) (fun l k => XO (ix2 l k)) hO (fun k => X4 (ix2 0 k)) gn hg cs sn (fun k => XC (ix2 r k)) (fun k => XA (ix2 r k)) (fun k => XB (ix2 r k)) hC hA hB
    (fun k => BP X0 X1 X2 r ⟨512 + k.val, by omega⟩ * Ideal.rsqrt ((∑ l : Fin 256, BP X0 X1 X2 r ⟨512 + l.val, by omega⟩ * BP X0 X1 X2 r ⟨512 + l.val, by omega⟩ * XO (ix2 l k)
      + ∑ l : Fin 256, (BP X0 X1 X2 r ⟨512 + l.val, by omega⟩ * BP X0 X1 X2 r ⟨512 + l.val, by omega⟩ - BP X0 X1 X2 r ⟨512 + l.val, by omega⟩ * BP X0 X1 X2 r ⟨512 + l.val, by omega⟩) * XO (ix2 l k))
      * Ideal.ofBits FTy.f32 0x3C800000#32 + Ideal.ofBits FTy.f32 897988541#32) * X4 (ix2 0 k)) (fun _ => rfl) c

/-- The first result's row. -/
theorem out9 (hp : ∀ c, Spec.IsReal (BP X0 X1 X2 r c)) (hO : ∀ l k : Fin 256, XO (ix2 l k) = if l.val / 64 = k.val / 64 then (1 : EReal) else 0)
    (hg : ∀ k : Fin 256, X4 (ix2 0 k) = gn ⟨k.val % 64, by omega⟩) (hC : ∀ k : Fin 128, XC (ix2 r k) = Spec.tabC cs (k.val % 64))
    (hA : ∀ k : Fin 128, XA (ix2 r k) = Spec.tabA sn (k.val % 64)) (hB : ∀ k : Fin 128, XB (ix2 r k) = Spec.tabB sn (k.val % 64)) (c : Fin 1024) :
    k0_pay15 (F := Ideal) (k0_pay3 X0 X1 X2) (k0_pay4 X0 X1 X2) (k0_pay6 X0 X1 X2) (k0_pay11 (k0_pay5 X0 X1 X2) (k0_pay9 X4) (k0_pay10 X0 X1 X2 XO) (Scalar.ofBits .f32 0x358637BD#32) XC XA XB) (ix2 r c)
      = Spec.kvRow (BP X0 X1 X2 r) gn cs sn c := by
  have key := sel_rot X0 X1 X2 XO X4 XC XA XB r gn cs sn hp hO hg hC hA hB
  revert key
  generalize k0_pay11 (F := Ideal) (k0_pay5 X0 X1 X2) (k0_pay9 X4) (k0_pay10 X0 X1 X2 XO) (Scalar.ofBits .f32 0x358637BD#32) XC XA XB = W
  intro key
  pointwise [k0_pay15, k0_pay3, k0_pay4, k0_pay6, p_apply]
  exact Spec.kv_cat (BP X0 X1 X2 r) gn cs sn (fun c => W (ix2 r c)) key c

/-- The window keys' norm. -/
abbrev NORM (k : Fin 256) : EReal := BP X0 X1 X2 r ⟨1024 + k.val, by omega⟩ * Ideal.rsqrt ((∑ l : Fin 256, BP X0 X1 X2 r ⟨1024 + l.val, by omega⟩ * BP X0 X1 X2 r ⟨1024 + l.val, by omega⟩ * XO (ix2 l k)
      + ∑ l : Fin 256, (BP X0 X1 X2 r ⟨1024 + l.val, by omega⟩ * BP X0 X1 X2 r ⟨1024 + l.val, by omega⟩ - BP X0 X1 X2 r ⟨1024 + l.val, by omega⟩ * BP X0 X1 X2 r ⟨1024 + l.val, by omega⟩) * XO (ix2 l k))
      * Ideal.ofBits FTy.f32 0x3C800000#32 + Ideal.ofBits FTy.f32 897988541#32) * X4 (ix2 0 k)

theorem norm_apply (k : Fin 256) : k0_pay12 (F := Ideal) (k0_pay7 X0 X1 X2) XO X4 (ix2 r k) = NORM X0 X1 X2 XO X4 r k := by
  pointwise [k0_pay12, k0_pay7, p_apply]

/-- The second result's row. -/
theorem out10 (hp : ∀ c, Spec.IsReal (BP X0 X1 X2 r c)) (hO : ∀ l k : Fin 256, XO (ix2 l k) = if l.val / 64 = k.val / 64 then (1 : EReal) else 0)
    (hg : ∀ k : Fin 256, X4 (ix2 0 k) = gn ⟨k.val % 64, by omega⟩) (hC : ∀ k : Fin 128, XC (ix2 r k) = Spec.tabC cs (k.val % 64))
    (hA : ∀ k : Fin 128, XA (ix2 r k) = Spec.tabA sn (k.val % 64)) (hB : ∀ k : Fin 128, XB (ix2 r k) = Spec.tabB sn (k.val % 64)) (c : Fin 512) :
    k0_pay16 (F := Ideal) (k0_pay8 X0 X1 X2) (k0_pay12 (k0_pay7 X0 X1 X2) XO X4) (k0_pay13 (k0_pay7 X0 X1 X2) XO X4) XC XA XB (ix2 r c)
      = Spec.winRow (BP X0 X1 X2 r) gn cs sn c := by
  have key := fun k => norm_apply X0 X1 X2 XO X4 r k
  unfold k0_pay13
  revert key
  generalize k0_pay12 (F := Ideal) (k0_pay7 X0 X1 X2) XO X4 = W
  intro key
  pointwise [k0_pay16, k0_pay14, k0_pay8, p_apply]
  exact Spec.win_cat (BP X0 X1 X2 r) gn cs sn _ (fun c => Spec.rot_slice (fun k => BP X0 X1 X2 r ⟨1024 + k.val, by omega⟩) (fun l => hp _) (fun l k => XO (ix2 l k)) hO (fun k => X4 (ix2 0 k)) gn hg
    cs sn (fun k => XC (ix2 r k)) (fun k => XA (ix2 r k)) (fun k => XB (ix2 r k)) hC hA hB (fun k => W (ix2 r k)) key c) c

end Body

variable (m : (ℓ : Loc nD τ sig) → Buf (Elt Ideal) ℓ)

/-- The rows, the gains and the weights are real numbers. -/
def RealArgs (c : Dev nD) : Prop :=
  (∀ n t k, Spec.IsReal (m ((c : Thread nD τ).loc main_arg0) (ix3 n t k))) ∧ (∀ k, Spec.IsReal (m ((c : Thread nD τ).loc main_arg1) (ix1 k)))
    ∧ ∀ k l, Spec.IsReal (m ((c : Thread nD τ).loc main_arg2) (ix2 k l))

/-- The position's word is that of the row's place in its sequence. -/
theorem pos_eq (t : Fin cfg0.N) (r : Fin 512) : posw t r = BitVec.ofNat 32 ((row t r).val % 4096) :=
  congrArg (BitVec.ofNat 32) (show t.val % 8 * 512 + r.val = (t.val * 512 + r.val) % 4096 by omega)

theorem pos_cos (t : Fin cfg0.N) (r : Fin 512) (f : Fin 8) : Ideal.cos (Spec.angle (posw t r) f) = Ideal.cos (Spec.angle (BitVec.ofNat 32 ((row t r).val % 4096)) f) :=
  congrArg (fun p => Ideal.cos (Spec.angle p f)) (pos_eq t r)

theorem pos_sin (t : Fin cfg0.N) (r : Fin 512) (f : Fin 8) : Ideal.sin (Spec.angle (posw t r) f) = Ideal.sin (Spec.angle (BitVec.ofNat 32 ((row t r).val % 4096)) f) :=
  congrArg (fun p => Ideal.sin (Spec.angle p f)) (pos_eq t r)

/-- The projected row of the block's row `r` is the reference's. -/
theorem bp (c : Dev nD) (t : Fin cfg0.N) (r : Fin 512) (k : Fin 1536) :
    BP (iblk m c 0 t) (iblk m c 1 t) (iblk m c 2 t) r k
      = PROJ (m ((c : Thread nD τ).loc main_arg0)) (m ((c : Thread nD τ).loc main_arg1)) (m ((c : Thread nD τ).loc main_arg2)) ⟨(row t r).val / 4096, by omega⟩ ⟨(row t r).val % 4096, by omega⟩ k :=
  Spec.projRow_congr (fun k => blk0 m c t r k) (fun k => blk1 m c t k) (fun k l => blk2 m c t k l) rfl

theorem bp_real (c : Dev nD) (h : RealArgs m c) (t : Fin cfg0.N) (r : Fin 512) (k : Fin 1536) : Spec.IsReal (BP (iblk m c 0 t) (iblk m c 1 t) (iblk m c 2 t) r k) := by
  rw [bp]
  exact Spec.isReal_projRow (fun k => h.1 _ _ k) (fun k => h.2.1 k) (fun k l => h.2.2 k l) k

/-- The first result array after the run is the reference's. -/
theorem final9 (c : Dev nD) (h : RealArgs m c) : (dats m 0 c).arrAt 9 (cfgs 0).N
    = Cert.KvRefIdeal.Read.val_main_v138 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  have ht : t.val < 32 := t.isLt
  have e : (((cfg0.win 9).blk t).view.emb y : S16384x1024.Idx) = ix2 (row t (y 0)) (y 1) := by blk_ext [idx t]
  rw [e]
  blk_simp
  rw [after0_9, eq_ix2 y]
  unfold_out out0_9
  frame_out
  refine (out9 (iblk m c 0 t) (iblk m c 1 t) (iblk m c 2 t) (iblk m c 3 t) (iblk m c 4 t) (iblk m c 6 t) (iblk m c 7 t) (iblk m c 8 t) (y 0) _ _ _
    (bp_real m c h t (y 0)) (blk3 m c t) (blk4 m c t) (blk6 m c t (y 0)) (blk7 m c t (y 0)) (blk8 m c t (y 0)) (y 1)).trans
    (Eq.trans (Spec.kvRow_congr (fun k => bp m c t (y 0) k) (fun _ => rfl) (fun f => pos_cos t (y 0) f) (fun f => pos_sin t (y 0) f) rfl) (ref_apply _ _ _ _ (row t (y 0)) (y 1)).symm)

/-- The second result array after the run, row by row. -/
theorem final10 (c : Dev nD) (h : RealArgs m c) : (dats m 0 c).arrAt 10 (cfgs 0).N
    = ((fun j : S16384x512.Idx => Spec.winRow (PROJ (m ((c : Thread nD τ).loc main_arg0)) (m ((c : Thread nD τ).loc main_arg1)) (m ((c : Thread nD τ).loc main_arg2))
        ⟨(j 0).val / 4096, by have := (j 0).isLt; change (j 0).val < 16384 at this; omega⟩ ⟨(j 0).val % 4096, by omega⟩) (fun d => m ((c : Thread nD τ).loc main_arg3) (ix2 2 d))
        (fun f => Ideal.cos (Spec.angle (BitVec.ofNat 32 ((j 0).val % 4096)) f)) (fun f => Ideal.sin (Spec.angle (BitVec.ofNat 32 ((j 0).val % 4096)) f)) (j 1)) : FVec Ideal S16384x512 .f32) := by
  refine (dats m 0 c).arrAt_eq_of_covers 10 _ (by decide +kernel) fun t _ y => ?_
  have ht : t.val < 32 := t.isLt
  have e : (((cfg0.win 10).blk t).view.emb y : S16384x512.Idx) = ix2 (row t (y 0)) (y 1) := by blk_ext [idx t]
  rw [e]
  blk_simp
  rw [after0_10, eq_ix2 y]
  unfold_out out0_10
  frame_out
  exact (out10 (iblk m c 0 t) (iblk m c 1 t) (iblk m c 2 t) (iblk m c 3 t) (iblk m c 5 t) (iblk m c 6 t) (iblk m c 7 t) (iblk m c 8 t) (y 0) _ _ _
    (bp_real m c h t (y 0)) (blk3 m c t) (blk5 m c t) (blk6 m c t (y 0)) (blk7 m c t (y 0)) (blk8 m c t (y 0)) (y 1)).trans
    (Spec.winRow_congr (fun k => bp m c t (y 0) k) (fun _ => rfl) (fun f => pos_cos t (y 0) f) (fun f => pos_sin t (y 0) f) rfl)

/-- The last 512 rows of each sequence, of an array of all rows. -/
theorem tail_apply (U : FVec Ideal S16384x512 .f32) (n : Fin 4) (i : Fin 512) (e : Fin 2) (g : Fin 4) (d : Fin 64) :
    extractStridedSlice S4x512x2x4x64 ![0, 3584, 0, 0, 0] (shapeCast S4x4096x2x4x64 U shapeCasts_S16384x512_S4x4096x2x4x64) slices_S4x4096x2x4x64_S4x512x2x4x64_0_3584_0_0_0 (ix5 n i e g d)
      = U (ix2 ⟨n.val * 4096 + (3584 + i.val), by omega⟩ ⟨e.val * 256 + g.val * 64 + d.val, by omega⟩) := by
  pointwise

/-- The second array the program returns, after the lines that follow the call. -/
theorem tail (c : Dev nD) (h : RealArgs m c) : Pipeline.afterTail₀ cfgs (dats m) 0 (V0 m) [hostOps1] c main_v64
    = Cert.KvRefIdeal.Read.val_main_v139 (F := Ideal) (m ((c : Thread nD τ).loc main_arg0)) (m ((c : Thread nD τ).loc main_arg1)) (m ((c : Thread nD τ).loc main_arg2)) (m ((c : Thread nD τ).loc main_arg3)) := by
  show StableHlo.after hostOps1 (Pipeline.withArrays (cfgs 0).spec c (V0 m c) fun w => (dats m 0 c).arrAt w (cfgs 0).N) (Proc.devRef .tc main_v64) = _
  after_results
  rw [Pipeline.withArrays_arr (cfgs 0).spec (by decide) c (V0 m c) (fun w => (dats m 0 c).arrAt w (cfgs 0).N) 10, final10 m c h]
  funext y
  rw [eq_ix5 y]
  refine (tail_apply _ (y 0) (y 1) (y 2) (y 3) (y 4)).trans (Eq.trans ?_ (refwin_apply _ _ _ _ (y 0) (y 1) (y 2) (y 3) (y 4)).symm)
  have h0 : (y 0).val < 4 := (y 0).isLt
  have h1 : (y 1).val < 512 := (y 1).isLt
  have d0 : ((y 0).val * 4096 + (3584 + (y 1).val)) / 4096 = (y 0).val := by omega
  have d1 : ((y 0).val * 4096 + (3584 + (y 1).val)) % 4096 = 3584 + (y 1).val := by omega
  refine Spec.winRow_congr (fun k => congrArg₂ (fun a b => PROJ _ _ _ a b k) (Fin.ext d0) (Fin.ext d1)) (fun _ => rfl) (fun f => ?_) (fun f => ?_) rfl
  · exact congrArg (fun p => Ideal.cos (Spec.angle (BitVec.ofNat 32 p) f)) d1
  · exact congrArg (fun p => Ideal.sin (Spec.angle (BitVec.ofNat 32 p) f)) d1

end Cert.KvIdeal.Val
end
-- ==== Proof.Finite.lean ====
module

public import proofs.«01_k».proof.Proof.HeadNorm
public import Idealize.ShloMosaic.Lib.ReduceAll
public import Idealize.ShloMosaic.Lib.Affine
public import Idealize.ShloMosaic.Lib.Pointwise.Select

/-! A printed test that all elements of an array have an absolute value below +∞, read back: each element is a real number. -/

@[expose] public section

noncomputable section

namespace Cert.Spec

open Idealize.ShloMosaic

/-- The word of the constant is +∞. -/
theorem inf_word : Ideal.ofBits .f32 0x7F800000#32 = ⊤ := by
  simp [Ideal.ofBits, Ideal.ieee]

/-- Where the test of a whole array is 1, each of its elements is a real number. -/
theorem real_of_test {s t u : Shape} {axes : List (Fin s.rank)} [Subsingleton t.Idx] (x : FVec Ideal s .f32) (b : FVec Ideal s .f32) (hb : ∀ i, b i = ⊤)
    (init : IVec u 1) (h : s.ReducesTo axes t) (hu : 0 < u.numel) (j : t.Idx)
    (e : Host.reduce IntOp.andi (cmpf .olt (Host.absf x) b) init h hu j = 1#1) (i : s.Idx) : IsReal (x i) := by
  have h1 := Host.reduce_andi_all (cmpf .olt (Host.absf x) b) init h hu j e i
  have h2 : Ideal.cmp .olt (max (x i) (-(x i))) (b i) = 1 := h1
  rw [hb] at h2
  exact isReal_of_abs_lt ((Ideal.cmp_olt_eq_one _ _).1 h2)

end Cert.Spec

end
-- ==== Proof.KvPre.lean ====
module

public import proofs.«01_k».proof.Defs
public import proofs.«01_k».proof.Proof.KvValue
public import proofs.«01_k».proof.Proof.Finite

/-! What the precondition of the prompt rows' keys and values says of the arrays it is stated of. -/

@[expose] public section

set_option maxRecDepth 16384

noncomputable section

namespace Cert.KvPre

open Idealize.ShloMosaic Idealize.ShloMosaic.TcCoe Idealize.SL.Sem

/-- The shape conditions the precondition's operations take. -/
instance facts : Cert.Pre_finite_kv.Facts where
  bcast_S_S4x4096x1024 := by decide
  reducesTo_S4x4096x1024_S_d0_1_2 := by decide
  h_S_ := by decide
  bcast_S_S1024 := by decide
  reducesTo_S1024_S_d0 := by decide
  bcast_S_S1024x1536 := by decide
  reducesTo_S1024x1536_S_d0_1 := by decide

instance : Subsingleton Cert.Pre_finite_kv.S_.Idx := ⟨fun a b => funext fun i => i.elim0⟩

/-- Where it holds, the rows, the norm's weights and the projection's are real numbers. -/
theorem real (m : (ℓ : Loc Cert.KvIdeal.nD Cert.KvIdeal.τ Cert.KvIdeal.sig) → Buf (Elt Ideal) ℓ) (h : Cert.Pre_KvIdeal_finite_kv m)
    (c : Dev Cert.KvIdeal.nD) : Cert.KvIdeal.Val.RealArgs m c := by
  have e := congrFun (h c) (fun i => i.elim0)
  have e1 := IntOp.andi_eq_one.1 e
  have e2 := IntOp.andi_eq_one.1 e1.1
  exact ⟨fun n t k => Spec.real_of_test _ _ (fun _ => Spec.inf_word) _ _ _ _ e2.1 (ix3 n t k),
    fun k => Spec.real_of_test _ _ (fun _ => Spec.inf_word) _ _ _ _ e2.2 (ix1 k),
    fun k l => Spec.real_of_test _ _ (fun _ => Spec.inf_word) _ _ _ _ e1.2 (ix2 k l)⟩

end Cert.KvPre

end
-- ==== Proof.KvClaim.lean ====
module

public import proofs.«01_k».proof.Defs
public import proofs.«01_k».proof.Proof.Gen.Kv.Frame
public import proofs.«01_k».proof.Proof.Gen.KvIdeal.Frame
public import proofs.«01_k».proof.Proof.Gen.KvRefIdeal.Run
public import proofs.«01_k».proof.Proof.KvValue
public import proofs.«01_k».proof.Proof.KvPre
public import Idealize.ShloMosaic.Lib.Claim

/-! The keys and values of the prompt rows: the claims about them, each from one run of the program it speaks of. -/

@[expose] public section

set_option maxRecDepth 16384

noncomputable section

namespace Cert.KvClaim

open Idealize.ShloMosaic Idealize.ShloMosaic.TcCoe Idealize.SL.Sem

/-- The kernel runs to its end and keeps its arguments. -/
theorem kernel_frame : Cert.quiescent_Kv := fun m ρ _ => Cert.Kv.Gen.frame m ρ

/-- The same of the kernel over the extended reals. -/
theorem ideal_frame : Cert.quiescent_KvIdeal := fun m ρ _ => Cert.KvIdeal.Gen.frame m ρ

/-- The same, stated under the precondition of the values. -/
theorem ideal_frame_pre : Cert.quiescent_KvIdeal_pre_finite_kv := fun m ρ _ => Cert.KvIdeal.Gen.frame m ρ

/-- The reference runs to its end and keeps its arguments. -/
theorem ref_frame : Cert.quiescent_KvRefIdeal := fun m ρ _ =>
  (θ_run _ _ _).mono (fun r h => ⟨fun c => (h c).2.2, sem_eq_zero_of_no_sems (by decide) r.2⟩) (Cert.KvRefIdeal.Value.run m ρ)

/-- The same, stated under the precondition of the values. -/
theorem ref_frame_pre : Cert.quiescent_KvRefIdeal_pre_finite_kv := fun m ρ _ => ref_frame m ρ trivial

set_option maxHeartbeats 2000000 in
/-- Over the extended reals the kernel's result arrays are the reference's, of arguments that are real numbers. -/
theorem algebraic : Cert.algebraic_KvIdeal_KvRefIdeal_pre_finite_kv := by
  pair_intro
  · run_from Cert.KvIdeal.Gen.run_main m g
    · exact Cert.KvIdeal.Gen.W_main_arg0 m (Cert.KvIdeal.Gen.dats m) c
    · exact Cert.KvIdeal.Gen.W_main_arg1 m (Cert.KvIdeal.Gen.dats m) c
    · exact Cert.KvIdeal.Gen.W_main_arg2 m (Cert.KvIdeal.Gen.dats m) c
    · exact Cert.KvIdeal.Gen.W_main_arg3 m (Cert.KvIdeal.Gen.dats m) c
  · have hr := Cert.KvPre.real m hpre
    run_from Cert.KvRefIdeal.Value.run m' g'
    · rw [Cert.KvRefIdeal.Read.val_main_v138_eq, (hagree c).1, (hagree c).2.1, (hagree c).2.2.1, (hagree c).2.2.2]
      exact (Cert.KvIdeal.Val.final9 m c (hr c)).symm
    · rw [Cert.KvRefIdeal.Read.val_main_v139_eq, (hagree c).1, (hagree c).2.1, (hagree c).2.2.1, (hagree c).2.2.2]
      exact (Cert.KvIdeal.Val.tail m c (hr c)).symm

end Cert.KvClaim

end
-- ==== Proof.KvSBlk.lean ====
module

public import proofs.«01_k».proof.Proof.Gen.KvSIdeal.Frame
public import proofs.«01_k».proof.Proof.HeadNorm
public import Idealize.ShloMosaic.Lib.KernelVsHost
public import Idealize.ShloMosaic.Lib.StableHlo.RunRead

/-! The sample's key and value rows: what the call's argument blocks hold of the program's arguments. -/

@[expose] public section

set_option maxRecDepth 16384

noncomputable section

namespace Cert.KvSIdeal.Val

open Cert.KvSIdeal Cert.KvSIdeal.Gen Idealize.ShloMosaic Idealize.ShloMosaic.TcCoe Idealize.SL.Sem
open Idealize.ShloMosaic.Pipeline (Dat)

variable (m : (ℓ : Loc nD τ sig) → Buf (Elt Ideal) ℓ)

/-- The block every grid point of each window works on. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

theorem blk0 (c : Dev nD) (t : Fin cfg0.N) (r : Fin 256) (k : Fin 1024) :
    iblk m c 0 t (ix2 r k) = m ((c : Thread nD τ).loc main_arg0) (ix3 ⟨r.val / 8, by omega⟩ ⟨r.val % 8, by omega⟩ k) := by
  have ht : t.val < 1 := t.isLt
  have e : (((cfg0.win 0).blk t).view.emb (ix2 r k) : S256x1024.Idx) = ix2 r k := by blk_ext [idx t]
  show StableHlo.after (List.flatten [hostOps0, hostOps0_1, hostOps0_2]) (fun b => m (c, b)) (Proc.devRef .tc main_v70) (((cfg0.win 0).blk t).view.emb (ix2 r k)) = _
  rw [e]
  simp only [List.flatten_cons, List.flatten_nil, List.append_nil, List.cons_append, List.nil_append]
  after_results
  pointwise

/-- The gains' block is the gains. -/
theorem blk1 (c : Dev nD) (t : Fin cfg0.N) (k : Fin 1024) : iblk m c 1 t (ix2 0 k) = m ((c : Thread nD τ).loc main_arg2) (ix1 k) := by
  have e : (((cfg0.win 1).blk t).view.emb (ix2 (0 : Fin 1) k) : S1x1024.Idx) = ix2 (0 : Fin 1) k := by blk_ext [idx t]
  show StableHlo.after (List.flatten [hostOps0, hostOps0_1, hostOps0_2]) (fun b => m (c, b)) (Proc.devRef .tc main_v71) (((cfg0.win 1).blk t).view.emb (ix2 (0 : Fin 1) k)) = _
  rw [e]
  simp only [List.flatten_cons, List.flatten_nil, List.append_nil, List.cons_append, List.nil_append]
  after_results
  try pointwise

/-- The weights' block is the weights. -/
theorem blk2 (c : Dev nD) (t : Fin cfg0.N) (r : Fin 1024) (k : Fin 1536) : iblk m c 2 t (ix2 r k) = m ((c : Thread nD τ).loc main_arg3) (ix2 r k) := by
  have e : (((cfg0.win 2).blk t).view.emb (ix2 r k) : S1024x1536.Idx) = ix2 r k := by blk_ext [idx t]
  show StableHlo.after (List.flatten [hostOps0, hostOps0_1, hostOps0_2]) (fun b => m (c, b)) (Proc.devRef .tc main_v72) (((cfg0.win 2).blk t).view.emb (ix2 r k)) = _
  rw [e]
  simp only [List.flatten_cons, List.flatten_nil, List.append_nil, List.cons_append, List.nil_append]
  after_results
  try pointwise

/-- The block-diagonal ones. -/
theorem blk3 (c : Dev nD) (t : Fin cfg0.N) (r k : Fin 256) : iblk m c 3 t (ix2 r k) = if r.val / 64 = k.val / 64 then 1 else (0 : EReal) := by
  have e : (((cfg0.win 3).blk t).view.emb (ix2 r k) : S256x256.Idx) = ix2 r k := by blk_ext [idx t]
  show StableHlo.after (List.flatten [hostOps0, hostOps0_1, hostOps0_2]) (fun b => m (c, b)) (Proc.devRef .tc main_v8) (((cfg0.win 3).blk t).view.emb (ix2 r k)) = _
  rw [e]
  simp only [List.flatten_cons, List.flatten_nil, List.append_nil, List.cons_append, List.nil_append]
  after_results
  show mulf (F := Ideal) (broadcastInDim S4x64x4x64 ![0, 1, 2, 3] bcast_S4x1x4x1_S4x64x4x64_0_1_2_3 (broadcastInDim S4x1x4x1 ![0, 2] bcast_S4x4_S4x1x4x1_0_2 (uitofp (F := Ideal) FTy.f32 (cmpi CmpIPredicate.eq (addi (iotaInDim S4x4 32 0) (broadcastInDim S4x4 ![] bcast_S_S4x4 (constantI S_ 32 0#32))) (iotaInDim S4x4 32 1))))) (broadcastInDim S4x64x4x64 ![0, 1, 2, 3] bcast_S1x64x1x64_S4x64x4x64_0_1_2_3 (broadcastInDim S1x64x1x64 ![1, 3] bcast_S64x64_S1x64x1x64_1_3 (broadcastInDim S64x64 ![] bcast_S_S64x64 (constant (F := Ideal) S_ FTy.f32 1065353216#32)))) _ = _
  pointwise
  exact Spec.same_block ⟨r.val / 64, by omega⟩ ⟨k.val / 64, by omega⟩

/-- The selected keys' gains, repeated for every head. -/
theorem blk4 (c : Dev nD) (t : Fin cfg0.N) (k : Fin 256) : iblk m c 4 t (ix2 0 k) = m ((c : Thread nD τ).loc main_arg4) (ix2 1 ⟨k.val % 64, by omega⟩) := by
  have e : (((cfg0.win 4).blk t).view.emb (ix2 (0 : Fin 1) k) : S1x256.Idx) = ix2 (0 : Fin 1) k := by blk_ext [idx t]
  show StableHlo.after (List.flatten [hostOps0, hostOps0_1, hostOps0_2]) (fun b => m (c, b)) (Proc.devRef .tc main_v63) (((cfg0.win 4).blk t).view.emb (ix2 (0 : Fin 1) k)) = _
  rw [e]
  simp only [List.flatten_cons, List.flatten_nil, List.append_nil, List.cons_append, List.nil_append]
  after_results
  pointwise

/-- The window keys' gains, repeated for every head. -/
theorem blk5 (c : Dev nD) (t : Fin cfg0.N) (k : Fin 256) : iblk m c 5 t (ix2 0 k) = m ((c : Thread nD τ).loc main_arg4) (ix2 2 ⟨k.val % 64, by omega⟩) := by
  have e : (((cfg0.win 5).blk t).view.emb (ix2 (0 : Fin 1) k) : S1x256.Idx) = ix2 (0 : Fin 1) k := by blk_ext [idx t]
  show StableHlo.after (List.flatten [hostOps0, hostOps0_1, hostOps0_2]) (fun b => m (c, b)) (Proc.devRef .tc main_v69) (((cfg0.win 5).blk t).view.emb (ix2 (0 : Fin 1) k)) = _
  rw [e]
  simp only [List.flatten_cons, List.flatten_nil, List.append_nil, List.cons_append, List.nil_append]
  after_results
  pointwise

/-- The word of row `r`'s position. -/
abbrev posw (r : Fin 256) : BitVec 32 := IntOp.addi 8192#32 (BitVec.ofNat 32 (r.val % 8))

/-- The cosines' table. -/
theorem blk6 (c : Dev nD) (t : Fin cfg0.N) (r : Fin 256) (k : Fin 128) : iblk m c 6 t (ix2 r k) = Spec.tabC (fun f => Ideal.cos (Spec.angle (posw r) f)) (k.val % 64) := by
  have e : (((cfg0.win 6).blk t).view.emb (ix2 r k) : S256x128.Idx) = ix2 r k := by blk_ext [idx t]
  show StableHlo.after (List.flatten [hostOps0, hostOps0_1, hostOps0_2]) (fun b => m (c, b)) (Proc.devRef .tc main_v45) (((cfg0.win 6).blk t).view.emb (ix2 r k)) = _
  rw [e]
  simp only [List.flatten_cons, List.flatten_nil, List.append_nil, List.cons_append, List.nil_append]
  after_reads_simp
  pointwise
  try after_reads_simp
  try pointwise
  exact Spec.tab_split (fun f => Ideal.cos (Spec.angle (posw r) f)) (fun f => Ideal.cos (Spec.angle (posw r) f)) 1 (k.val % 64)

/-- The table of the sines with the sign turned. -/
theorem blk7 (c : Dev nD) (t : Fin cfg0.N) (r : Fin 256) (k : Fin 128) : iblk m c 7 t (ix2 r k) = Spec.tabA (fun f => Ideal.sin (Spec.angle (posw r) f)) (k.val % 64) := by
  have e : (((cfg0.win 7).blk t).view.emb (ix2 r k) : S256x128.Idx) = ix2 r k := by blk_ext [idx t]
  show StableHlo.after (List.flatten [hostOps0, hostOps0_1, hostOps0_2]) (fun b => m (c, b)) (Proc.devRef .tc main_v48) (((cfg0.win 7).blk t).view.emb (ix2 r k)) = _
  rw [e]
  simp only [List.flatten_cons, List.flatten_nil, List.append_nil, List.cons_append, List.nil_append]
  after_reads_simp
  pointwise
  try after_reads_simp
  try pointwise
  rfl

/-- The sines' table. -/
theorem blk8 (c : Dev nD) (t : Fin cfg0.N) (r : Fin 256) (k : Fin 128) : iblk m c 8 t (ix2 r k) = Spec.tabB (fun f => Ideal.sin (Spec.angle (posw r) f)) (k.val % 64) := by
  have e : (((cfg0.win 8).blk t).view.emb (ix2 r k) : S256x128.Idx) = ix2 r k := by blk_ext [idx t]
  show StableHlo.after (List.flatten [hostOps0, hostOps0_1, hostOps0_2]) (fun b => m (c, b)) (Proc.devRef .tc main_v51) (((cfg0.win 8).blk t).view.emb (ix2 r k)) = _
  rw [e]
  simp only [List.flatten_cons, List.flatten_nil, List.append_nil, List.cons_append, List.nil_append]
  after_reads_simp
  pointwise
  try after_reads_simp
  try pointwise
  exact Spec.tab_split (fun _ => 0) (fun f => Ideal.sin (Spec.angle (posw r) f)) 0 (k.val % 64)

end Cert.KvSIdeal.Val
end
-- ==== Proof.KvSRef.lean ====
module

public import proofs.«01_k».proof.Proof.Gen.KvSRefIdeal.Read
public import proofs.«01_k».proof.Proof.HeadNorm
public import Idealize.ShloMosaic.Lib.KernelVsHost

/-! The sample's key and value rows: what the reference's two arrays hold, entry by entry. -/

@[expose] public section

set_option maxRecDepth 16384

noncomputable section

namespace Cert.KvSRefIdeal.Val

open Idealize.ShloMosaic Idealize.ShloMosaic.TcCoe Idealize.SL.Sem

section Reference

variable (x0 : (⟨Cert.KvSRefIdeal.S32x8x1024, .f32⟩ : BufTy).Contents (Elt Ideal)) (x1 : (⟨Cert.KvSRefIdeal.S32x512x2x4x64, .f32⟩ : BufTy).Contents (Elt Ideal))
  (x2 : (⟨Cert.KvSRefIdeal.S1024, .f32⟩ : BufTy).Contents (Elt Ideal))
  (x3 : (⟨Cert.KvSRefIdeal.S1024x1536, .f32⟩ : BufTy).Contents (Elt Ideal)) (x4 : (⟨Cert.KvSRefIdeal.S3x64, .f32⟩ : BufTy).Contents (Elt Ideal))

open Cert.KvSRefIdeal.Read

/-- The projected row of position `t` of sequence `n`. -/
abbrev PROJ (n : Fin 32) (t : Fin 8) (c : Fin 1536) : EReal :=
  Spec.projRow (fun k => x0 (ix3 n t k)) (fun k => x2 (ix1 k)) (fun k c => x3 (ix2 k c)) c

/-- The reference's projection, reshaped to six entries of four heads. -/
theorem proj_apply (n : Fin 32) (t : Fin 8) (e : Fin 6) (g : Fin 4) (d : Fin 64) :
    val_main_v17 (F := Ideal) x0 x2 x3 (ix5 n t e g d) = PROJ x0 x2 x3 n t ⟨e.val * 256 + g.val * 64 + d.val, by omega⟩ := by
  pointwise [val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  rfl

/-- The selected keys' norm of head `g`. -/
theorem sel_apply (n : Fin 32) (t : Fin 8) (g : Fin 4) (d : Fin 64) :
    val_main_v34 (F := Ideal) x0 x2 x3 x4 (ix4 n t g d)
      = Spec.headNorm (fun d => PROJ x0 x2 x3 n t ⟨512 + g.val * 64 + d.val, by omega⟩) (fun d => x4 (ix2 1 d)) d := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_2, val_main_cst_3, val_main_cst_4, proj_apply]
  rfl

/-- The window keys' norm of head `g`. -/
theorem win_apply (n : Fin 32) (t : Fin 8) (g : Fin 4) (d : Fin 64) :
    val_main_v87 (F := Ideal) x0 x2 x3 x4 (ix4 n t g d)
      = Spec.headNorm (fun d => PROJ x0 x2 x3 n t ⟨1024 + g.val * 64 + d.val, by omega⟩) (fun d => x4 (ix2 2 d)) d := by
  pointwise [val_main_v87, val_main_v86, val_main_v85, val_main_v84, val_main_v83, val_main_v82, val_main_v81, val_main_v80, val_main_v79, val_main_v78, val_main_v77, val_main_v76, val_main_v75, val_main_v74, val_main_v73, val_main_v72, val_main_v71, val_main_cst_7, val_main_cst_8, val_main_cst_9, proj_apply]
  rfl

/-- The rotated selected keys. -/
theorem rope_sel (n : Fin 32) (t : Fin 8) (g : Fin 4) (d : Fin 64) :
    val_main_v70 (F := Ideal) x0 x2 x3 x4 (ix4 n t g d)
      = Spec.ropeRow (fun d => Spec.headNorm (fun d => PROJ x0 x2 x3 n t ⟨512 + g.val * 64 + d.val, by omega⟩) (fun d => x4 (ix2 1 d)) d)
          (fun f => Ideal.cos (Spec.angle (IntOp.addi 8192#32 (BitVec.ofNat 32 t.val)) f)) (fun f => Ideal.sin (Spec.angle (IntOp.addi 8192#32 (BitVec.ofNat 32 t.val)) f)) d := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_cst_5, val_main_cst_6, val_main_v0, val_main_v1, val_main_v2, val_main_c, sel_apply]
  exact Spec.rope_split (fun d => Spec.headNorm (fun d => PROJ x0 x2 x3 n t ⟨512 + g.val * 64 + d.val, by omega⟩) (fun d => x4 (ix2 1 d)) d) (fun f => Ideal.cos (Spec.angle (IntOp.addi 8192#32 (BitVec.ofNat 32 t.val)) f)) (fun f => Ideal.sin (Spec.angle (IntOp.addi 8192#32 (BitVec.ofNat 32 t.val)) f)) d

/-- The rotated window keys. -/
theorem rope_win (n : Fin 32) (t : Fin 8) (g : Fin 4) (d : Fin 64) :
    val_main_v123 (F := Ideal) x0 x2 x3 x4 (ix4 n t g d)
      = Spec.ropeRow (fun d => Spec.headNorm (fun d => PROJ x0 x2 x3 n t ⟨1024 + g.val * 64 + d.val, by omega⟩) (fun d => x4 (ix2 2 d)) d)
          (fun f => Ideal.cos (Spec.angle (IntOp.addi 8192#32 (BitVec.ofNat 32 t.val)) f)) (fun f => Ideal.sin (Spec.angle (IntOp.addi 8192#32 (BitVec.ofNat 32 t.val)) f)) d := by
  pointwise [val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_cst_10, val_main_cst_11, val_main_v0, val_main_v1, val_main_v2, val_main_c, win_apply]
  exact Spec.rope_split (fun d => Spec.headNorm (fun d => PROJ x0 x2 x3 n t ⟨1024 + g.val * 64 + d.val, by omega⟩) (fun d => x4 (ix2 2 d)) d) (fun f => Ideal.cos (Spec.angle (IntOp.addi 8192#32 (BitVec.ofNat 32 t.val)) f)) (fun f => Ideal.sin (Spec.angle (IntOp.addi 8192#32 (BitVec.ofNat 32 t.val)) f)) d

/-- The reference's first result, entry by entry. -/
theorem ref_apply (r : Fin 256) (c : Fin 1024) :
    val_main_v141 (F := Ideal) x0 x2 x3 x4 (ix2 r c)
      = Spec.kvRow (PROJ x0 x2 x3 ⟨r.val / 8, by omega⟩ ⟨r.val % 8, by omega⟩) (fun d => x4 (ix2 1 d)) (fun f => Ideal.cos (Spec.angle (IntOp.addi 8192#32 (BitVec.ofNat 32 (r.val % 8))) f)) (fun f => Ideal.sin (Spec.angle (IntOp.addi 8192#32 (BitVec.ofNat 32 (r.val % 8))) f)) c := by
  pointwise [val_main_v141, val_main_v134, val_main_v133, val_main_v132, val_main_v131, val_main_v130, val_main_v129, val_main_v128, val_main_v127, val_main_v126, val_main_v125, val_main_v124, proj_apply, rope_sel]
  exact Spec.kv_stack (PROJ x0 x2 x3 ⟨r.val / 8, by omega⟩ ⟨r.val % 8, by omega⟩) (fun d => x4 (ix2 1 d)) (fun f => Ideal.cos (Spec.angle (IntOp.addi 8192#32 (BitVec.ofNat 32 (r.val % 8))) f)) (fun f => Ideal.sin (Spec.angle (IntOp.addi 8192#32 (BitVec.ofNat 32 (r.val % 8))) f)) c

/-- The reference's second result, entry by entry: the cache moved up by eight rows, then the eight new rows. -/
theorem refwin_apply (n : Fin 32) (i : Fin 512) (e : Fin 2) (g : Fin 4) (d : Fin 64) :
    val_main_v142 (F := Ideal) x0 x1 x2 x3 x4 (ix5 n i e g d)
      = if h : 8 + i.val < 512 then x1 (ix5 n ⟨8 + i.val, h⟩ e g d)
        else Spec.winRow (PROJ x0 x2 x3 n ⟨8 + i.val - 512, by omega⟩) (fun d => x4 (ix2 2 d)) (fun f => Ideal.cos (Spec.angle (IntOp.addi 8192#32 (BitVec.ofNat 32 (8 + i.val - 512))) f)) (fun f => Ideal.sin (Spec.angle (IntOp.addi 8192#32 (BitVec.ofNat 32 (8 + i.val - 512))) f)) ⟨e.val * 256 + g.val * 64 + d.val, by omega⟩ := by
  pointwise [val_main_v142, val_main_v140, val_main_v139, val_main_v138, val_main_v137, val_main_v136, val_main_v135, proj_apply, rope_win]
  by_cases h : 8 + i.val < 512
  · rw [dif_pos h, dif_pos h]
  · rw [dif_neg h, dif_neg h]
    exact Spec.win_stack (PROJ x0 x2 x3 n ⟨8 + i.val - 512, by omega⟩) (fun d => x4 (ix2 2 d)) (fun f => Ideal.cos (Spec.angle (IntOp.addi 8192#32 (BitVec.ofNat 32 (8 + i.val - 512))) f)) (fun f => Ideal.sin (Spec.angle (IntOp.addi 8192#32 (BitVec.ofNat 32 (8 + i.val - 512))) f)) e g d

end Reference

end Cert.KvSRefIdeal.Val
end
-- ==== Proof.KvSValue.lean ====
module

public import proofs.«01_k».proof.Proof.Gen.KvSIdeal.Frame
public import proofs.«01_k».proof.Proof.Gen.KvSRefIdeal.Read
public import proofs.«01_k».proof.Proof.HeadNorm
public import proofs.«01_k».proof.Proof.KvSBlk
public import proofs.«01_k».proof.Proof.KvSRef
public import Idealize.ShloMosaic.Lib.KernelVsHost

/-! The sample's key and value rows: the call's arrays are the reference's where the rows, gains and weights are real numbers. -/

@[expose] public section

set_option maxRecDepth 16384

noncomputable section

namespace Cert.KvSIdeal.Val

open Cert.KvSRefIdeal.Val (PROJ ref_apply refwin_apply)
open Cert.KvSIdeal Cert.KvSIdeal.Gen Idealize.ShloMosaic Idealize.ShloMosaic.TcCoe Idealize.SL.Sem
open Idealize.ShloMosaic.Pipeline (Dat)

section Body

variable (X0 : Vec Ideal S256x1024 .f32) (X1 : Vec Ideal S1x1024 .f32) (X2 : Vec Ideal S1024x1536 .bf16) (XO : Vec Ideal S256x256 .bf16)
  (X4 : Vec Ideal S1x256 .f32) (XC XA XB : Vec Ideal S256x128 .f32)

/-- The projected row `r` of the block. -/
abbrev BP (r : Fin 256) (c : Fin 1536) : EReal :=
  Spec.projRow (fun k => X0 (ix2 r k)) (fun k => X1 (ix2 0 k)) (fun k c => X2 (ix2 k c)) c

theorem p_apply (r : Fin 256) (c : Fin 1536) : k0_pay3 (F := Ideal) X0 X1 X2 (ix2 r c) = BP X0 X1 X2 r c := by
  pointwise [k0_pay3]
  rfl

variable (r : Fin 256) (gn : Fin 64 → EReal) (cs sn : Fin 8 → EReal)

/-- The selected keys' part of the body, normed and rotated. -/
theorem sel_rot (hp : ∀ c, Spec.IsReal (BP X0 X1 X2 r c)) (hO : ∀ l k : Fin 256, XO (ix2 l k) = if l.val / 64 = k.val / 64 then (1 : EReal) else 0)
    (hg : ∀ k : Fin 256, X4 (ix2 0 k) = gn ⟨k.val % 64, by omega⟩) (hC : ∀ k : Fin 128, XC (ix2 r k) = Spec.tabC cs (k.val % 64))
    (hA : ∀ k : Fin 128, XA (ix2 r k) = Spec.tabA sn (k.val % 64)) (hB : ∀ k : Fin 128, XB (ix2 r k) = Spec.tabB sn (k.val % 64)) (c : Fin 256) :
    k0_pay13 (F := Ideal) (k0_pay6 X0 X1 X2) (k0_pay10 X4) (k0_pay11 X0 X1 X2 XO) k0_pay12 XC XA XB (ix2 r c)
      = Spec.ropeRow (Spec.headNorm (fun d => BP X0 X1 X2 r ⟨512 + (c.val / 64 * 64 + d.val), by omega⟩) gn) cs sn ⟨c.val % 64, by omega⟩ := by
  pointwise [k0_pay13, k0_pay12, k0_pay10, k0_pay11, k0_pay6, p_apply]
  exact Spec.rot_slice (fun k => BP X0 X1 X2 r ⟨512 + k.val, by omega⟩) (fun l => hp _) (fun l k => XO (ix2 l k)) hO (fun k => X4 (ix2 0 k)) gn hg cs sn (fun k => XC (ix2 r k)) (fun k => XA (ix2 r k)) (fun k => XB (ix2 r k)) hC hA hB
    (fun k => BP X0 X1 X2 r ⟨512 + k.val, by omega⟩ * Ideal.rsqrt ((∑ l : Fin 256, BP X0 X1 X2 r ⟨512 + l.val, by omega⟩ * BP X0 X1 X2 r ⟨512 + l.val, by omega⟩ * XO (ix2 l k)
      + ∑ l : Fin 256, (BP X0 X1 X2 r ⟨512 + l.val, by omega⟩ * BP X0 X1 X2 r ⟨512 + l.val, by omega⟩ - BP X0 X1 X2 r ⟨512 + l.val, by omega⟩ * BP X0 X1 X2 r ⟨512 + l.val, by omega⟩) * XO (ix2 l k))
      * Ideal.ofBits FTy.f32 0x3C800000#32 + Ideal.ofBits FTy.f32 897988541#32) * X4 (ix2 0 k)) (fun _ => rfl) c

/-- The first result's row. -/
theorem out9 (hp : ∀ c, Spec.IsReal (BP X0 X1 X2 r c)) (hO : ∀ l k : Fin 256, XO (ix2 l k) = if l.val / 64 = k.val / 64 then (1 : EReal) else 0)
    (hg : ∀ k : Fin 256, X4 (ix2 0 k) = gn ⟨k.val % 64, by omega⟩) (hC : ∀ k : Fin 128, XC (ix2 r k) = Spec.tabC cs (k.val % 64))
    (hA : ∀ k : Fin 128, XA (ix2 r k) = Spec.tabA sn (k.val % 64)) (hB : ∀ k : Fin 128, XB (ix2 r k) = Spec.tabB sn (k.val % 64)) (c : Fin 1024) :
    k0_pay1 (F := Ideal) (k0_pay4 X0 X1 X2) (k0_pay5 X0 X1 X2) (k0_pay7 X0 X1 X2) (k0_pay13 (k0_pay6 X0 X1 X2) (k0_pay10 X4) (k0_pay11 X0 X1 X2 XO) k0_pay12 XC XA XB) (ix2 r c)
      = Spec.kvRow (BP X0 X1 X2 r) gn cs sn c := by
  have key := sel_rot X0 X1 X2 XO X4 XC XA XB r gn cs sn hp hO hg hC hA hB
  revert key
  generalize k0_pay13 (F := Ideal) (k0_pay6 X0 X1 X2) (k0_pay10 X4) (k0_pay11 X0 X1 X2 XO) k0_pay12 XC XA XB = W
  intro key
  pointwise [k0_pay1, k0_pay4, k0_pay5, k0_pay7, p_apply]
  exact Spec.kv_cat (BP X0 X1 X2 r) gn cs sn (fun c => W (ix2 r c)) key c

/-- The window keys' norm. -/
abbrev NORM (k : Fin 256) : EReal := BP X0 X1 X2 r ⟨1024 + k.val, by omega⟩ * Ideal.rsqrt ((∑ l : Fin 256, BP X0 X1 X2 r ⟨1024 + l.val, by omega⟩ * BP X0 X1 X2 r ⟨1024 + l.val, by omega⟩ * XO (ix2 l k)
      + ∑ l : Fin 256, (BP X0 X1 X2 r ⟨1024 + l.val, by omega⟩ * BP X0 X1 X2 r ⟨1024 + l.val, by omega⟩ - BP X0 X1 X2 r ⟨1024 + l.val, by omega⟩ * BP X0 X1 X2 r ⟨1024 + l.val, by omega⟩) * XO (ix2 l k))
      * Ideal.ofBits FTy.f32 0x3C800000#32 + Ideal.ofBits FTy.f32 897988541#32) * X4 (ix2 0 k)

theorem norm_apply (k : Fin 256) : k0_pay14 (F := Ideal) (k0_pay8 X0 X1 X2) XO X4 (ix2 r k) = NORM X0 X1 X2 XO X4 r k := by
  pointwise [k0_pay14, k0_pay8, p_apply]

/-- The second result's row. -/
theorem out10 (hp : ∀ c, Spec.IsReal (BP X0 X1 X2 r c)) (hO : ∀ l k : Fin 256, XO (ix2 l k) = if l.val / 64 = k.val / 64 then (1 : EReal) else 0)
    (hg : ∀ k : Fin 256, X4 (ix2 0 k) = gn ⟨k.val % 64, by omega⟩) (hC : ∀ k : Fin 128, XC (ix2 r k) = Spec.tabC cs (k.val % 64))
    (hA : ∀ k : Fin 128, XA (ix2 r k) = Spec.tabA sn (k.val % 64)) (hB : ∀ k : Fin 128, XB (ix2 r k) = Spec.tabB sn (k.val % 64)) (c : Fin 512) :
    k0_pay2 (F := Ideal) (k0_pay9 X0 X1 X2) (k0_pay14 (k0_pay8 X0 X1 X2) XO X4) (k0_pay15 (k0_pay8 X0 X1 X2) XO X4) 8#32 XC XA XB (ix2 r c)
      = Spec.winRow (BP X0 X1 X2 r) gn cs sn c := by
  have key := fun k => norm_apply X0 X1 X2 XO X4 r k
  unfold k0_pay15
  revert key
  generalize k0_pay14 (F := Ideal) (k0_pay8 X0 X1 X2) XO X4 = W
  intro key
  pointwise [k0_pay2, k0_pay9, p_apply]
  exact Spec.win_cat (BP X0 X1 X2 r) gn cs sn _ (fun c => Spec.rot_slice (fun k => BP X0 X1 X2 r ⟨1024 + k.val, by omega⟩) (fun l => hp _) (fun l k => XO (ix2 l k)) hO (fun k => X4 (ix2 0 k)) gn hg
    cs sn (fun k => XC (ix2 r k)) (fun k => XA (ix2 r k)) (fun k => XB (ix2 r k)) hC hA hB (fun k => W (ix2 r k)) key c) c

end Body

variable (m : (ℓ : Loc nD τ sig) → Buf (Elt Ideal) ℓ)

/-- The rows, the gains and the weights are real numbers. -/
def RealArgs (c : Dev nD) : Prop :=
  (∀ n t k, Spec.IsReal (m ((c : Thread nD τ).loc main_arg0) (ix3 n t k))) ∧ (∀ k, Spec.IsReal (m ((c : Thread nD τ).loc main_arg2) (ix1 k)))
    ∧ ∀ k l, Spec.IsReal (m ((c : Thread nD τ).loc main_arg3) (ix2 k l))

/-- The projected row of the block's row `r` is the reference's. -/
theorem bp (c : Dev nD) (t : Fin cfg0.N) (r : Fin 256) (k : Fin 1536) :
    BP (iblk m c 0 t) (iblk m c 1 t) (iblk m c 2 t) r k
      = PROJ (m ((c : Thread nD τ).loc main_arg0)) (m ((c : Thread nD τ).loc main_arg2)) (m ((c : Thread nD τ).loc main_arg3)) ⟨r.val / 8, by omega⟩ ⟨r.val % 8, by omega⟩ k :=
  Spec.projRow_congr (fun k => blk0 m c t r k) (fun k => blk1 m c t k) (fun k l => blk2 m c t k l) rfl

theorem bp_real (c : Dev nD) (h : RealArgs m c) (t : Fin cfg0.N) (r : Fin 256) (k : Fin 1536) : Spec.IsReal (BP (iblk m c 0 t) (iblk m c 1 t) (iblk m c 2 t) r k) := by
  rw [bp]
  exact Spec.isReal_projRow (fun k => h.1 _ _ k) (fun k => h.2.1 k) (fun k l => h.2.2 k l) k

/-- The first result array after the run is the reference's. -/
theorem final9 (c : Dev nD) (h : RealArgs m c) : (dats m 0 c).arrAt 9 (cfgs 0).N
    = Cert.KvSRefIdeal.Read.val_main_v141 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 9 _ (by decide +kernel) fun t _ y => ?_
  have ht : t.val < 1 := t.isLt
  have e : (((cfg0.win 9).blk t).view.emb y : S256x1024.Idx) = y := by blk_ext [idx t]
  rw [e]
  blk_simp
  rw [after0_9, eq_ix2 y]
  unfold_out out0_9
  frame_out
  refine (out9 (iblk m c 0 t) (iblk m c 1 t) (iblk m c 2 t) (iblk m c 3 t) (iblk m c 4 t) (iblk m c 6 t) (iblk m c 7 t) (iblk m c 8 t) (y 0) _ _ _
    (bp_real m c h t (y 0)) (blk3 m c t) (blk4 m c t) (blk6 m c t (y 0)) (blk7 m c t (y 0)) (blk8 m c t (y 0)) (y 1)).trans
    (Eq.trans (Spec.kvRow_congr (fun k => bp m c t (y 0) k) (fun _ => rfl) (fun _ => rfl) (fun _ => rfl) rfl) (ref_apply _ _ _ _ (y 0) (y 1)).symm)

/-- The second result array after the run, row by row. -/
theorem final10 (c : Dev nD) (h : RealArgs m c) : (dats m 0 c).arrAt 10 (cfgs 0).N
    = ((fun j : S256x512.Idx => Spec.winRow (PROJ (m ((c : Thread nD τ).loc main_arg0)) (m ((c : Thread nD τ).loc main_arg2)) (m ((c : Thread nD τ).loc main_arg3))
        ⟨(j 0).val / 8, by have := (j 0).isLt; change (j 0).val < 256 at this; omega⟩ ⟨(j 0).val % 8, by omega⟩) (fun d => m ((c : Thread nD τ).loc main_arg4) (ix2 2 d))
        (fun f => Ideal.cos (Spec.angle (posw (j 0)) f)) (fun f => Ideal.sin (Spec.angle (posw (j 0)) f)) (j 1)) : FVec Ideal S256x512 .f32) := by
  refine (dats m 0 c).arrAt_eq_of_covers 10 _ (by decide +kernel) fun t _ y => ?_
  have ht : t.val < 1 := t.isLt
  have e : (((cfg0.win 10).blk t).view.emb y : S256x512.Idx) = y := by blk_ext [idx t]
  rw [e]
  blk_simp
  rw [after0_10, eq_ix2 y]
  unfold_out out0_10
  frame_out
  exact (out10 (iblk m c 0 t) (iblk m c 1 t) (iblk m c 2 t) (iblk m c 3 t) (iblk m c 5 t) (iblk m c 6 t) (iblk m c 7 t) (iblk m c 8 t) (y 0) _ _ _
    (bp_real m c h t (y 0)) (blk3 m c t) (blk5 m c t) (blk6 m c t (y 0)) (blk7 m c t (y 0)) (blk8 m c t (y 0)) (y 1)).trans
    (Spec.winRow_congr (fun k => bp m c t (y 0) k) (fun _ => rfl) (fun _ => rfl) (fun _ => rfl) rfl)

/-- The cache and an array of new rows put after it, from row eight on. -/
theorem tail_apply (C : FVec Ideal S32x512x2x4x64 .f32) (U : FVec Ideal S256x512 .f32) (n : Fin 32) (i : Fin 512) (e : Fin 2) (g : Fin 4) (d : Fin 64) :
    extractStridedSlice S32x512x2x4x64 ![0, 8, 0, 0, 0] (concatenate S32x520x2x4x64 1 [⟨S32x512x2x4x64, C⟩, ⟨S32x8x2x4x64, shapeCast S32x8x2x4x64 U shapeCasts_S256x512_S32x8x2x4x64⟩] concatenates_S32x512x2x4x64_S32x8x2x4x64_S32x520x2x4x64_d1) slices_S32x520x2x4x64_S32x512x2x4x64_0_8_0_0_0 (ix5 n i e g d)
      = if h : 8 + i.val < 512 then C (ix5 n ⟨8 + i.val, h⟩ e g d) else U (ix2 ⟨n.val * 8 + (8 + i.val - 512), by omega⟩ ⟨e.val * 256 + g.val * 64 + d.val, by omega⟩) := by
  pointwise

/-- The second array the program returns, after the lines that follow the call. -/
theorem tail (c : Dev nD) (h : RealArgs m c) : Pipeline.afterTail₀ cfgs (dats m) 0 (V0 m) [hostOps1] c main_v76
    = Cert.KvSRefIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (Pipeline.withArrays (cfgs 0).spec c (V0 m c) fun w => (dats m 0 c).arrAt w (cfgs 0).N) (Proc.devRef .tc main_v76) = _
  after_results
  rw [Pipeline.withArrays_arr (cfgs 0).spec (by decide) c (V0 m c) (fun w => (dats m 0 c).arrAt w (cfgs 0).N) 10,
    Pipeline.withArrays_of_ne _ c (V0 m c) _ main_arg1 (by exact (by decide : ∀ w, Pipeline.arrRef spec0 w ≠ main_arg1))]
  have e1 : V0 m c (Proc.devRef .tc main_arg1) = m ((c : Thread nD τ).loc main_arg1) := V_main_arg1 m c
  rw [e1, final10 m c h]
  funext y
  rw [eq_ix5 y]
  refine (tail_apply _ _ (y 0) (y 1) (y 2) (y 3) (y 4)).trans (Eq.trans ?_ (refwin_apply _ _ _ _ _ (y 0) (y 1) (y 2) (y 3) (y 4)).symm)
  have h0 : (y 0).val < 32 := (y 0).isLt
  have h1 : (y 1).val < 512 := (y 1).isLt
  by_cases hi : 8 + (y 1).val < 512
  · rw [dif_pos hi, dif_pos hi]
  · rw [dif_neg hi, dif_neg hi]
    have d0 : ((y 0).val * 8 + (8 + (y 1).val - 512)) / 8 = (y 0).val := by omega
    have d1 : ((y 0).val * 8 + (8 + (y 1).val - 512)) % 8 = 8 + (y 1).val - 512 := by omega
    refine Spec.winRow_congr (fun k => congrArg₂ (fun a b => PROJ _ _ _ a b k) (Fin.ext d0) (Fin.ext d1)) (fun _ => rfl) (fun f => ?_) (fun f => ?_) rfl
    · exact congrArg (fun p => Ideal.cos (Spec.angle (IntOp.addi 8192#32 (BitVec.ofNat 32 p)) f)) d1
    · exact congrArg (fun p => Ideal.sin (Spec.angle (IntOp.addi 8192#32 (BitVec.ofNat 32 p)) f)) d1

end Cert.KvSIdeal.Val
end
-- ==== Proof.KvSPre.lean ====
module

public import proofs.«01_k».proof.Defs
public import proofs.«01_k».proof.Proof.KvSValue
public import proofs.«01_k».proof.Proof.Finite

/-! What the precondition of the sample rows' keys and values says of the arrays it is stated of. -/

@[expose] public section

set_option maxRecDepth 16384

noncomputable section

namespace Cert.KvSPre

open Idealize.ShloMosaic Idealize.ShloMosaic.TcCoe Idealize.SL.Sem

/-- The shape conditions the precondition's operations take. -/
instance facts : Cert.Pre_finite_kvs.Facts where
  bcast_S_S32x8x1024 := by decide
  reducesTo_S32x8x1024_S_d0_1_2 := by decide
  h_S_ := by decide
  bcast_S_S1024 := by decide
  reducesTo_S1024_S_d0 := by decide
  bcast_S_S1024x1536 := by decide
  reducesTo_S1024x1536_S_d0_1 := by decide

instance : Subsingleton Cert.Pre_finite_kvs.S_.Idx := ⟨fun a b => funext fun i => i.elim0⟩

/-- Where it holds, the rows, the norm's weights and the projection's are real numbers. -/
theorem real (m : (ℓ : Loc Cert.KvSIdeal.nD Cert.KvSIdeal.τ Cert.KvSIdeal.sig) → Buf (Elt Ideal) ℓ) (h : Cert.Pre_KvSIdeal_finite_kvs m)
    (c : Dev Cert.KvSIdeal.nD) : Cert.KvSIdeal.Val.RealArgs m c := by
  have e := congrFun (h c) (fun i => i.elim0)
  have e1 := IntOp.andi_eq_one.1 e
  have e2 := IntOp.andi_eq_one.1 e1.1
  exact ⟨fun n t k => Spec.real_of_test _ _ (fun _ => Spec.inf_word) _ _ _ _ e2.1 (ix3 n t k),
    fun k => Spec.real_of_test _ _ (fun _ => Spec.inf_word) _ _ _ _ e2.2 (ix1 k),
    fun k l => Spec.real_of_test _ _ (fun _ => Spec.inf_word) _ _ _ _ e1.2 (ix2 k l)⟩

end Cert.KvSPre

end
-- ==== Proof.KvSClaim.lean ====
module

public import proofs.«01_k».proof.Defs
public import proofs.«01_k».proof.Proof.Gen.KvS.Frame
public import proofs.«01_k».proof.Proof.Gen.KvSIdeal.Frame
public import proofs.«01_k».proof.Proof.Gen.KvSRefIdeal.Run
public import proofs.«01_k».proof.Proof.KvSValue
public import proofs.«01_k».proof.Proof.KvSPre
public import Idealize.ShloMosaic.Lib.Claim

/-! The keys and values of the sample rows: the claims about them, each from one run of the program it speaks of. -/

@[expose] public section

set_option maxRecDepth 16384

noncomputable section

namespace Cert.KvSClaim

open Idealize.ShloMosaic Idealize.ShloMosaic.TcCoe Idealize.SL.Sem

/-- The kernel runs to its end and keeps its arguments. -/
theorem kernel_frame : Cert.quiescent_KvS := fun m ρ _ => Cert.KvS.Gen.frame m ρ

/-- The same of the kernel over the extended reals. -/
theorem ideal_frame : Cert.quiescent_KvSIdeal := fun m ρ _ => Cert.KvSIdeal.Gen.frame m ρ

/-- The same, stated under the precondition of the values. -/
theorem ideal_frame_pre : Cert.quiescent_KvSIdeal_pre_finite_kvs := fun m ρ _ => Cert.KvSIdeal.Gen.frame m ρ

/-- The reference runs to its end and keeps its arguments. -/
theorem ref_frame : Cert.quiescent_KvSRefIdeal := fun m ρ _ =>
  (θ_run _ _ _).mono (fun r h => ⟨fun c => (h c).2.2, sem_eq_zero_of_no_sems (by decide) r.2⟩) (Cert.KvSRefIdeal.Value.run m ρ)

/-- The same, stated under the precondition of the values. -/
theorem ref_frame_pre : Cert.quiescent_KvSRefIdeal_pre_finite_kvs := fun m ρ _ => ref_frame m ρ trivial

set_option maxHeartbeats 2000000 in
/-- Over the extended reals the kernel's result arrays are the reference's, of arguments that are real numbers. -/
theorem algebraic : Cert.algebraic_KvSIdeal_KvSRefIdeal_pre_finite_kvs := by
  pair_intro
  · run_from Cert.KvSIdeal.Gen.run_main m g
    · exact Cert.KvSIdeal.Gen.W_main_arg0 m (Cert.KvSIdeal.Gen.dats m) c
    · exact Cert.KvSIdeal.Gen.W_main_arg1 m (Cert.KvSIdeal.Gen.dats m) c
    · exact Cert.KvSIdeal.Gen.W_main_arg2 m (Cert.KvSIdeal.Gen.dats m) c
    · exact Cert.KvSIdeal.Gen.W_main_arg3 m (Cert.KvSIdeal.Gen.dats m) c
    · exact Cert.KvSIdeal.Gen.W_main_arg4 m (Cert.KvSIdeal.Gen.dats m) c
  · have hr := Cert.KvSPre.real m hpre
    run_from Cert.KvSRefIdeal.Value.run m' g'
    · rw [Cert.KvSRefIdeal.Read.val_main_v141_eq, (hagree c).1, (hagree c).2.2.1, (hagree c).2.2.2.1, (hagree c).2.2.2.2]
      exact (Cert.KvSIdeal.Val.final9 m c (hr c)).symm
    · rw [Cert.KvSRefIdeal.Read.val_main_v142_eq, (hagree c).1, (hagree c).2.1, (hagree c).2.2.1, (hagree c).2.2.2.1, (hagree c).2.2.2.2]
      exact (Cert.KvSIdeal.Val.tail m c (hr c)).symm

end Cert.KvSClaim

end
-- ==== Proof.CompOk.lean ====
module

public import proofs.«01_k».proof.Proof.Gen.CompIdeal.Frame
public import Idealize.ShloMosaic.Lib.KernelVsHost
public import Idealize.ShloMosaic.Lib.Pipeline.ValueKit

/-! The compression: which page every step of the call reads. The table of pages is a prefetched scalar array, and
the index maps of the eight page windows look their page up in it. -/

@[expose] public section

set_option maxRecDepth 16384

noncomputable section

namespace Cert.CompIdeal.Val

open Cert.CompIdeal Cert.CompIdeal.Gen Idealize.ShloMosaic Idealize.ShloMosaic.TcCoe Idealize.SL.Sem

variable {F : FTy → Type} [FloatOps F]

/-- Step `t` looks its page `k` up at entry `8 t + k` of the table. -/
theorem off_val : ∀ (t : Fin 256) (r : Fin 8),
    (Scalar.indexCast (Scalar.addi (Scalar.muli (BitVec.ofNat 32 t.val) 8#32) (BitVec.ofNat 32 r.val))).toNat = 8 * t.val + r.val := by
  decide +kernel

/-- The page numbered in entry `8 t + k` of the flat table. -/
def page (T : IVec S2048 32) (t : Nat) (ht : t < 256) (k : Fin 8) : Nat := (T (ix1 ⟨8 * t + k.val, by omega⟩)).toNat

/-- Reading one entry of the prefetched table. -/
theorem at_off (pf : pre0.Contents (Elt F)) (i : grid0.Coords) (r : Fin 8)
    (h : ∀ a, (k0_off1 i (BitVec.ofNat 32 r.val)) a + S1.size a ≤ S2048.size a) :
    pf.at 0 (Rect.unit (s := S2048) (k0_off1 i (BitVec.ofNat 32 r.val)) S1.size h) numel1_S1
      = (pf 0 : IVec S2048 32) (ix1 ⟨8 * (i 0).val + r.val, by have : (i 0).val < 256 := (i 0).isLt; omega⟩) := by
  refine congrArg (pf 0 : IVec S2048 32) ?_
  funext (a : Fin 1)
  obtain rfl : a = 0 := Subsingleton.elim _ _
  refine Fin.ext ?_
  have e : (k0_off1 i (BitVec.ofNat 32 r.val)) 0 = 8 * (i 0).val + r.val := off_val (i 0) r
  have z : ((Shape.Idx.first (s := (Rect.unit (s := S2048) (k0_off1 i (BitVec.ofNat 32 r.val)) S1.size h).shape) (numel1_S1.symm ▸ Nat.one_pos)) 0).val = 0 :=
    Nat.lt_one_iff.1 ((Shape.Idx.first (s := (Rect.unit (s := S2048) (k0_off1 i (BitVec.ofNat 32 r.val)) S1.size h).shape) (numel1_S1.symm ▸ Nat.one_pos)) 0).isLt
  exact (congrArg₂ (· + ·) e z : (k0_off1 i (BitVec.ofNat 32 r.val)) 0 + _ = 8 * (i 0).val + r.val + 0)

/-- The index map of page window 0. -/
theorem tr0 (pf : pre0.Contents (Elt F)) (i : grid0.Coords) :
    cc0_transform_0 k0_off1_inb numel1_S1 pf i = ![page (pf 0) (i 0).val (i 0).isLt 0, 0, 0] :=
  congrArg (fun v : BitVec 32 => ![v.toNat, 0, 0]) (at_off pf i 0 (k0_off1_inb i 0))

/-- The index map of page window 1. -/
theorem tr1 (pf : pre0.Contents (Elt F)) (i : grid0.Coords) :
    cc0_transform_1 k0_off1_inb numel1_S1 pf i = ![page (pf 0) (i 0).val (i 0).isLt 1, 0, 0] :=
  congrArg (fun v : BitVec 32 => ![v.toNat, 0, 0]) (at_off pf i 1 (k0_off1_inb i 1))

/-- The index map of page window 2. -/
theorem tr2 (pf : pre0.Contents (Elt F)) (i : grid0.Coords) :
    cc0_transform_2 k0_off1_inb numel1_S1 pf i = ![page (pf 0) (i 0).val (i 0).isLt 2, 0, 0] :=
  congrArg (fun v : BitVec 32 => ![v.toNat, 0, 0]) (at_off pf i 2 (k0_off1_inb i 2))

/-- The index map of page window 3. -/
theorem tr3 (pf : pre0.Contents (Elt F)) (i : grid0.Coords) :
    cc0_transform_3 k0_off1_inb numel1_S1 pf i = ![page (pf 0) (i 0).val (i 0).isLt 3, 0, 0] :=
  congrArg (fun v : BitVec 32 => ![v.toNat, 0, 0]) (at_off pf i 3 (k0_off1_inb i 3))

/-- The index map of page window 4. -/
theorem tr4 (pf : pre0.Contents (Elt F)) (i : grid0.Coords) :
    cc0_transform_4 k0_off1_inb numel1_S1 pf i = ![page (pf 0) (i 0).val (i 0).isLt 4, 0, 0] :=
  congrArg (fun v : BitVec 32 => ![v.toNat, 0, 0]) (at_off pf i 4 (k0_off1_inb i 4))

/-- The index map of page window 5. -/
theorem tr5 (pf : pre0.Contents (Elt F)) (i : grid0.Coords) :
    cc0_transform_5 k0_off1_inb numel1_S1 pf i = ![page (pf 0) (i 0).val (i 0).isLt 5, 0, 0] :=
  congrArg (fun v : BitVec 32 => ![v.toNat, 0, 0]) (at_off pf i 5 (k0_off1_inb i 5))

/-- The index map of page window 6. -/
theorem tr6 (pf : pre0.Contents (Elt F)) (i : grid0.Coords) :
    cc0_transform_6 k0_off1_inb numel1_S1 pf i = ![page (pf 0) (i 0).val (i 0).isLt 6, 0, 0] :=
  congrArg (fun v : BitVec 32 => ![v.toNat, 0, 0]) (at_off pf i 6 (k0_off1_inb i 6))

/-- The index map of page window 7. -/
theorem tr7 (pf : pre0.Contents (Elt F)) (i : grid0.Coords) :
    cc0_transform_7 k0_off1_inb numel1_S1 pf i = ![page (pf 0) (i 0).val (i 0).isLt 7, 0, 0] :=
  congrArg (fun v : BitVec 32 => ![v.toNat, 0, 0]) (at_off pf i 7 (k0_off1_inb i 7))

/-- A page window lies inside the cache where its page is one of the 2560. -/
theorem inside (f : Fin 3 → Nat) (p : Nat) (hf : f = ![p, 0, 0]) (hp : p < 2560) : ∀ a, (f a + 1) * S1x512x128.size a ≤ S2560x1024x128.size a := by
  subst hf
  intro a
  match a with
  | ⟨0, _⟩ => show (p + 1) * 1 ≤ 2560; omega
  | ⟨1, _⟩ => show (0 + 1) * 512 ≤ 1024; omega
  | ⟨2, _⟩ => show (0 + 1) * 128 ≤ 128; omega

/-- Where the table numbers pages of the cache, every window of every step lies inside it. -/
theorem ok_of_table (pf : pre0.Contents (Elt F)) (h : ∀ j : Fin 2048, ((pf 0 : IVec S2048 32) (ix1 j)).toNat < 2560) : ok0 pf :=
  ⟨fun i => ⟨inside _ _ (tr0 pf i) (h _), .inl rfl⟩, fun i => ⟨inside _ _ (tr1 pf i) (h _), .inl rfl⟩, fun i => ⟨inside _ _ (tr2 pf i) (h _), .inl rfl⟩, fun i => ⟨inside _ _ (tr3 pf i) (h _), .inl rfl⟩, fun i => ⟨inside _ _ (tr4 pf i) (h _), .inl rfl⟩, fun i => ⟨inside _ _ (tr5 pf i) (h _), .inl rfl⟩, fun i => ⟨inside _ _ (tr6 pf i) (h _), .inl rfl⟩, fun i => ⟨inside _ _ (tr7 pf i) (h _), .inl rfl⟩⟩

end Cert.CompIdeal.Val

end
-- ==== Proof.CompSpec.lean ====
module

public import Idealize.ShloMosaic.Lib.KernelVsHost
public import Idealize.ShloMosaic.Lib.Pipeline.ValueKit

/-! The compression's pieces as functions of numbers: the gelu, a head's norm, a compressed row. -/

@[expose] public section

noncomputable section

namespace Cert.Spec

open Idealize.ShloMosaic

/-- The gelu in its hyperbolic tangent form. -/
def gelu (x : EReal) : EReal :=
  x * (Ideal.ofBits FTy.f32 1056964608#32 * (1 + Ideal.tanh (Ideal.ofBits FTy.f32 1061962282#32 * (x + Ideal.ofBits FTy.f32 1027024659#32 * (x * (x * x))))))

/-- The root-mean-square norm of a row of 64 entries with gains `g`, at entry `d`. -/
def rmsHead (x g : Fin 64 → EReal) (d : Fin 64) : EReal :=
  x d * Ideal.rsqrt (Ideal.div (∑ k, x k * x k) (Ideal.ofBits FTy.f32 1115684864#32) + Ideal.ofBits FTy.f32 897988541#32) * g d

/-- One compressed row: the 32 positions of a window side by side through two matrices with a gelu between. -/
def cmpRow (x : Fin 2048 → EReal) (w1 : Fin 2048 → Fin 256 → EReal) (w2 : Fin 256 → Fin 64 → EReal) (d : Fin 64) : EReal :=
  ∑ f, gelu (∑ k, x k * w1 k f) * w2 f d

/-- Equal positions and weights give equal rows. -/
theorem cmpRow_congr {x x' : Fin 2048 → EReal} {w1 w1' : Fin 2048 → Fin 256 → EReal} {w2 w2' : Fin 256 → Fin 64 → EReal}
    (hx : ∀ k, x k = x' k) (h1 : ∀ k f, w1 k f = w1' k f) (h2 : ∀ f d, w2 f d = w2' f d) (d : Fin 64) : cmpRow x w1 w2 d = cmpRow x' w1' w2' d := by
  obtain rfl : x = x' := funext hx
  obtain rfl : w1 = w1' := funext fun k => funext fun f => h1 k f
  obtain rfl : w2 = w2' := funext fun f => funext fun d => h2 f d
  rfl

/-- Equal rows and gains give equal normalised rows. -/
theorem rmsHead_congr {x x' g g' : Fin 64 → EReal} (hx : ∀ d, x d = x' d) (hg : ∀ d, g d = g' d) (d : Fin 64) : rmsHead x g d = rmsHead x' g' d := by
  obtain rfl : x = x' := funext hx
  obtain rfl : g = g' := funext hg
  rfl

end Cert.Spec

end
-- ==== Proof.CompRefX.lean ====
module

public import proofs.«01_k».proof.Proof.Gen.CompRefIdeal.Read
public import proofs.«01_k».proof.Proof.CompSpec
public import Idealize.ShloMosaic.Lib.TwoAxisContraction

/-! The compression's reference: the windows it gathers through the page table, and its first product. -/

@[expose] public section

set_option maxRecDepth 16384

noncomputable section

namespace Cert.Spec

open Idealize.ShloMosaic

/-- The page the table names for page `j` of sequence `b` (kept inside the cache, as the gather keeps it). -/
def pg (T : IVec ⟨2, ![32, 64]⟩ 32) (b : Fin 32) (j : Fin 64) : Fin 2560 := ⟨min (T (ix2 b j)).toNat 2559, by omega⟩

/-- Entry `k` of window `w` of sequence `b`, array `e` (keys or values), head `g`: the cached number with the position's
embedding added. -/
def win (A : Fin 2560 → Fin 128 → Fin 4 → Fin 4 → Fin 64 → EReal) (T : IVec ⟨2, ![32, 64]⟩ 32) (PE : Fin 2 → Fin 32 → Fin 64 → EReal)
    (e : Fin 2) (g : Fin 4) (b : Fin 32) (w : Fin 256) (k : Fin 2048) : EReal :=
  A (pg T b ⟨w.val / 4, by omega⟩) ⟨32 * (w.val % 4) + k.val / 64, by omega⟩ ⟨e.val, by omega⟩ g ⟨k.val % 64, by omega⟩
    + PE e ⟨k.val / 64, by omega⟩ ⟨k.val % 64, by omega⟩

/-- A sum over the flattened window is the sum over its features and positions. -/
theorem sum_window (h : Fin 2048 → EReal) : ∑ k, h k = ∑ d : Fin 64, ∑ l : Fin 32, h ⟨64 * l.val + d.val, by omega⟩ := by
  rw [Finset.sum_comm, ← Fintype.sum_prod_type' (fun (l : Fin 32) (d : Fin 64) => h ⟨64 * l.val + d.val, by omega⟩)]
  refine (Fintype.sum_equiv (finProdFinEquiv (m := 32) (n := 64)) _ _ fun p => congrArg h (Fin.ext ?_)).symm
  show 64 * p.1.val + p.2.val = p.2.val + 64 * p.1.val
  omega

end Cert.Spec

namespace Cert.CompRefIdeal.Val

open Cert.CompRefIdeal Cert.CompRefIdeal.Gen Cert.CompRefIdeal.Read Idealize.ShloMosaic Idealize.ShloMosaic.TcCoe Idealize.SL.Sem

variable (x0 : FVec Ideal S2560x128x4x4x64 .f32) (x1 : IVec S32x64 32) (x3 : FVec Ideal S2x32x64 .f32) (x4 : FVec Ideal S2x32x64x256 .f32)

/-- A page number of the table is not negative, so it is taken as it is. -/
theorem v5_apply (h : ∀ b j, (x1 (ix2 b j)).toNat < 2560) (b : Fin 32) (j : Fin 64) : val_main_v5 (F := Ideal) x1 (ix3 b j 0) = x1 (ix2 b j) := by
  rw [val_main_v5_apply, val_main_v4_apply]
  have e : idx_main_v5 (ix3 b j (0 : Fin 1)) = ix2 b j := eq_ix2 _
  rw [e]
  have hb := h b j
  have n : val_main_v1 (F := Ideal) x1 (ix2 b j) = 0#1 := by
    rw [val_main_v1_apply, val_main_v0_apply]
    show IntOp.cmpi .slt (x1 (ix2 b j)) 0#32 = 0#1
    have : BitVec.slt (x1 (ix2 b j)) 0#32 = false := by
      rw [BitVec.slt_eq_decide, BitVec.toInt_eq_toNat_of_lt (by omega)]
      simp
    simp [IntOp.cmpi, this]
  rw [n]
  rfl

/-- The gathered pages. -/
theorem v6_apply (h : ∀ b j, (x1 (ix2 b j)).toNat < 2560) (b : Fin 32) (j : Fin 64) (p : Fin 128) (c g : Fin 4) (d : Fin 64) :
    val_main_v6 (F := Ideal) x0 x1 (ix6 b j p c g d) = x0 (ix5 (Spec.pg x1 b j) p c g d) := by
  have v5 := v5_apply x1 h b j
  unfold val_main_v6
  generalize val_main_v5 (F := Ideal) x1 = y at v5
  unfold Host.gather
  refine congrArg x0 ?_
  funext (a : Fin 5)
  refine Fin.ext ?_
  match a with
  | ⟨0, _⟩ =>
    show min (y _).toInt.toNat 2559 + 0 + 0 = min (x1 (ix2 b j)).toNat 2559
    have : (y (ix3 b j 0)).toInt.toNat = (x1 (ix2 b j)).toNat := by
      rw [v5, BitVec.toInt_eq_toNat_of_lt (by have := h b j; omega)]; rfl
    rw [← this]
    refine congrArg (fun q => min (y q).toInt.toNat 2559) ?_
    exact eq_ix3 _
  | ⟨1, _⟩ => exact (Nat.zero_add _).trans rfl
  | ⟨2, _⟩ => exact (Nat.zero_add _).trans rfl
  | ⟨3, _⟩ => exact (Nat.zero_add _).trans rfl
  | ⟨4, _⟩ => exact (Nat.zero_add _).trans rfl

/-- The windows of the gathered positions. -/
theorem v11_apply (h : ∀ b j, (x1 (ix2 b j)).toNat < 2560) (b : Fin 32) (w : Fin 256) (l : Fin 32) (e : Fin 2) (g : Fin 4) (d : Fin 64) :
    val_main_v11 (F := Ideal) x0 x1 (ix6 b w l e g d)
      = x0 (ix5 (Spec.pg x1 b ⟨w.val / 4, by omega⟩) ⟨32 * (w.val % 4) + l.val, by omega⟩ ⟨e.val, by omega⟩ g d) := by
  rw [← v6_apply x0 x1 h]
  unfold val_main_v11 val_main_v10 val_main_v7
  generalize val_main_v6 (F := Ideal) x0 x1 = y
  pointwise
  refine congrArg y ?_
  funext (a : Fin 6)
  refine Fin.ext ?_
  match a with
  | ⟨0, _⟩ => rfl
  | ⟨1, _⟩ => show (w.val * 32 + l.val) / 128 = w.val / 4; omega
  | ⟨2, _⟩ => show (w.val * 32 + l.val) % 128 = 32 * (w.val % 4) + l.val; omega
  | ⟨3, _⟩ => rfl
  | ⟨4, _⟩ => rfl
  | ⟨5, _⟩ => rfl

/-- The windows with the positions' embeddings added. -/
theorem v16_apply (h : ∀ b j, (x1 (ix2 b j)).toNat < 2560) (b : Fin 32) (w : Fin 256) (l : Fin 32) (e : Fin 2) (g : Fin 4) (d : Fin 64) :
    val_main_v16 (F := Ideal) x0 x1 x3 (ix6 b w l e g d)
      = Spec.win (fun p q c g d => x0 (ix5 p q c g d)) x1 (fun e l d => x3 (ix3 e l d)) e g b w ⟨64 * l.val + d.val, by omega⟩ := by
  rw [val_main_v16_apply, v11_apply x0 x1 h, val_main_v15_apply, val_main_v14_apply, val_main_v13_apply, val_main_v12_apply]
  have e1 : (64 * l.val + d.val) / 64 = l.val := by omega
  have e2 : (64 * l.val + d.val) % 64 = d.val := by omega
  have ep : idx_main_v12 (idx_main_v13 (idx_main_v14 (idx_main_v15 (ix6 b w l e g d)))) = ix3 e l d := eq_ix3 _
  rw [ep]
  simp only [Spec.win, e1, e2]
  rfl

/-- The first product's dimension numbers. -/
abbrev D17 := dot_S2x32x64x256_S32x256x32x2x4x64_S2x256x32x256x4_21_52_3_014_0_3

/-! Where the first product reads its two operands. -/

theorem l0 (i : S2x256x32x256x4.Idx) (q : D17.contr.Idx) : (D17.lhsIdx i q 0).val = (i 0).val := by
  unfold DotDims.lhsIdx
  rw [dif_pos (by decide)]
  rfl
theorem l1 (i : S2x256x32x256x4.Idx) (q : D17.contr.Idx) : (D17.lhsIdx i q 1).val = (q ⟨1, by decide⟩).val := by
  unfold DotDims.lhsIdx
  rw [dif_neg (by decide), dif_neg (by decide)]
  rfl
theorem l2 (i : S2x256x32x256x4.Idx) (q : D17.contr.Idx) : (D17.lhsIdx i q 2).val = (q ⟨0, by decide⟩).val := by
  unfold DotDims.lhsIdx
  rw [dif_neg (by decide), dif_neg (by decide)]
  rfl
theorem l3 (i : S2x256x32x256x4.Idx) (q : D17.contr.Idx) : (D17.lhsIdx i q 3).val = (i 1).val := by
  unfold DotDims.lhsIdx
  rw [dif_neg (by decide), dif_pos (by decide)]
  rfl
theorem r0 (i : S2x256x32x256x4.Idx) (q : D17.contr.Idx) : (D17.rhsIdx i q 0).val = (i 2).val := by
  unfold DotDims.rhsIdx
  rw [dif_neg (by decide), dif_pos (by decide)]
  rfl
theorem r1 (i : S2x256x32x256x4.Idx) (q : D17.contr.Idx) : (D17.rhsIdx i q 1).val = (i 3).val := by
  unfold DotDims.rhsIdx
  rw [dif_neg (by decide), dif_pos (by decide)]
  rfl
theorem r2 (i : S2x256x32x256x4.Idx) (q : D17.contr.Idx) : (D17.rhsIdx i q 2).val = (q ⟨1, by decide⟩).val := by
  unfold DotDims.rhsIdx
  rw [dif_neg (by decide), dif_neg (by decide)]
  rfl
theorem r3 (i : S2x256x32x256x4.Idx) (q : D17.contr.Idx) : (D17.rhsIdx i q 3).val = (i 0).val := by
  unfold DotDims.rhsIdx
  rw [dif_pos (by decide)]
  rfl
theorem r4 (i : S2x256x32x256x4.Idx) (q : D17.contr.Idx) : (D17.rhsIdx i q 4).val = (i 4).val := by
  unfold DotDims.rhsIdx
  rw [dif_neg (by decide), dif_pos (by decide)]
  rfl
theorem r5 (i : S2x256x32x256x4.Idx) (q : D17.contr.Idx) : (D17.rhsIdx i q 5).val = (q ⟨0, by decide⟩).val := by
  unfold DotDims.rhsIdx
  rw [dif_neg (by decide), dif_neg (by decide)]
  rfl

/-- The first product: every window, flattened, times the weights. -/
theorem v17_apply (h : ∀ b j, (x1 (ix2 b j)).toNat < 2560) (e : Fin 2) (f : Fin 256) (b : Fin 32) (w : Fin 256) (g : Fin 4) :
    val_main_v17 (F := Ideal) x0 x1 x3 x4 (ix5 e f b w g)
      = ∑ k : Fin 2048, Spec.win (fun p q c g d => x0 (ix5 p q c g d)) x1 (fun e l d => x3 (ix3 e l d)) e g b w k
          * x4 (ix4 e ⟨k.val / 64, by omega⟩ ⟨k.val % 64, by omega⟩ f) := by
  have v16 := fun l d => v16_apply x0 x1 x3 h b w l e g d
  unfold val_main_v17
  generalize val_main_v16 (F := Ideal) x0 x1 x3 = y at v16
  simp only [Host.dotGeneral]
  rw [Ideal.dotGeneral_apply, ValueIdx.sum_contr2 D17 64 32 rfl rfl rfl, Spec.sum_window]
  refine Finset.sum_congr rfl fun d _ => Finset.sum_congr rfl fun l _ => ?_
  have k0 := ValueIdx.contrEquiv2_symm_val0 D17 64 32 rfl rfl rfl (d, l)
  have k1 := ValueIdx.contrEquiv2_symm_val1 D17 64 32 rfl rfl rfl (d, l)
  have el : D17.lhsIdx (ix5 e f b w g) ((ValueIdx.contrEquiv2 D17 64 32 rfl rfl rfl).symm (d, l)) = ix4 e l d f := funext fun a => Fin.ext (by
    match a with
    | ⟨0, _⟩ => exact l0 _ _
    | ⟨1, _⟩ => exact (l1 _ _).trans k1
    | ⟨2, _⟩ => exact (l2 _ _).trans k0
    | ⟨3, _⟩ => exact l3 _ _)
  have er : D17.rhsIdx (ix5 e f b w g) ((ValueIdx.contrEquiv2 D17 64 32 rfl rfl rfl).symm (d, l)) = ix6 b w l e g d := funext fun a => Fin.ext (by
    match a with
    | ⟨0, _⟩ => exact r0 _ _
    | ⟨1, _⟩ => exact r1 _ _
    | ⟨2, _⟩ => exact (r2 _ _).trans k1
    | ⟨3, _⟩ => exact r3 _ _
    | ⟨4, _⟩ => exact r4 _ _
    | ⟨5, _⟩ => exact (r5 _ _).trans k0)
  have e1 : (64 * l.val + d.val) / 64 = l.val := by omega
  have e2 : (64 * l.val + d.val) % 64 = d.val := by omega
  rw [el, er, v16, mul_comm]
  simp only [e1, e2]

end Cert.CompRefIdeal.Val

end
-- ==== Proof.CompBlk.lean ====
module

public import proofs.«01_k».proof.Proof.CompOk
public import proofs.«01_k».proof.Proof.CompRefX
public import Idealize.ShloMosaic.Lib.StableHlo.RunRead

/-! The compression: what the call's argument blocks hold of the program's arguments. -/

@[expose] public section

set_option maxRecDepth 16384

noncomputable section

namespace Cert.CompIdeal.Val

open Cert.CompIdeal Cert.CompIdeal.Gen Idealize.ShloMosaic Idealize.ShloMosaic.TcCoe Idealize.SL.Sem
open Idealize.ShloMosaic.Pipeline (Dat)

/-- The prefetched table is the argument's, row after row. -/
theorem tbl_apply {F : FTy → Type} [FloatOps F] (m : (ℓ : Loc nD τ sig) → Buf (Elt F) ℓ) (c : Dev nD) (j : Fin 2048) :
    (tbl m 0 : IVec S2048 32) (ix1 j)
      = (m ((c : Thread nD τ).loc main_arg1) : IVec S32x64 32) (ix2 ⟨j.val / 64, by omega⟩ ⟨j.val % 64, by omega⟩) := by
  obtain rfl : c = 0 := Subsingleton.elim _ _
  show StableHlo.after hostOps0 (fun b => m ((0 : Dev nD), b)) (Proc.devRef .tc main_v11) (ix1 j) = _
  unfold hostOps0
  after_results
  pointwise

/-- Where the table's entries number pages of the cache, the call's windows lie inside it. -/
theorem ok_of_range {F : FTy → Type} [FloatOps F] (m : (ℓ : Loc nD τ sig) → Buf (Elt F) ℓ)
    (h : ∀ b j, ((m (((0 : Dev nD) : Thread nD τ).loc main_arg1) : IVec S32x64 32) (ix2 b j)).toNat < 2560) : Ok m :=
  ok_of_table _ fun j => by rw [tbl_apply m 0 j]; exact h _ _

variable (m : (ℓ : Loc nD τ sig) → Buf (Elt Ideal) ℓ)

/-- The cache as the call is given it: features along the rows, positions along the lanes. -/
theorem cache_apply (c : Dev nD) (p : Fin 2560) (q : Fin 1024) (r : Fin 128) :
    V m c main_v10 (ix3 p q r) = m ((c : Thread nD τ).loc main_arg0)
      (ix5 p r ⟨q.val / 256, by omega⟩ ⟨q.val % 256 / 64, by omega⟩ ⟨q.val % 64, by omega⟩) := by
  show StableHlo.after hostOps0 (fun b => m (c, b)) (Proc.devRef .tc main_v10) (ix3 p q r) = _
  unfold hostOps0
  after_results
  pointwise
  have e : q.val / 64 % 4 = q.val % 256 / 64 := by omega
  simp only [e]

/-- A grid point's coordinate is its number. -/
theorem coord : ∀ t : Fin grid0.N, (grid0.coords t 0).val = t.val := by decide +kernel

/-- The page of step `t`'s window `k`. -/
theorem page_eq (c : Dev nD) (t : Nat) (ht : t < 256) (k : Fin 8) : page (tbl m 0) t ht k
    = ((m ((c : Thread nD τ).loc main_arg1) : IVec S32x64 32) (ix2 ⟨t / 8, by omega⟩ ⟨t % 8 * 8 + k.val, by omega⟩)).toNat := by
  unfold page
  rw [tbl_apply m c]
  refine congrArg (fun i => ((m ((c : Thread nD τ).loc main_arg1) : IVec S32x64 32) i).toNat) ?_
  funext (a : Fin 2)
  refine Fin.ext ?_
  match a with
  | ⟨0, _⟩ => show (8 * t + k.val) / 64 = t / 8; omega
  | ⟨1, _⟩ => show (8 * t + k.val) % 64 = t % 8 * 8 + k.val; omega

/-- What a page window holds, from where its block sits in the cache. -/
theorem page_read (c : Dev nD) (t : Nat) (ht : t < 256) (k : Fin 8)
    (h : ∀ b j, ((m ((c : Thread nD τ).loc main_arg1) : IVec S32x64 32) (ix2 b j)).toNat < 2560)
    (f : Fin 3 → Nat) (hf : f = ![page (tbl m 0) t ht k, 0, 0]) (i : S2560x1024x128.Idx) (q : Fin 512) (r : Fin 128)
    (h0 : (i 0).val = f 0 * 1 + 1 * 0) (h1 : (i 1).val = f 1 * 512 + 1 * q.val) (h2 : (i 2).val = f 2 * 128 + 1 * r.val) :
    V m c main_v10 i = m ((c : Thread nD τ).loc main_arg0)
      (ix5 (Spec.pg (m ((c : Thread nD τ).loc main_arg1)) ⟨t / 8, by omega⟩ ⟨t % 8 * 8 + k.val, by omega⟩) r
        ⟨q.val / 256, by omega⟩ ⟨q.val % 256 / 64, by omega⟩ ⟨q.val % 64, by omega⟩) := by
  subst hf
  have hp := h ⟨t / 8, by omega⟩ ⟨t % 8 * 8 + k.val, by omega⟩
  have e : i = ix3 (Spec.pg (m ((c : Thread nD τ).loc main_arg1)) ⟨t / 8, by omega⟩ ⟨t % 8 * 8 + k.val, by omega⟩) ⟨q.val, by omega⟩ r := by
    funext (a : Fin 3)
    refine Fin.ext ?_
    match a with
    | ⟨0, _⟩ =>
      refine h0.trans ?_
      show page (tbl m 0) t ht k * 1 + 1 * 0 = min _ 2559
      rw [page_eq m c]
      omega
    | ⟨1, _⟩ => refine h1.trans ?_; show 0 * 512 + 1 * q.val = q.val; omega
    | ⟨2, _⟩ => refine h2.trans ?_; show 0 * 128 + 1 * r.val = r.val; omega
  rw [e, cache_apply]

variable (hO : Ok m)

/-- Page window 0. -/
theorem blk0 (c : Dev nD) (t : Fin (cfgM m hO).N) (h : ∀ b j, ((m ((c : Thread nD τ).loc main_arg1) : IVec S32x64 32) (ix2 b j)).toNat < 2560)
    (q : Fin 512) (r : Fin 128) : (iblk m hO c 0 t : Vec Ideal S1x512x128 .f32) (ix3 0 q r) = m ((c : Thread nD τ).loc main_arg0)
      (ix5 (Spec.pg (m ((c : Thread nD τ).loc main_arg1)) ⟨t.val / 8, by have : t.val < 256 := t.isLt; omega⟩ ⟨t.val % 8 * 8 + 0, by omega⟩) r
        ⟨q.val / 256, by omega⟩ ⟨q.val % 256 / 64, by omega⟩ ⟨q.val % 64, by omega⟩) :=
  page_read m c t.val t.isLt 0 h (cc0_transform_0 k0_off1_inb numel1_S1 (tbl m) (grid0.coords t))
    ((tr0 (tbl m) (grid0.coords t)).trans (by simp only [coord])) _ q r rfl rfl rfl

/-- Page window 1. -/
theorem blk1 (c : Dev nD) (t : Fin (cfgM m hO).N) (h : ∀ b j, ((m ((c : Thread nD τ).loc main_arg1) : IVec S32x64 32) (ix2 b j)).toNat < 2560)
    (q : Fin 512) (r : Fin 128) : (iblk m hO c 1 t : Vec Ideal S1x512x128 .f32) (ix3 0 q r) = m ((c : Thread nD τ).loc main_arg0)
      (ix5 (Spec.pg (m ((c : Thread nD τ).loc main_arg1)) ⟨t.val / 8, by have : t.val < 256 := t.isLt; omega⟩ ⟨t.val % 8 * 8 + 1, by omega⟩) r
        ⟨q.val / 256, by omega⟩ ⟨q.val % 256 / 64, by omega⟩ ⟨q.val % 64, by omega⟩) :=
  page_read m c t.val t.isLt 1 h (cc0_transform_1 k0_off1_inb numel1_S1 (tbl m) (grid0.coords t))
    ((tr1 (tbl m) (grid0.coords t)).trans (by simp only [coord])) _ q r rfl rfl rfl

/-- Page window 2. -/
theorem blk2 (c : Dev nD) (t : Fin (cfgM m hO).N) (h : ∀ b j, ((m ((c : Thread nD τ).loc main_arg1) : IVec S32x64 32) (ix2 b j)).toNat < 2560)
    (q : Fin 512) (r : Fin 128) : (iblk m hO c 2 t : Vec Ideal S1x512x128 .f32) (ix3 0 q r) = m ((c : Thread nD τ).loc main_arg0)
      (ix5 (Spec.pg (m ((c : Thread nD τ).loc main_arg1)) ⟨t.val / 8, by have : t.val < 256 := t.isLt; omega⟩ ⟨t.val % 8 * 8 + 2, by omega⟩) r
        ⟨q.val / 256, by omega⟩ ⟨q.val % 256 / 64, by omega⟩ ⟨q.val % 64, by omega⟩) :=
  page_read m c t.val t.isLt 2 h (cc0_transform_2 k0_off1_inb numel1_S1 (tbl m) (grid0.coords t))
    ((tr2 (tbl m) (grid0.coords t)).trans (by simp only [coord])) _ q r rfl rfl rfl

/-- Page window 3. -/
theorem blk3 (c : Dev nD) (t : Fin (cfgM m hO).N) (h : ∀ b j, ((m ((c : Thread nD τ).loc main_arg1) : IVec S32x64 32) (ix2 b j)).toNat < 2560)
    (q : Fin 512) (r : Fin 128) : (iblk m hO c 3 t : Vec Ideal S1x512x128 .f32) (ix3 0 q r) = m ((c : Thread nD τ).loc main_arg0)
      (ix5 (Spec.pg (m ((c : Thread nD τ).loc main_arg1)) ⟨t.val / 8, by have : t.val < 256 := t.isLt; omega⟩ ⟨t.val % 8 * 8 + 3, by omega⟩) r
        ⟨q.val / 256, by omega⟩ ⟨q.val % 256 / 64, by omega⟩ ⟨q.val % 64, by omega⟩) :=
  page_read m c t.val t.isLt 3 h (cc0_transform_3 k0_off1_inb numel1_S1 (tbl m) (grid0.coords t))
    ((tr3 (tbl m) (grid0.coords t)).trans (by simp only [coord])) _ q r rfl rfl rfl

/-- Page window 4. -/
theorem blk4 (c : Dev nD) (t : Fin (cfgM m hO).N) (h : ∀ b j, ((m ((c : Thread nD τ).loc main_arg1) : IVec S32x64 32) (ix2 b j)).toNat < 2560)
    (q : Fin 512) (r : Fin 128) : (iblk m hO c 4 t : Vec Ideal S1x512x128 .f32) (ix3 0 q r) = m ((c : Thread nD τ).loc main_arg0)
      (ix5 (Spec.pg (m ((c : Thread nD τ).loc main_arg1)) ⟨t.val / 8, by have : t.val < 256 := t.isLt; omega⟩ ⟨t.val % 8 * 8 + 4, by omega⟩) r
        ⟨q.val / 256, by omega⟩ ⟨q.val % 256 / 64, by omega⟩ ⟨q.val % 64, by omega⟩) :=
  page_read m c t.val t.isLt 4 h (cc0_transform_4 k0_off1_inb numel1_S1 (tbl m) (grid0.coords t))
    ((tr4 (tbl m) (grid0.coords t)).trans (by simp only [coord])) _ q r rfl rfl rfl

/-- Page window 5. -/
theorem blk5 (c : Dev nD) (t : Fin (cfgM m hO).N) (h : ∀ b j, ((m ((c : Thread nD τ).loc main_arg1) : IVec S32x64 32) (ix2 b j)).toNat < 2560)
    (q : Fin 512) (r : Fin 128) : (iblk m hO c 5 t : Vec Ideal S1x512x128 .f32) (ix3 0 q r) = m ((c : Thread nD τ).loc main_arg0)
      (ix5 (Spec.pg (m ((c : Thread nD τ).loc main_arg1)) ⟨t.val / 8, by have : t.val < 256 := t.isLt; omega⟩ ⟨t.val % 8 * 8 + 5, by omega⟩) r
        ⟨q.val / 256, by omega⟩ ⟨q.val % 256 / 64, by omega⟩ ⟨q.val % 64, by omega⟩) :=
  page_read m c t.val t.isLt 5 h (cc0_transform_5 k0_off1_inb numel1_S1 (tbl m) (grid0.coords t))
    ((tr5 (tbl m) (grid0.coords t)).trans (by simp only [coord])) _ q r rfl rfl rfl

/-- Page window 6. -/
theorem blk6 (c : Dev nD) (t : Fin (cfgM m hO).N) (h : ∀ b j, ((m ((c : Thread nD τ).loc main_arg1) : IVec S32x64 32) (ix2 b j)).toNat < 2560)
    (q : Fin 512) (r : Fin 128) : (iblk m hO c 6 t : Vec Ideal S1x512x128 .f32) (ix3 0 q r) = m ((c : Thread nD τ).loc main_arg0)
      (ix5 (Spec.pg (m ((c : Thread nD τ).loc main_arg1)) ⟨t.val / 8, by have : t.val < 256 := t.isLt; omega⟩ ⟨t.val % 8 * 8 + 6, by omega⟩) r
        ⟨q.val / 256, by omega⟩ ⟨q.val % 256 / 64, by omega⟩ ⟨q.val % 64, by omega⟩) :=
  page_read m c t.val t.isLt 6 h (cc0_transform_6 k0_off1_inb numel1_S1 (tbl m) (grid0.coords t))
    ((tr6 (tbl m) (grid0.coords t)).trans (by simp only [coord])) _ q r rfl rfl rfl

/-- Page window 7. -/
theorem blk7 (c : Dev nD) (t : Fin (cfgM m hO).N) (h : ∀ b j, ((m ((c : Thread nD τ).loc main_arg1) : IVec S32x64 32) (ix2 b j)).toNat < 2560)
    (q : Fin 512) (r : Fin 128) : (iblk m hO c 7 t : Vec Ideal S1x512x128 .f32) (ix3 0 q r) = m ((c : Thread nD τ).loc main_arg0)
      (ix5 (Spec.pg (m ((c : Thread nD τ).loc main_arg1)) ⟨t.val / 8, by have : t.val < 256 := t.isLt; omega⟩ ⟨t.val % 8 * 8 + 7, by omega⟩) r
        ⟨q.val / 256, by omega⟩ ⟨q.val % 256 / 64, by omega⟩ ⟨q.val % 64, by omega⟩) :=
  page_read m c t.val t.isLt 7 h (cc0_transform_7 k0_off1_inb numel1_S1 (tbl m) (grid0.coords t))
    ((tr7 (tbl m) (grid0.coords t)).trans (by simp only [coord])) _ q r rfl rfl rfl

/-- The embeddings' block, each feature row twice. -/
theorem blk8 (c : Dev nD) (t : Fin (cfgM m hO).N) (e : Fin 2) (l : Fin 32) (x : Fin 128) :
    (iblk m hO c 8 t : Vec Ideal S2x32x128 .f32) (ix3 e l x) = m ((c : Thread nD τ).loc main_arg3) (ix3 e l ⟨x.val % 64, by omega⟩) := by
  have ei : ((((cfgM m hO).win 8).blk t).view.emb (ix3 e l x) : S2x32x128.Idx) = ix3 e l x := by
    funext (a : Fin 3)
    refine Fin.ext ?_
    match a with
    | ⟨0, _⟩ => show 0 * 2 + 1 * e.val = e.val; omega
    | ⟨1, _⟩ => show 0 * 32 + 1 * l.val = l.val; omega
    | ⟨2, _⟩ => show 0 * 128 + 1 * x.val = x.val; omega
  show StableHlo.after hostOps0 (fun b => m (c, b)) (Proc.devRef .tc main_v2) ((((cfgM m hO).win 8).blk t).view.emb (ix3 e l x)) = _
  rw [ei]
  unfold hostOps0
  after_results
  pointwise

/-- The first weights. -/
theorem blk9 (c : Dev nD) (t : Fin (cfgM m hO).N) (e : Fin 2) (k : Fin 2048) (f : Fin 256) :
    (iblk m hO c 9 t : Vec Ideal S2x2048x256 .bf16) (ix3 e k f)
      = m ((c : Thread nD τ).loc main_arg4) (ix4 e ⟨k.val / 64, by omega⟩ ⟨k.val % 64, by omega⟩ f) := by
  have ei : ((((cfgM m hO).win 9).blk t).view.emb (ix3 e k f) : S2x2048x256.Idx) = ix3 e k f := by
    funext (a : Fin 3)
    refine Fin.ext ?_
    match a with
    | ⟨0, _⟩ => show 0 * 2 + 1 * e.val = e.val; omega
    | ⟨1, _⟩ => show 0 * 2048 + 1 * k.val = k.val; omega
    | ⟨2, _⟩ => show 0 * 256 + 1 * f.val = f.val; omega
  show StableHlo.after hostOps0 (fun b => m (c, b)) (Proc.devRef .tc main_v4) ((((cfgM m hO).win 9).blk t).view.emb (ix3 e k f)) = _
  rw [ei]
  unfold hostOps0
  after_results
  pointwise

/-- The second weights. -/
theorem blk10 (c : Dev nD) (t : Fin (cfgM m hO).N) (e : Fin 2) (f : Fin 256) (d : Fin 64) :
    (iblk m hO c 10 t : Vec Ideal S2x256x64 .bf16) (ix3 e f d) = m ((c : Thread nD τ).loc main_arg5) (ix3 e f d) := by
  have ei : ((((cfgM m hO).win 10).blk t).view.emb (ix3 e f d) : S2x256x64.Idx) = ix3 e f d := by
    funext (a : Fin 3)
    refine Fin.ext ?_
    match a with
    | ⟨0, _⟩ => show 0 * 2 + 1 * e.val = e.val; omega
    | ⟨1, _⟩ => show 0 * 256 + 1 * f.val = f.val; omega
    | ⟨2, _⟩ => show 0 * 64 + 1 * d.val = d.val; omega
  show StableHlo.after hostOps0 (fun b => m (c, b)) (Proc.devRef .tc main_v5) ((((cfgM m hO).win 10).blk t).view.emb (ix3 e f d)) = _
  rw [ei]
  unfold hostOps0
  after_results
  pointwise

/-- The gains of the keys' norm. -/
theorem blk11 (c : Dev nD) (t : Fin (cfgM m hO).N) (d : Fin 64) :
    (iblk m hO c 11 t : Vec Ideal S1x64 .f32) (ix2 0 d) = m ((c : Thread nD τ).loc main_arg2) (ix2 0 d) := by
  have ei : ((((cfgM m hO).win 11).blk t).view.emb (ix2 (0 : Fin 1) d) : S1x64.Idx) = ix2 (0 : Fin 1) d := by
    funext (a : Fin 2)
    refine Fin.ext ?_
    match a with
    | ⟨0, _⟩ => show 0 * 1 + 1 * (0 : Fin 1).val = (0 : Fin 1).val; omega
    | ⟨1, _⟩ => show 0 * 64 + 1 * d.val = d.val; omega
  show StableHlo.after hostOps0 (fun b => m (c, b)) (Proc.devRef .tc main_v8) ((((cfgM m hO).win 11).blk t).view.emb (ix2 (0 : Fin 1) d)) = _
  rw [ei]
  unfold hostOps0
  after_results
  pointwise

end Cert.CompIdeal.Val

end
-- ==== Proof.CompBody.lean ====
module

public import proofs.«01_k».proof.Proof.Gen.CompIdeal.Frame
public import Idealize.ShloMosaic.Lib.KernelVsHost
public import Idealize.ShloMosaic.Lib.Pipeline.ValueKit

@[expose] public section

set_option maxRecDepth 65536

noncomputable section

namespace Cert.CompIdeal.Val

open Cert.CompIdeal Cert.CompIdeal.Gen Idealize.ShloMosaic Idealize.ShloMosaic.TcCoe Idealize.SL.Sem

/-- The lanes below 64. -/
def mask : IVec S32x128 1 := k0_pay41 kernelRun0_A.sl.v192 kernelRun0_A.sl.v193

section Generic
variable (LD : Fin 4 → Fin 32 → Vec Ideal S1x32x128 .f32) (PE : Fin 2 → Fin 32 → Vec Ideal S1x1x128 .f32)

/-- The rows of slab `s` at place `l` of every window, with the place's position row added. -/
def pt (e : Fin 2) (s : Fin 4) (l : Fin 32) : FVec Ideal S32x128 .f32 := k0_pay42 (LD s l) (PE e l)

/-- A pair of neighbouring places, the lower lanes of each. -/
def pev (e : Fin 2) (s : Fin 4) (q : Fin 16) : FVec Ideal S32x128 .f32 :=
  select mask (pt LD PE e s ⟨2 * q.val, by omega⟩) (dynamicRotate 1 64#32 none (pt LD PE e s ⟨2 * q.val + 1, by omega⟩) rotates_S32x128_d1)

/-- A pair of neighbouring places, the upper lanes of each. -/
def pod (e : Fin 2) (s : Fin 4) (q : Fin 16) : FVec Ideal S32x128 .f32 :=
  select mask (dynamicRotate 1 64#32 none (pt LD PE e s ⟨2 * q.val, by omega⟩) rotates_S32x128_d1) (pt LD PE e s ⟨2 * q.val + 1, by omega⟩)

/-- The four groups: the lower and upper lanes of the two slabs. -/
def pc (e : Fin 2) (s0 s1 : Fin 4) (g : Fin 4) (q : Fin 16) : FVec Ideal S32x128 .f32 :=
  (![pev LD PE e s0 q, pod LD PE e s0 q, pev LD PE e s1 q, pod LD PE e s1 q] : Fin 4 → FVec Ideal S32x128 .f32) g

/-- One group's rows, the places side by side. -/
def xrow (e : Fin 2) (s0 s1 : Fin 4) (g : Fin 4) : FVec Ideal S32x2048 .f32 :=
  concatenate S32x2048 1 (List.ofFn fun q : Fin 16 => (⟨S32x128, pc LD PE e s0 s1 g q⟩ : (s : Shape) × (s.Idx → EReal))) concatenates_S32x128_S32x128_S32x128_S32x128_S32x128_S32x128_S32x128_S32x128_S32x128_S32x128_S32x128_S32x128_S32x128_S32x128_S32x128_S32x128_S32x2048_d1

/-- The left factor of the first product: the four groups below one another. -/
def xm (e : Fin 2) (s0 s1 : Fin 4) : FVec Ideal S128x2048 .f32 :=
  concatenate S128x2048 0 (List.ofFn fun g : Fin 4 => (⟨S32x2048, xrow LD PE e s0 s1 g⟩ : (s : Shape) × (s.Idx → EReal))) concatenates_S32x2048_S32x2048_S32x2048_S32x2048_S128x2048_d0

end Generic

/-- The first product and the gelu. -/
def hid (v711 : FVec Ideal S128x2048 .f32) (v713 : Vec Ideal S1x2048x256 .bf16) : FVec Ideal S128x256 .f32 :=
  have v712 : FVec Ideal S128x2048 .bf16 := truncf .bf16 v711 bitsLt_bf16_f32
  have v714 : FVec Ideal S2048x256 .bf16 := shapeCast S2048x256 v713 shapeCasts_S1x2048x256_S2048x256
  have cst : FVec Ideal S128x256 .f32 := constant S128x256 .f32 0x00000000#32
  have v715 : FVec Ideal S128x256 .f32 := matmul dot_S128x2048_S2048x256_S128x256_1_0_0_1_n_n none v712 v714 cst
  have v716 : FVec Ideal S128x256 .f32 := mulf v715 v715
  have v717 : FVec Ideal S128x256 .f32 := mulf v715 v716
  have cst_604 : Ideal .f32 := Scalar.ofBits .f32 0x3D372713#32
  have v718 : FVec Ideal S128x256 .f32 := broadcast S128x256 cst_604
  have v719 : FVec Ideal S128x256 .f32 := mulf v718 v717
  have v720 : FVec Ideal S128x256 .f32 := addf v715 v719
  have cst_605 : Ideal .f32 := Scalar.ofBits .f32 0x3F4C422A#32
  have v721 : FVec Ideal S128x256 .f32 := broadcast S128x256 cst_605
  have v722 : FVec Ideal S128x256 .f32 := mulf v721 v720
  have v723 : FVec Ideal S128x256 .f32 := tanh v722
  have cst_606 : Ideal .f32 := Scalar.ofBits .f32 0x3F800000#32
  have v724 : FVec Ideal S128x256 .f32 := broadcast S128x256 cst_606
  have v725 : FVec Ideal S128x256 .f32 := addf v724 v723
  have cst_607 : Ideal .f32 := Scalar.ofBits .f32 0x3F000000#32
  have v726 : FVec Ideal S128x256 .f32 := broadcast S128x256 cst_607
  have v727 : FVec Ideal S128x256 .f32 := mulf v726 v725
  have v728 : FVec Ideal S128x256 .f32 := mulf v715 v727
  v728

/-- The second product. -/
def outm (v728 : FVec Ideal S128x256 .f32) (v730 : Vec Ideal S1x256x64 .bf16) : FVec Ideal S128x64 .f32 :=
  have v729 : FVec Ideal S128x256 .bf16 := truncf .bf16 v728 bitsLt_bf16_f32
  have v731 : FVec Ideal S256x64 .bf16 := shapeCast S256x64 v730 shapeCasts_S1x256x64_S256x64
  have cst_611 : FVec Ideal S128x64 .f32 := constant S128x64 .f32 0x00000000#32
  have v732 : FVec Ideal S128x64 .f32 := matmul dot_S128x256_S256x64_S128x64_1_0_0_1_n_n none v729 v731 cst_611
  v732

/-- The rows over their root mean square, times a weight row. -/
def nrm (v732 : FVec Ideal S128x64 .f32) (v743 : Vec Ideal S1x64 .f32) : FVec Ideal S128x64 .f32 :=
  have v733 : FVec Ideal S128x64 .f32 := mulf v732 v732
  have v734 : FVec Ideal S128 .f32 := multiReduction .add [1] S128 v733 0x00000000#32 reduces_S128x64_S128 (.inl rfl) rfl
  have v735 : FVec Ideal S128x1 .f32 := shapeCast S128x1 v734 shapeCasts_S128_S128x1
  have cst_613 : Ideal .f32 := Scalar.ofBits .f32 0x42800000#32
  have v736 : FVec Ideal S128x1 .f32 := broadcast S128x1 cst_613
  have v737 : FVec Ideal S128x1 .f32 := divf v735 v736
  have cst_614 : Ideal .f32 := Scalar.ofBits .f32 0x358637BD#32
  have v738 : FVec Ideal S128x1 .f32 := broadcast S128x1 cst_614
  have v739 : FVec Ideal S128x1 .f32 := addf v737 v738
  have v740 : FVec Ideal S128x1 .f32 := rsqrt v739
  have v741 : FVec Ideal S128x64 .f32 := broadcastTo S128x64 v740 broadcasts_S128x1_S128x64
  have v742 : FVec Ideal S128x64 .f32 := mulf v732 v741
  have v744 : FVec Ideal S1x64 .f32 := shapeCast S1x64 v743 shapeCasts_S1x64_S1x64
  have v745 : FVec Ideal S128x64 .f32 := broadcastTo S128x64 v744 broadcasts_S1x64_S128x64
  have v746 : FVec Ideal S128x64 .f32 := mulf v742 v745
  v746

variable (c : Dev nD) (i : grid0.Coords) (arg2 : Memref sig .tc .vmem S1x512x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S2x32x128 .f32) (harg10 : arg10.IsWhole) (arg11 : Memref sig .tc .vmem S2x2048x256 .bf16) (harg11 : arg11.IsWhole) (arg12 : Memref sig .tc .vmem S2x256x64 .bf16) (harg12 : arg12.IsWhole) (arg13 : Memref sig .tc .vmem S1x64 .f32) (harg13 : arg13.IsWhole) (arg14 : Memref sig .tc .vmem S4x32x64 .f32) (harg14 : arg14.IsWhole) (arg15 : Memref sig .tc .vmem S4x32x64 .f32) (harg15 : arg15.IsWhole) (arg16 : Memref sig .tc .vmem S4x1024x128 .f32) (harg16 : arg16.IsWhole)
    (x0 : Vec Ideal S1x512x128 .f32) (x1 : Vec Ideal S1x512x128 .f32) (x2 : Vec Ideal S1x512x128 .f32) (x3 : Vec Ideal S1x512x128 .f32) (x4 : Vec Ideal S1x512x128 .f32) (x5 : Vec Ideal S1x512x128 .f32) (x6 : Vec Ideal S1x512x128 .f32) (x7 : Vec Ideal S1x512x128 .f32) (x8 : Vec Ideal S2x32x128 .f32) (x9 : Vec Ideal S2x2048x256 .bf16) (x10 : Vec Ideal S2x256x64 .bf16) (x11 : Vec Ideal S1x64 .f32) (xt0 : TbBuf0 (F := Ideal) c tbM0_0)

/-- The rows of the scratch array at place `l` of every window of slab `s`. -/
def LDk (s : Fin 4) (l : Fin 32) : Vec Ideal S1x32x128 .f32 :=
  arg16.view.readCov (kernelRun0_A.sl.HS0_32 c arg2 harg2 arg3 harg3 arg4 harg4 arg5 harg5 arg6 harg6 arg7 harg7 arg8 harg8 arg9 harg9 x0 x1 x2 x3 x4 x5 x6 x7)
    { off := ![s.val, l.val, 0], size := S1x32x128.size, stride := ![1, 32, 1],
      inb := fun a => by
        have hs := s.isLt
        have hl := l.isLt
        right
        match a with
        | ⟨0, _⟩ => show s.val + 1 * (1 - 1) < 4; omega
        | ⟨1, _⟩ => show l.val + 32 * (32 - 1) < 1024; omega
        | ⟨2, _⟩ => show 0 + 1 * (128 - 1) < 128; omega }

/-- Position row `l` of encoding `e`. -/
def PEk (e : Fin 2) (l : Fin 32) : Vec Ideal S1x1x128 .f32 :=
  View.readAt (Elt Ideal) arg10.view (Rect.unit (s := S2x32x128) ![e.val, l.val, 0] S1x1x128.size (fun a => by
    have he := e.isLt
    have hl := l.isLt
    match a with
    | ⟨0, _⟩ => show e.val + 1 ≤ 2; omega
    | ⟨1, _⟩ => show l.val + 1 ≤ 32; omega
    | ⟨2, _⟩ => show 0 + 128 ≤ 128; omega)).toLoadRect (harg10.unread x8)

set_option maxHeartbeats 4000000 in
/-- The hidden rows of the values. -/
theorem r159_eq : kernelRun0_A.sl.r_159 c arg2 harg2 arg3 harg3 arg4 harg4 arg5 harg5 arg6 harg6 arg7 harg7 arg8 harg8 arg9 harg9 arg10 harg10 arg11 harg11 arg16 x0 x1 x2 x3 x4 x5 x6 x7 x8 x9
    = hid (xm (LDk c arg2 harg2 arg3 harg3 arg4 harg4 arg5 harg5 arg6 harg6 arg7 harg7 arg8 harg8 arg9 harg9 arg16 x0 x1 x2 x3 x4 x5 x6 x7) (PEk arg10 harg10 x8) 1 2 3) (View.readAt (Elt Ideal) arg11.view (Rect.unit (s := S2x2048x256) ![1, 0, 0] S1x2048x256.size inb_S2x2048x256_S1x2048x256_1_0_0).toLoadRect (harg11.unread x9)) := rfl

set_option maxHeartbeats 4000000 in
/-- The normalised rows of the keys. -/
theorem r95_eq : kernelRun0_A.sl.r_95 c arg2 harg2 arg3 harg3 arg4 harg4 arg5 harg5 arg6 harg6 arg7 harg7 arg8 harg8 arg9 harg9 arg10 harg10 arg11 harg11 arg12 harg12 arg13 harg13 arg16 x0 x1 x2 x3 x4 x5 x6 x7 x8 x9 x10 x11
    = nrm (outm (hid (xm (LDk c arg2 harg2 arg3 harg3 arg4 harg4 arg5 harg5 arg6 harg6 arg7 harg7 arg8 harg8 arg9 harg9 arg16 x0 x1 x2 x3 x4 x5 x6 x7) (PEk arg10 harg10 x8) 0 0 1) (View.readAt (Elt Ideal) arg11.view (Rect.unit (s := S2x2048x256) ![0, 0, 0] S1x2048x256.size inb_S2x2048x256_S1x2048x256_0_0_0).toLoadRect (harg11.unread x9)))
        (View.readAt (Elt Ideal) arg12.view (Rect.unit (s := S2x256x64) ![0, 0, 0] S1x256x64.size inb_S2x256x64_S1x256x64_0_0_0).toLoadRect (harg12.unread x10)))
        (View.readAt (Elt Ideal) arg13.view (Rect.unit (s := S1x64) ![0, 0] S1x64.size inb_S1x64_S1x64_0_0).toLoadRect (harg13.unread x11)) := rfl

end Cert.CompIdeal.Val

end
-- ==== Proof.CompXm.lean ====
module

public import proofs.«01_k».proof.Proof.CompBody
public import proofs.«01_k».proof.Proof.CompSpec

@[expose] public section

set_option maxRecDepth 65536

noncomputable section

namespace Cert.CompIdeal.Val

open Cert.CompIdeal Cert.CompIdeal.Gen Idealize.ShloMosaic Idealize.ShloMosaic.TcCoe Idealize.SL.Sem

variable (LD : Fin 4 → Fin 32 → Vec Ideal S1x32x128 .f32) (PE : Fin 2 → Fin 32 → Vec Ideal S1x1x128 .f32)

/-- A place's row, at a window and a lane. -/
theorem pt_apply (e : Fin 2) (s : Fin 4) (l n : Fin 32) (a : Fin 128) :
    pt LD PE e s l (ix2 n a) = LD s l (ix3 0 n a) + PE e l (ix3 0 0 a) := by
  unfold pt
  pointwise [k0_pay42]

/-- Choosing by the mask is choosing by the lane. -/
theorem mask_select (X Y : FVec Ideal S32x128 .f32) (n : Fin 32) (a : Fin 128) :
    select mask X Y (ix2 n a) = if a.val < 64 then X (ix2 n a) else Y (ix2 n a) := by
  have e (x y : EReal) : Scalar.select (IntOp.cmpi .slt (BitVec.ofNat 32 a.val) (64#32)) x y = if a.val < 64 then x else y := by
    have : IntOp.cmpi .slt (BitVec.ofNat 32 a.val) (64#32) = BitVec.ofBool (decide (a.val < 64)) := by
      revert a
      decide +kernel
    rw [this, WordCmp.select_decide]
  unfold mask kernelRun0_A.sl.v192 kernelRun0_A.sl.v193
  pointwise [k0_pay41]
  simp only [e]

/-- A row rotated by half its lanes. -/
theorem rot_apply (X : FVec Ideal S32x128 .f32) (n : Fin 32) (a b : Fin 128) (h : (a.val + 64) % 128 = b.val) :
    dynamicRotate 1 64#32 none X rotates_S32x128_d1 (ix2 n a) = X (ix2 n b) := by
  refine dynamicRotate_apply (s := S32x128) 1 64#32 _ _ _ _ fun x => ?_
  fin_cases x
  · rfl
  · show b.val = (a.val + 128 - 64) % 128
    omega

/-- A group's piece holds, in its lower lanes, the even place and, in its upper lanes, the odd one. -/
theorem pc_apply (e : Fin 2) (s0 s1 : Fin 4) (g : Fin 4) (q : Fin 16) (n : Fin 32) (a : Fin 128) :
    pc LD PE e s0 s1 g q (ix2 n a)
      = pt LD PE e (if g.val < 2 then s0 else s1) ⟨2 * q.val + a.val / 64, by omega⟩ (ix2 n ⟨(g.val % 2) * 64 + a.val % 64, by omega⟩) := by
  have ha := a.isLt
  have hev (s : Fin 4) : pev LD PE e s q (ix2 n a) = pt LD PE e s ⟨2 * q.val + a.val / 64, by omega⟩ (ix2 n ⟨0 * 64 + a.val % 64, by omega⟩) := by
    unfold pev
    rw [mask_select]
    by_cases h : a.val < 64
    · rw [if_pos h]
      congr 2
      · show 2 * q.val = 2 * q.val + a.val / 64
        omega
      · exact Fin.ext (by show a.val = 0 * 64 + a.val % 64; omega)
    · rw [if_neg h, rot_apply _ n a ⟨0 * 64 + a.val % 64, by omega⟩ (by show (a.val + 64) % 128 = 0 * 64 + a.val % 64; omega)]
      exact congrFun (congrArg (pt LD PE e s) (Fin.ext (by show 2 * q.val + 1 = 2 * q.val + a.val / 64; omega))) _
  have hod (s : Fin 4) : pod LD PE e s q (ix2 n a) = pt LD PE e s ⟨2 * q.val + a.val / 64, by omega⟩ (ix2 n ⟨1 * 64 + a.val % 64, by omega⟩) := by
    unfold pod
    rw [mask_select]
    by_cases h : a.val < 64
    · rw [if_pos h, rot_apply _ n a ⟨1 * 64 + a.val % 64, by omega⟩ (by show (a.val + 64) % 128 = 1 * 64 + a.val % 64; omega)]
      exact congrFun (congrArg (pt LD PE e s) (Fin.ext (by show 2 * q.val = 2 * q.val + a.val / 64; omega))) _
    · rw [if_neg h]
      congr 2
      · show 2 * q.val + 1 = 2 * q.val + a.val / 64
        omega
      · exact Fin.ext (by show a.val = 1 * 64 + a.val % 64; omega)
  fin_cases g
  · exact hev s0
  · exact hod s0
  · exact hev s1
  · exact hod s1

/-- The left factor of the first product, at a row and a column. -/
theorem xm_apply (e : Fin 2) (s0 s1 : Fin 4) (r : Fin 128) (k : Fin 2048) :
    xm LD PE e s0 s1 (ix2 r k)
      = pt LD PE e (if r.val < 64 then s0 else s1) ⟨k.val / 64, by omega⟩
          (ix2 ⟨r.val % 32, by omega⟩ ⟨(r.val / 32 % 2) * 64 + k.val % 64, by omega⟩) := by
  have hr := r.isLt
  have hk := k.isLt
  unfold xm
  refine (concatenate_ofFn_apply (t := S128x2048) (s₁ := S32x2048) 0 (fun g : Fin 4 => xrow LD PE e s0 s1 g) _ rfl 32 rfl (ix2 r k)
    ⟨r.val / 32, by omega⟩ rfl (ix2 ⟨r.val % 32, by omega⟩ k) rfl (fun b hb => ?_)).trans ?_
  · fin_cases b
    · exact absurd rfl hb
    · rfl
  unfold xrow
  refine (concatenate_ofFn_apply (t := S32x2048) (s₁ := S32x128) 1 (fun q : Fin 16 => pc LD PE e s0 s1 ⟨r.val / 32, by omega⟩ q) _ rfl 128 rfl
    (ix2 ⟨r.val % 32, by omega⟩ k) ⟨k.val / 128, by omega⟩ rfl (ix2 ⟨r.val % 32, by omega⟩ ⟨k.val % 128, by omega⟩) rfl (fun b hb => ?_)).trans ?_
  · fin_cases b
    · rfl
    · exact absurd rfl hb
  rw [pc_apply]
  have h1 : (⟨2 * (k.val / 128) + k.val % 128 / 64, by omega⟩ : Fin 32) = ⟨k.val / 64, by omega⟩ := Fin.ext (by show 2 * (k.val / 128) + k.val % 128 / 64 = k.val / 64; omega)
  have h2 : (⟨(r.val / 32 % 2) * 64 + k.val % 128 % 64, by omega⟩ : Fin 128) = ⟨(r.val / 32 % 2) * 64 + k.val % 64, by omega⟩ :=
    Fin.ext (by show (r.val / 32 % 2) * 64 + k.val % 128 % 64 = (r.val / 32 % 2) * 64 + k.val % 64; omega)
  have h3 : (if r.val / 32 < 2 then s0 else s1) = if r.val < 64 then s0 else s1 := by
    by_cases h : r.val < 64
    · rw [if_pos h, if_pos (by omega)]
    · rw [if_neg h, if_neg (by omega)]
  show pt LD PE e (if r.val / 32 < 2 then s0 else s1) ⟨2 * (k.val / 128) + k.val % 128 / 64, _⟩ (ix2 _ ⟨(r.val / 32 % 2) * 64 + k.val % 128 % 64, _⟩) = _
  rw [h1, h2, h3]

/-- The hidden rows are the gelu of the first product. -/
theorem hid_apply (X : FVec Ideal S128x2048 .f32) (W : Vec Ideal S1x2048x256 .bf16) (r : Fin 128) (f : Fin 256) :
    hid X W (ix2 r f) = Spec.gelu (∑ k, X (ix2 r k) * W (ix3 0 k f)) := by
  pointwise [hid]
  rfl

/-- The second product. -/
theorem outm_apply (X : FVec Ideal S128x256 .f32) (W : Vec Ideal S1x256x64 .bf16) (r : Fin 128) (d : Fin 64) :
    outm X W (ix2 r d) = ∑ f, X (ix2 r f) * W (ix3 0 f d) := by
  pointwise [outm]

/-- The normalised rows. -/
theorem nrm_apply (X : FVec Ideal S128x64 .f32) (W : Vec Ideal S1x64 .f32) (r : Fin 128) (d : Fin 64) :
    nrm X W (ix2 r d) = Spec.rmsHead (fun d => X (ix2 r d)) (fun d => W (ix2 0 d)) d := by
  pointwise [nrm]
  rfl

end Cert.CompIdeal.Val

end
-- ==== Proof.CompOut.lean ====
module

public import proofs.«01_k».proof.Proof.CompXm

@[expose] public section

set_option maxRecDepth 65536

noncomputable section

namespace Cert.CompIdeal.Val

open Cert.CompIdeal Cert.CompIdeal.Gen Idealize.ShloMosaic Idealize.ShloMosaic.TcCoe Idealize.SL.Sem

/-- The scratch array over eight pages `P`: row `r` of slab `s` is position `r` of the eight pages' features `s * 128 ‥`. -/
def RAW (P : Fin 8 → Vec Ideal S1x512x128 .f32) (y : S4x1024x128.Idx) : EReal :=
  P ⟨(y 1).val / 128, Nat.div_lt_of_lt_mul (y 1).isLt⟩
    (ix3 0 ⟨(y 0).val * 128 + (y 2).val, by have h0 : (y 0).val < 4 := (y 0).isLt; have h2 : (y 2).val < 128 := (y 2).isLt; omega⟩
      ⟨(y 1).val % 128, Nat.mod_lt _ (by omega)⟩)

/-- A square turned round. -/
theorem turn (Y : S1x128x128.Idx → EReal) (z : Fin 1) (r j : Fin 128) :
    shapeCast S1x128x128 (transpose S128x128 [1, 0] (shapeCast S128x128 Y shapeCasts_S1x128x128_S128x128)
      transposes_S128x128_p1_0_S128x128) shapeCasts_S128x128_S1x128x128 (ix3 z r j) = Y (ix3 0 j r) := by
  pointwise

/-- A tile of a page, its positions down, is the scratch array's part it is stored to. -/
theorem piece (P : Fin 8 → Vec Ideal S1x512x128 .f32) (arg : Memref sig .tc .vmem S1x512x128 .f32) (harg : arg.IsWhole) (k : Fin 8) (ch : Fin 4)
    (h1 : ∀ a, (![0, ch.val * 128, 0] : Fin 3 → Nat) a + S1x128x128.size a ≤ S1x512x128.size a)
    (h2 : ∀ a, (![ch.val, k.val * 128, 0] : Fin 3 → Nat) a + S1x128x128.size a ≤ S4x1024x128.size a) (x : S1x128x128.Idx) :
    shapeCast S1x128x128 (transpose S128x128 [1, 0] (shapeCast S128x128 (View.readAt (Elt Ideal) arg.view
        (Rect.unit (s := S1x512x128) ![0, ch.val * 128, 0] S1x128x128.size h1).toLoadRect (harg.unread (P k))) shapeCasts_S1x128x128_S128x128)
        transposes_S128x128_p1_0_S128x128) shapeCasts_S128x128_S1x128x128 x
      = RAW P ((Rect.unit (s := S4x1024x128) ![ch.val, k.val * 128, 0] S1x128x128.size h2).emb x) := by
  obtain ⟨z, r, j, rfl⟩ : ∃ (z : Fin 1) (r j : Fin 128), x = ix3 z r j := ⟨x 0, x 1, x 2, eq_ix3 x⟩
  have hr := r.isLt
  have hj := j.isLt
  have hk := k.isLt
  have hz := z.isLt
  have hc := ch.isLt
  have e : View.readAt (Elt Ideal) arg.view (Rect.unit (s := S1x512x128) ![0, ch.val * 128, 0] S1x128x128.size h1).toLoadRect (harg.unread (P k))
      = fun j => P k ((Rect.unit (s := S1x512x128) ![0, ch.val * 128, 0] S1x128x128.size h1).toLoadRect.idx j) :=
    funext fun j => congrFun (harg.read_unread (P k)) _
  rw [e]
  have e2 : (Rect.unit (s := S4x1024x128) ![ch.val, k.val * 128, 0] S1x128x128.size h2).emb (ix3 z r j)
      = ix3 ch ⟨k.val * 128 + r.val, by omega⟩ j := funext fun a => Fin.ext (by
    match a with
    | ⟨0, _⟩ => show ch.val + 1 * z.val = ch.val; omega
    | ⟨1, _⟩ => show k.val * 128 + 1 * r.val = k.val * 128 + r.val; omega
    | ⟨2, _⟩ => show 0 + 1 * j.val = j.val; omega)
  rw [e2]
  have e3 : (Rect.unit (s := S1x512x128) ![0, ch.val * 128, 0] S1x128x128.size h1).toLoadRect.idx (ix3 0 j r)
      = ix3 0 ⟨ch.val * 128 + j.val, by omega⟩ r := funext fun a => Fin.ext (by
    match a with
    | ⟨0, _⟩ => rfl
    | ⟨1, _⟩ => show ch.val * 128 + 1 * j.val = ch.val * 128 + j.val; omega
    | ⟨2, _⟩ => show 0 + 1 * r.val = r.val; omega)
  have e4 : RAW P (ix3 ch ⟨k.val * 128 + r.val, by omega⟩ j) = P k (ix3 0 ⟨ch.val * 128 + j.val, by omega⟩ r) := by
    have a1 : (⟨(k.val * 128 + r.val) / 128, by omega⟩ : Fin 8) = k := Fin.ext (by show (k.val * 128 + r.val) / 128 = k.val; omega)
    have a2 : (⟨(k.val * 128 + r.val) % 128, by omega⟩ : Fin 128) = r := Fin.ext (by show (k.val * 128 + r.val) % 128 = r.val; omega)
    show P ⟨(k.val * 128 + r.val) / 128, _⟩ (ix3 0 _ ⟨(k.val * 128 + r.val) % 128, _⟩) = _
    rw [a1, a2]
    rfl
  rw [e4, ← e3]
  exact turn _ z r j

/-- Position `k / 64` of window `n`, feature `k % 64` of group `g`: keys at `e = 0`, values at `e = 1`; the position's encoding is added. -/
def xval (P : Fin 8 → Vec Ideal S1x512x128 .f32) (x8 : Vec Ideal S2x32x128 .f32) (e : Fin 2) (g : Fin 4) (n : Fin 32) (k : Fin 2048) : EReal :=
  P ⟨n.val / 4, by omega⟩ (ix3 0 ⟨e.val * 256 + g.val * 64 + k.val % 64, by omega⟩ ⟨32 * (n.val % 4) + k.val / 64, by omega⟩)
    + x8 (ix3 e ⟨k.val / 64, by omega⟩ ⟨g.val % 2 * 64 + k.val % 64, by omega⟩)

/-- A load of one of the first product's weights. -/
theorem w1_apply (arg : Memref sig .tc .vmem S2x2048x256 .bf16) (harg : arg.IsWhole) (x : Vec Ideal S2x2048x256 .bf16) (e : Fin 2) (k : Fin 2048) (f : Fin 256)
    (h : ∀ a, (![e.val, 0, 0] : Fin 3 → Nat) a + S1x2048x256.size a ≤ S2x2048x256.size a) :
    View.readAt (Elt Ideal) arg.view (Rect.unit (s := S2x2048x256) ![e.val, 0, 0] S1x2048x256.size h).toLoadRect (harg.unread x) (ix3 0 k f) = x (ix3 e k f) := by
  refine (congrFun (harg.read_unread x) _).trans (congrArg x (funext fun b => Fin.ext ?_))
  match b with
  | ⟨0, _⟩ => rfl
  | ⟨1, _⟩ => show 0 + 1 * k.val = k.val; omega
  | ⟨2, _⟩ => show 0 + 1 * f.val = f.val; omega

/-- A load of one of the second product's weights. -/
theorem w2_apply (arg : Memref sig .tc .vmem S2x256x64 .bf16) (harg : arg.IsWhole) (x : Vec Ideal S2x256x64 .bf16) (e : Fin 2) (k : Fin 256) (f : Fin 64)
    (h : ∀ a, (![e.val, 0, 0] : Fin 3 → Nat) a + S1x256x64.size a ≤ S2x256x64.size a) :
    View.readAt (Elt Ideal) arg.view (Rect.unit (s := S2x256x64) ![e.val, 0, 0] S1x256x64.size h).toLoadRect (harg.unread x) (ix3 0 k f) = x (ix3 e k f) := by
  refine (congrFun (harg.read_unread x) _).trans (congrArg x (funext fun b => Fin.ext ?_))
  match b with
  | ⟨0, _⟩ => rfl
  | ⟨1, _⟩ => show 0 + 1 * k.val = k.val; omega
  | ⟨2, _⟩ => show 0 + 1 * f.val = f.val; omega

variable (c : Dev nD) (i : grid0.Coords) (arg2 : Memref sig .tc .vmem S1x512x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S2x32x128 .f32) (harg10 : arg10.IsWhole) (arg11 : Memref sig .tc .vmem S2x2048x256 .bf16) (harg11 : arg11.IsWhole) (arg12 : Memref sig .tc .vmem S2x256x64 .bf16) (harg12 : arg12.IsWhole) (arg13 : Memref sig .tc .vmem S1x64 .f32) (harg13 : arg13.IsWhole) (arg14 : Memref sig .tc .vmem S4x32x64 .f32) (harg14 : arg14.IsWhole) (arg15 : Memref sig .tc .vmem S4x32x64 .f32) (harg15 : arg15.IsWhole) (arg16 : Memref sig .tc .vmem S4x1024x128 .f32) (harg16 : arg16.IsWhole)
    (x0 : Vec Ideal S1x512x128 .f32) (x1 : Vec Ideal S1x512x128 .f32) (x2 : Vec Ideal S1x512x128 .f32) (x3 : Vec Ideal S1x512x128 .f32) (x4 : Vec Ideal S1x512x128 .f32) (x5 : Vec Ideal S1x512x128 .f32) (x6 : Vec Ideal S1x512x128 .f32) (x7 : Vec Ideal S1x512x128 .f32) (x8 : Vec Ideal S2x32x128 .f32) (x9 : Vec Ideal S2x2048x256 .bf16) (x10 : Vec Ideal S2x256x64 .bf16) (x11 : Vec Ideal S1x64 .f32) (xt0 : TbBuf0 (F := Ideal) c tbM0_0)

set_option maxHeartbeats 4000000 in
/-- What the scratch array holds once the eight pages are stored. -/
theorem canon_raw (y : S4x1024x128.Idx) : View.canon (kernelRun0_A.sl.HS0_32 (F := Ideal) c arg2 harg2 arg3 harg3 arg4 harg4 arg5 harg5 arg6 harg6 arg7 harg7 arg8 harg8 arg9 harg9 x0 x1 x2 x3 x4 x5 x6 x7) y = RAW (![x0, x1, x2, x3, x4, x5, x6, x7] : Fin 8 → Vec Ideal S1x512x128 .f32) y := by
  generalize hP : (![x0, x1, x2, x3, x4, x5, x6, x7] : Fin 8 → Vec Ideal S1x512x128 .f32) = P
  refine View.canon_apply_of_pieces (Val := Elt Ideal) (e := .f32) (RAW P) _ ?_ y ?_
  · subst hP
    unfold kernelRun0_A.sl.HS0_32
    simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
    · exact fun x => piece (![x0, x1, x2, x3, x4, x5, x6, x7] : Fin 8 → Vec Ideal S1x512x128 .f32) arg9 harg9 7 3 _ _ x
    · exact fun x => piece (![x0, x1, x2, x3, x4, x5, x6, x7] : Fin 8 → Vec Ideal S1x512x128 .f32) arg9 harg9 7 2 _ _ x
    · exact fun x => piece (![x0, x1, x2, x3, x4, x5, x6, x7] : Fin 8 → Vec Ideal S1x512x128 .f32) arg9 harg9 7 1 _ _ x
    · exact fun x => piece (![x0, x1, x2, x3, x4, x5, x6, x7] : Fin 8 → Vec Ideal S1x512x128 .f32) arg9 harg9 7 0 _ _ x
    · exact fun x => piece (![x0, x1, x2, x3, x4, x5, x6, x7] : Fin 8 → Vec Ideal S1x512x128 .f32) arg8 harg8 6 3 _ _ x
    · exact fun x => piece (![x0, x1, x2, x3, x4, x5, x6, x7] : Fin 8 → Vec Ideal S1x512x128 .f32) arg8 harg8 6 2 _ _ x
    · exact fun x => piece (![x0, x1, x2, x3, x4, x5, x6, x7] : Fin 8 → Vec Ideal S1x512x128 .f32) arg8 harg8 6 1 _ _ x
    · exact fun x => piece (![x0, x1, x2, x3, x4, x5, x6, x7] : Fin 8 → Vec Ideal S1x512x128 .f32) arg8 harg8 6 0 _ _ x
    · exact fun x => piece (![x0, x1, x2, x3, x4, x5, x6, x7] : Fin 8 → Vec Ideal S1x512x128 .f32) arg7 harg7 5 3 _ _ x
    · exact fun x => piece (![x0, x1, x2, x3, x4, x5, x6, x7] : Fin 8 → Vec Ideal S1x512x128 .f32) arg7 harg7 5 2 _ _ x
    · exact fun x => piece (![x0, x1, x2, x3, x4, x5, x6, x7] : Fin 8 → Vec Ideal S1x512x128 .f32) arg7 harg7 5 1 _ _ x
    · exact fun x => piece (![x0, x1, x2, x3, x4, x5, x6, x7] : Fin 8 → Vec Ideal S1x512x128 .f32) arg7 harg7 5 0 _ _ x
    · exact fun x => piece (![x0, x1, x2, x3, x4, x5, x6, x7] : Fin 8 → Vec Ideal S1x512x128 .f32) arg6 harg6 4 3 _ _ x
    · exact fun x => piece (![x0, x1, x2, x3, x4, x5, x6, x7] : Fin 8 → Vec Ideal S1x512x128 .f32) arg6 harg6 4 2 _ _ x
    · exact fun x => piece (![x0, x1, x2, x3, x4, x5, x6, x7] : Fin 8 → Vec Ideal S1x512x128 .f32) arg6 harg6 4 1 _ _ x
    · exact fun x => piece (![x0, x1, x2, x3, x4, x5, x6, x7] : Fin 8 → Vec Ideal S1x512x128 .f32) arg6 harg6 4 0 _ _ x
    · exact fun x => piece (![x0, x1, x2, x3, x4, x5, x6, x7] : Fin 8 → Vec Ideal S1x512x128 .f32) arg5 harg5 3 3 _ _ x
    · exact fun x => piece (![x0, x1, x2, x3, x4, x5, x6, x7] : Fin 8 → Vec Ideal S1x512x128 .f32) arg5 harg5 3 2 _ _ x
    · exact fun x => piece (![x0, x1, x2, x3, x4, x5, x6, x7] : Fin 8 → Vec Ideal S1x512x128 .f32) arg5 harg5 3 1 _ _ x
    · exact fun x => piece (![x0, x1, x2, x3, x4, x5, x6, x7] : Fin 8 → Vec Ideal S1x512x128 .f32) arg5 harg5 3 0 _ _ x
    · exact fun x => piece (![x0, x1, x2, x3, x4, x5, x6, x7] : Fin 8 → Vec Ideal S1x512x128 .f32) arg4 harg4 2 3 _ _ x
    · exact fun x => piece (![x0, x1, x2, x3, x4, x5, x6, x7] : Fin 8 → Vec Ideal S1x512x128 .f32) arg4 harg4 2 2 _ _ x
    · exact fun x => piece (![x0, x1, x2, x3, x4, x5, x6, x7] : Fin 8 → Vec Ideal S1x512x128 .f32) arg4 harg4 2 1 _ _ x
    · exact fun x => piece (![x0, x1, x2, x3, x4, x5, x6, x7] : Fin 8 → Vec Ideal S1x512x128 .f32) arg4 harg4 2 0 _ _ x
    · exact fun x => piece (![x0, x1, x2, x3, x4, x5, x6, x7] : Fin 8 → Vec Ideal S1x512x128 .f32) arg3 harg3 1 3 _ _ x
    · exact fun x => piece (![x0, x1, x2, x3, x4, x5, x6, x7] : Fin 8 → Vec Ideal S1x512x128 .f32) arg3 harg3 1 2 _ _ x
    · exact fun x => piece (![x0, x1, x2, x3, x4, x5, x6, x7] : Fin 8 → Vec Ideal S1x512x128 .f32) arg3 harg3 1 1 _ _ x
    · exact fun x => piece (![x0, x1, x2, x3, x4, x5, x6, x7] : Fin 8 → Vec Ideal S1x512x128 .f32) arg3 harg3 1 0 _ _ x
    · exact fun x => piece (![x0, x1, x2, x3, x4, x5, x6, x7] : Fin 8 → Vec Ideal S1x512x128 .f32) arg2 harg2 0 3 _ _ x
    · exact fun x => piece (![x0, x1, x2, x3, x4, x5, x6, x7] : Fin 8 → Vec Ideal S1x512x128 .f32) arg2 harg2 0 2 _ _ x
    · exact fun x => piece (![x0, x1, x2, x3, x4, x5, x6, x7] : Fin 8 → Vec Ideal S1x512x128 .f32) arg2 harg2 0 1 _ _ x
    · exact fun x => piece (![x0, x1, x2, x3, x4, x5, x6, x7] : Fin 8 → Vec Ideal S1x512x128 .f32) arg2 harg2 0 0 _ _ x
  · exact View.cover_of_tiledL (kernelRun0_A.sl.HS0_32 (F := Ideal) c arg2 harg2 arg3 harg3 arg4 harg4 arg5 harg5 arg6 harg6 arg7 harg7 arg8 harg8 arg9 harg9 x0 x1 x2 x3 x4 x5 x6 x7) S1x128x128.size (by sl_kernel_rfl) y

set_option maxHeartbeats 4000000 in
/-- A load of the scratch array, at a window and a lane. -/
theorem LDk_apply (s : Fin 4) (l n : Fin 32) (a : Fin 128) :
    LDk c arg2 harg2 arg3 harg3 arg4 harg4 arg5 harg5 arg6 harg6 arg7 harg7 arg8 harg8 arg9 harg9 arg16 x0 x1 x2 x3 x4 x5 x6 x7 s l (ix3 0 n a) = RAW (![x0, x1, x2, x3, x4, x5, x6, x7] : Fin 8 → Vec Ideal S1x512x128 .f32) (ix3 s ⟨l.val + 32 * n.val, by omega⟩ a) := by
  have hl := l.isLt
  have hn := n.isLt
  unfold LDk
  rw [View.readCov_eq_canon']
  dsimp only
  rw [canon_raw]
  refine congrArg (RAW _) (funext fun b => Fin.ext ?_)
  match b with
  | ⟨0, _⟩ => rfl
  | ⟨1, _⟩ => rfl
  | ⟨2, _⟩ => show 0 + 1 * a.val = a.val; omega

/-- A load of a position row, at a lane. -/
theorem PEk_apply (e : Fin 2) (l : Fin 32) (a : Fin 128) : PEk arg10 harg10 x8 e l (ix3 0 0 a) = x8 (ix3 e l a) := by
  unfold PEk
  refine (congrFun (harg10.read_unread x8) _).trans (congrArg x8 (funext fun b => Fin.ext ?_))
  match b with
  | ⟨0, _⟩ => rfl
  | ⟨1, _⟩ => rfl
  | ⟨2, _⟩ => show 0 + 1 * a.val = a.val; omega

/-- The products' left factor, over the eight pages. -/
theorem x_apply (e : Fin 2) (s0 s1 : Fin 4) (h0 : s0.val = 2 * e.val) (h1 : s1.val = 2 * e.val + 1) (g : Fin 4) (n : Fin 32) (k : Fin 2048) :
    xm (LDk c arg2 harg2 arg3 harg3 arg4 harg4 arg5 harg5 arg6 harg6 arg7 harg7 arg8 harg8 arg9 harg9 arg16 x0 x1 x2 x3 x4 x5 x6 x7) (PEk arg10 harg10 x8) e s0 s1 (ix2 ⟨g.val * 32 + n.val, by omega⟩ k) = xval (![x0, x1, x2, x3, x4, x5, x6, x7] : Fin 8 → Vec Ideal S1x512x128 .f32) x8 e g n k := by
  have he := e.isLt
  have hg := g.isLt
  have hn := n.isLt
  have hk := k.isLt
  rw [xm_apply, pt_apply, LDk_apply, PEk_apply]
  unfold xval RAW
  have es : ((if g.val * 32 + n.val < 64 then s0 else s1 : Fin 4)).val = 2 * e.val + g.val / 2 := by
    by_cases h : g.val * 32 + n.val < 64
    · rw [if_pos h, h0]; omega
    · rw [if_neg h, h1]; omega
  congr 1
  · refine congr (congrArg (![x0, x1, x2, x3, x4, x5, x6, x7] : Fin 8 → Vec Ideal S1x512x128 .f32) (Fin.ext ?_)) (congr (congr (congrArg ix3 rfl) (Fin.ext ?_)) (Fin.ext ?_))
    · show (k.val / 64 + 32 * ((g.val * 32 + n.val) % 32)) / 128 = n.val / 4
      omega
    · show (if g.val * 32 + n.val < 64 then s0 else s1 : Fin 4).val * 128 + ((g.val * 32 + n.val) / 32 % 2 * 64 + k.val % 64) = e.val * 256 + g.val * 64 + k.val % 64
      rw [es]
      omega
    · show (k.val / 64 + 32 * ((g.val * 32 + n.val) % 32)) % 128 = 32 * (n.val % 4) + k.val / 64
      omega
  · refine congrArg x8 (congr (congr (congrArg ix3 rfl) rfl) (Fin.ext ?_))
    show (g.val * 32 + n.val) / 32 % 2 * 64 + k.val % 64 = g.val % 2 * 64 + k.val % 64
    omega

/-- The four groups of a result, stored one after another, read back. -/
theorem canon4 (O : FVec Ideal S128x64 .f32) (h3 : ∀ a, (![3, 0, 0] : Fin 3 → Nat) a + S1x32x64.size a ≤ S4x32x64.size a)
    (h2 : ∀ a, (![2, 0, 0] : Fin 3 → Nat) a + S1x32x64.size a ≤ S4x32x64.size a) (h1 : ∀ a, (![1, 0, 0] : Fin 3 → Nat) a + S1x32x64.size a ≤ S4x32x64.size a)
    (h0 : ∀ a, (![0, 0, 0] : Fin 3 → Nat) a + S1x32x64.size a ≤ S4x32x64.size a)
    (c0 : S128x64.Slices ![0, 0] S32x64) (c1 : S128x64.Slices ![32, 0] S32x64) (c2 : S128x64.Slices ![64, 0] S32x64) (c3 : S128x64.Slices ![96, 0] S32x64) (y : S4x32x64.Idx) :
    View.canon (Val := Elt Ideal) (e := .f32) [⟨Rect.unit (s := S4x32x64) ![3, 0, 0] S1x32x64.size h3, shapeCast S1x32x64 (extractStridedSlice S32x64 ![96, 0] O c3) shapeCasts_S32x64_S1x32x64⟩,
      ⟨Rect.unit (s := S4x32x64) ![2, 0, 0] S1x32x64.size h2, shapeCast S1x32x64 (extractStridedSlice S32x64 ![64, 0] O c2) shapeCasts_S32x64_S1x32x64⟩,
      ⟨Rect.unit (s := S4x32x64) ![1, 0, 0] S1x32x64.size h1, shapeCast S1x32x64 (extractStridedSlice S32x64 ![32, 0] O c1) shapeCasts_S32x64_S1x32x64⟩,
      ⟨Rect.unit (s := S4x32x64) ![0, 0, 0] S1x32x64.size h0, shapeCast S1x32x64 (extractStridedSlice S32x64 ![0, 0] O c0) shapeCasts_S32x64_S1x32x64⟩] y
      = O (ix2 ⟨(y 0).val * 32 + (y 1).val, by have a0 : (y 0).val < 4 := (y 0).isLt; have a1 : (y 1).val < 32 := (y 1).isLt; omega⟩ ⟨(y 2).val, (y 2).isLt⟩) := by
  refine View.canon_apply_of_pieces (Val := Elt Ideal) (e := .f32) (fun y : S4x32x64.Idx => O (ix2 ⟨(y 0).val * 32 + (y 1).val, by have a0 : (y 0).val < 4 := (y 0).isLt; have a1 : (y 1).val < 32 := (y 1).isLt; omega⟩ ⟨(y 2).val, (y 2).isLt⟩)) _ ?_ y ?_
  · have step (k : Fin 4) (hk : ∀ a, (![k.val, 0, 0] : Fin 3 → Nat) a + S1x32x64.size a ≤ S4x32x64.size a) (ck : S128x64.Slices ![k.val * 32, 0] S32x64) (x : S1x32x64.Idx) :
        shapeCast S1x32x64 (extractStridedSlice S32x64 ![k.val * 32, 0] O ck) shapeCasts_S32x64_S1x32x64 x
          = (fun y : S4x32x64.Idx => O (ix2 ⟨(y 0).val * 32 + (y 1).val, by have a0 : (y 0).val < 4 := (y 0).isLt; have a1 : (y 1).val < 32 := (y 1).isLt; omega⟩ ⟨(y 2).val, (y 2).isLt⟩))
              ((Rect.unit (s := S4x32x64) ![k.val, 0, 0] S1x32x64.size hk).emb x) := by
      obtain ⟨z, n, d, rfl⟩ : ∃ (z : Fin 1) (n : Fin 32) (d : Fin 64), x = ix3 z n d := ⟨x 0, x 1, x 2, eq_ix3 x⟩
      have hz := z.isLt
      have hn := n.isLt
      have hkk := k.isLt
      pointwise
      refine congrArg O (congr (congrArg ix2 (Fin.ext ?_)) (Fin.ext ?_))
      · show k.val * 32 + n.val = (k.val + 1 * z.val) * 32 + (0 + 1 * n.val)
        omega
      · show d.val = 0 + 1 * d.val
        omega
    simp only [List.forall_mem_cons]
    exact ⟨fun x => step 3 h3 c3 x, fun x => step 2 h2 c2 x, fun x => step 1 h1 c1 x, fun x => step 0 h0 c0 x, fun _ h => absurd h List.not_mem_nil⟩
  · refine View.cover_of_tiledL (s := S4x32x64) _ S1x32x64.size ?_ y
    sl_kernel_rfl

set_option maxHeartbeats 4000000 in
/-- The values' block after a grid step. -/
theorem out13_apply (y : S4x32x64.Idx) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 xt0 y
      = Spec.cmpRow (xval (![x0, x1, x2, x3, x4, x5, x6, x7] : Fin 8 → Vec Ideal S1x512x128 .f32) x8 1 ⟨(y 0).val, (y 0).isLt⟩ ⟨(y 1).val, (y 1).isLt⟩) (fun k f => x9 (ix3 1 k f)) (fun f d => x10 (ix3 1 f d)) ⟨(y 2).val, (y 2).isLt⟩ := by
  unfold out0_A_13
  dsimp only [kernelRun0_A]
  rw [View.read_writes_junk_eq_canon]
  refine (canon4 (outm (kernelRun0_A.sl.r_159 c arg2 harg2 arg3 harg3 arg4 harg4 arg5 harg5 arg6 harg6 arg7 harg7 arg8 harg8 arg9 harg9 arg10 harg10 arg11 harg11 arg16 x0 x1 x2 x3 x4 x5 x6 x7 x8 x9) (View.readAt (Elt Ideal) arg12.view (Rect.unit (s := S2x256x64) ![1, 0, 0] S1x256x64.size inb_S2x256x64_S1x256x64_1_0_0).toLoadRect (harg12.unread x10)))
    _ _ _ _ slices_S128x64_o0_0_S32x64 slices_S128x64_o32_0_S32x64 slices_S128x64_o64_0_S32x64 slices_S128x64_o96_0_S32x64 y).trans ?_
  rw [outm_apply, r159_eq]
  refine Finset.sum_congr rfl fun f _ => ?_
  rw [hid_apply]
  refine congr (congrArg HMul.hMul (congrArg Spec.gelu (Finset.sum_congr rfl fun k _ => ?_))) ?_
  · exact congr (congrArg HMul.hMul (x_apply c arg2 harg2 arg3 harg3 arg4 harg4 arg5 harg5 arg6 harg6 arg7 harg7 arg8 harg8 arg9 harg9 arg10 harg10 arg16 x0 x1 x2 x3 x4 x5 x6 x7 x8 1 2 3 rfl rfl _ _ k)) (w1_apply arg11 harg11 x9 1 k f _)
  · exact w2_apply arg12 harg12 x10 1 f _ _

set_option maxHeartbeats 4000000 in
/-- The keys' block after a grid step. -/
theorem out12_apply (y : S4x32x64.Idx) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 xt0 y
      = Spec.rmsHead (Spec.cmpRow (xval (![x0, x1, x2, x3, x4, x5, x6, x7] : Fin 8 → Vec Ideal S1x512x128 .f32) x8 0 ⟨(y 0).val, (y 0).isLt⟩ ⟨(y 1).val, (y 1).isLt⟩) (fun k f => x9 (ix3 0 k f)) (fun f d => x10 (ix3 0 f d)))
          (fun d => x11 (ix2 0 d)) ⟨(y 2).val, (y 2).isLt⟩ := by
  unfold out0_A_12
  dsimp only [kernelRun0_A]
  rw [View.read_writes_junk_eq_canon]
  refine (canon4 (kernelRun0_A.sl.r_95 c arg2 harg2 arg3 harg3 arg4 harg4 arg5 harg5 arg6 harg6 arg7 harg7 arg8 harg8 arg9 harg9 arg10 harg10 arg11 harg11 arg12 harg12 arg13 harg13 arg16 x0 x1 x2 x3 x4 x5 x6 x7 x8 x9 x10 x11)
    _ _ _ _ slices_S128x64_o0_0_S32x64 slices_S128x64_o32_0_S32x64 slices_S128x64_o64_0_S32x64 slices_S128x64_o96_0_S32x64 y).trans ?_
  rw [r95_eq, nrm_apply]
  refine Spec.rmsHead_congr (fun d => ?_) (fun d => ?_) _
  · rw [outm_apply]
    refine Finset.sum_congr rfl fun f _ => ?_
    rw [hid_apply]
    refine congr (congrArg HMul.hMul (congrArg Spec.gelu (Finset.sum_congr rfl fun k _ => ?_))) ?_
    · exact congr (congrArg HMul.hMul (x_apply c arg2 harg2 arg3 harg3 arg4 harg4 arg5 harg5 arg6 harg6 arg7 harg7 arg8 harg8 arg9 harg9 arg10 harg10 arg16 x0 x1 x2 x3 x4 x5 x6 x7 x8 0 0 1 rfl rfl _ _ k)) (w1_apply arg11 harg11 x9 0 k f _)
    · exact w2_apply arg12 harg12 x10 0 f d _
  · refine (congrFun (harg13.read_unread x11) _).trans (congrArg x11 (funext fun b => Fin.ext ?_))
    match b with
    | ⟨0, _⟩ => rfl
    | ⟨1, _⟩ => show 0 + 1 * d.val = d.val; omega

end Cert.CompIdeal.Val

end
-- ==== Proof.CompRef.lean ====
module

public import proofs.«01_k».proof.Proof.CompRefX

/-! The compression's reference, read at an entry of each of its two results. -/

@[expose] public section

set_option maxRecDepth 16384

noncomputable section

namespace Cert.CompRefIdeal.Val

open Cert.CompRefIdeal Cert.CompRefIdeal.Gen Cert.CompRefIdeal.Read Idealize.ShloMosaic Idealize.ShloMosaic.TcCoe Idealize.SL.Sem

variable (x0 : FVec Ideal S2560x128x4x4x64 .f32) (x1 : IVec S32x64 32) (x2 : FVec Ideal S3x64 .f32) (x3 : FVec Ideal S2x32x64 .f32)
  (x4 : FVec Ideal S2x32x64x256 .f32) (x5 : FVec Ideal S2x256x64 .f32)

/-- The compressed row of window `w` of sequence `b`, head `g`, of the keys (`e = 0`) or the values (`e = 1`). -/
def row (e : Fin 2) (g : Fin 4) (b : Fin 32) (w : Fin 256) : Fin 64 → EReal :=
  Spec.cmpRow (Spec.win (fun p q c g d => x0 (ix5 p q c g d)) x1 (fun e l d => x3 (ix3 e l d)) e g b w)
    (fun k f => x4 (ix4 e ⟨k.val / 64, by omega⟩ ⟨k.val % 64, by omega⟩ f)) (fun f d => x5 (ix3 e f d))

/-- The gelu of the first product. -/
theorem v31_apply (h : ∀ b j, (x1 (ix2 b j)).toNat < 2560) (b : Fin 32) (w : Fin 256) (e : Fin 2) (g : Fin 4) (f : Fin 256) :
    val_main_v31 (F := Ideal) x0 x1 x3 x4 (ix5 b w e g f)
      = Spec.gelu (∑ k : Fin 2048, Spec.win (fun p q c g d => x0 (ix5 p q c g d)) x1 (fun e l d => x3 (ix3 e l d)) e g b w k
          * x4 (ix4 e ⟨k.val / 64, by omega⟩ ⟨k.val % 64, by omega⟩ f)) := by
  have ei : idx_main_v18 (ix5 b w e g f) = ix5 e f b w g := eq_ix5 _
  rw [val_main_v31_apply, val_main_v30_apply, val_main_v29_apply, val_main_v28_apply, val_main_v27_apply, val_main_v26_apply,
    val_main_v25_apply, val_main_v24_apply, val_main_v23_apply, val_main_v22_apply, val_main_v21_apply, val_main_v20_apply,
    val_main_v19_apply, val_main_v18_apply, ei, v17_apply x0 x1 x3 x4 h]
  generalize (∑ k : Fin 2048, _ : EReal) = s
  show s * (Ideal.ofBits FTy.f32 1056964608#32 * (Ideal.ofBits FTy.f32 1065353216#32 + Ideal.tanh (Ideal.ofBits FTy.f32 1061962282#32
    * (s + Ideal.ofBits FTy.f32 1027024659#32 * ((s * s) * s))))) = _
  rw [mul_comm (s * s) s, Ideal.ofBits_one_f32]
  rfl

/-- The second product: the compressed row. -/
theorem v33_apply (h : ∀ b j, (x1 (ix2 b j)).toNat < 2560) (b : Fin 32) (w : Fin 256) (e : Fin 2) (g : Fin 4) (d : Fin 64) :
    val_main_v33 (F := Ideal) x0 x1 x3 x4 x5 (ix5 b w e g d) = row x0 x1 x3 x4 x5 e g b w d := by
  have ei : idx_main_v33 (ix5 b w e g d) = ix5 e d b w g := eq_ix5 _
  rw [val_main_v33_apply, ei, val_main_v32_apply]
  unfold row Spec.cmpRow
  refine Finset.sum_congr rfl fun f _ => ?_
  have el : lidx_main_v32 (ix5 e d b w g) f = ix3 e f d := eq_ix3 _
  have er : ridx_main_v32 (ix5 e d b w g) f = ix5 b w e g f := eq_ix5 _
  rw [el, er, v31_apply x0 x1 x3 x4 h, mul_comm]

/-- The keys' rows. -/
theorem v35_apply (h : ∀ b j, (x1 (ix2 b j)).toNat < 2560) (b : Fin 32) (w : Fin 256) (g : Fin 4) (d : Fin 64) :
    val_main_v35 (F := Ideal) x0 x1 x3 x4 x5 (ix4 b w g d) = row x0 x1 x3 x4 x5 0 g b w d := by
  rw [← v33_apply x0 x1 x3 x4 x5 h]
  unfold val_main_v35 val_main_v34
  generalize val_main_v33 (F := Ideal) x0 x1 x3 x4 x5 = y
  pointwise

/-- The values' rows. -/
theorem v50_apply (h : ∀ b j, (x1 (ix2 b j)).toNat < 2560) (b : Fin 32) (w : Fin 256) (g : Fin 4) (d : Fin 64) :
    val_main_v50 (F := Ideal) x0 x1 x3 x4 x5 (ix4 b w g d) = row x0 x1 x3 x4 x5 1 g b w d := by
  rw [← v33_apply x0 x1 x3 x4 x5 h]
  unfold val_main_v50 val_main_v49
  generalize val_main_v33 (F := Ideal) x0 x1 x3 x4 x5 = y
  pointwise

/-- The keys' rows normalised. -/
theorem v48_apply (h : ∀ b j, (x1 (ix2 b j)).toNat < 2560) (b : Fin 32) (w : Fin 256) (g : Fin 4) (d : Fin 64) :
    val_main_v48 (F := Ideal) x0 x1 x2 x3 x4 x5 (ix4 b w g d)
      = Spec.rmsHead (row x0 x1 x3 x4 x5 0 g b w) (fun d => x2 (ix2 0 d)) d := by
  have r := fun d => v35_apply x0 x1 x3 x4 x5 h b w g d
  have e44 : idx_main_v44 (ix4 b w g d) = ix4 b w g (0 : Fin 1) := eq_ix4 _
  have e38 : idx_main_v38 (ix4 b w g (0 : Fin 1)) = ix3 b w g := eq_ix3 _
  have e37 : ∀ k, idx_main_v37 (ix3 b w g) k = ix4 b w g k := fun k => eq_ix4 _
  have eg : idx_main_v8 (idx_main_v9 (idx_main_v46 (idx_main_v47 (ix4 b w g d)))) = ix2 (0 : Fin 3) d := by
    refine (eq_ix2 _).trans (congrArg (ix2 (0 : Fin 3)) (Fin.ext ?_))
    exact Nat.mod_eq_of_lt d.isLt
  rw [val_main_v48_apply, val_main_v47_apply, val_main_v46_apply, val_main_v45_apply, val_main_v44_apply, val_main_v43_apply,
    val_main_v42_apply, val_main_v41_apply, val_main_v40_apply, val_main_v39_apply, e44, val_main_v38_apply, e38, val_main_v37_apply,
    val_main_v9_apply, val_main_v8_apply, eg]
  simp only [e37, val_main_v36_apply, r]
  generalize row x0 x1 x3 x4 x5 0 g b w = s
  have z : (val_main_cst_4 (F := Ideal)) (Shape.Idx.first h_S_) = 0 := Ideal.ofBits_zero_f32
  rw [z, zero_add]
  rfl

/-- The first result: the compressed keys. -/
theorem v52_apply (h : ∀ b j, (x1 (ix2 b j)).toNat < 2560) (g : Fin 4) (W : Fin 8192) (d : Fin 64) :
    val_main_v52 (F := Ideal) x0 x1 x2 x3 x4 x5 (ix3 g W d)
      = Spec.rmsHead (row x0 x1 x3 x4 x5 0 g ⟨W.val / 256, by omega⟩ ⟨W.val % 256, by omega⟩) (fun d => x2 (ix2 0 d)) d := by
  rw [← v48_apply x0 x1 x2 x3 x4 x5 h]
  unfold val_main_v52 val_main_v51
  generalize val_main_v48 (F := Ideal) x0 x1 x2 x3 x4 x5 = y
  pointwise

/-- The second result: the compressed values. -/
theorem v54_apply (h : ∀ b j, (x1 (ix2 b j)).toNat < 2560) (g : Fin 4) (W : Fin 8192) (d : Fin 64) :
    val_main_v54 (F := Ideal) x0 x1 x3 x4 x5 (ix3 g W d)
      = row x0 x1 x3 x4 x5 1 g ⟨W.val / 256, by omega⟩ ⟨W.val % 256, by omega⟩ d := by
  rw [← v50_apply x0 x1 x3 x4 x5 h]
  unfold val_main_v54 val_main_v53
  generalize val_main_v50 (F := Ideal) x0 x1 x3 x4 x5 = y
  pointwise

end Cert.CompRefIdeal.Val

end
-- ==== Proof.CompValue.lean ====
module

public import proofs.«01_k».proof.Proof.CompBlk
public import proofs.«01_k».proof.Proof.CompOut
public import proofs.«01_k».proof.Proof.CompRef

/-! The compression: what the call's two result arrays hold when the program ends, against the reference. -/

@[expose] public section

set_option maxRecDepth 16384

noncomputable section

namespace Cert.CompIdeal.Val

open Cert.CompIdeal Cert.CompIdeal.Gen Idealize.ShloMosaic Idealize.ShloMosaic.TcCoe Idealize.SL.Sem
open Idealize.ShloMosaic.Pipeline (Dat)

variable (m : (ℓ : Loc nD τ sig) → Buf (Elt Ideal) ℓ)

/-- The page numbers of the table are pages of the cache. -/
def InRange (c : Dev nD) : Prop := ∀ b j, ((m ((c : Thread nD τ).loc main_arg1) : IVec S32x64 32) (ix2 b j)).toNat < 2560

variable (hO : Ok m) (c : Dev nD) (t : Fin (cfgM m hO).N)

/-- The eight page windows of step `t`. -/
def pages : Fin 8 → Vec Ideal S1x512x128 .f32 := ![(iblk m hO c 0 t : Vec Ideal S1x512x128 .f32), (iblk m hO c 1 t : Vec Ideal S1x512x128 .f32), (iblk m hO c 2 t : Vec Ideal S1x512x128 .f32), (iblk m hO c 3 t : Vec Ideal S1x512x128 .f32), (iblk m hO c 4 t : Vec Ideal S1x512x128 .f32), (iblk m hO c 5 t : Vec Ideal S1x512x128 .f32), (iblk m hO c 6 t : Vec Ideal S1x512x128 .f32), (iblk m hO c 7 t : Vec Ideal S1x512x128 .f32)]

/-- Page window `j` holds the page the table names, features along the rows. -/
theorem pages_apply (h : InRange m c) (j : Fin 8) (q : Fin 512) (r : Fin 128) : pages m hO c t j (ix3 0 q r) = m ((c : Thread nD τ).loc main_arg0)
      (ix5 (Spec.pg (m ((c : Thread nD τ).loc main_arg1)) ⟨t.val / 8, by have : t.val < 256 := t.isLt; omega⟩ ⟨t.val % 8 * 8 + j.val, by omega⟩) r
        ⟨q.val / 256, by omega⟩ ⟨q.val % 256 / 64, by omega⟩ ⟨q.val % 64, by omega⟩) := by
  match j with
  | ⟨0, _⟩ => exact blk0 m hO c t h q r
  | ⟨1, _⟩ => exact blk1 m hO c t h q r
  | ⟨2, _⟩ => exact blk2 m hO c t h q r
  | ⟨3, _⟩ => exact blk3 m hO c t h q r
  | ⟨4, _⟩ => exact blk4 m hO c t h q r
  | ⟨5, _⟩ => exact blk5 m hO c t h q r
  | ⟨6, _⟩ => exact blk6 m hO c t h q r
  | ⟨7, _⟩ => exact blk7 m hO c t h q r

/-- Equal coordinates read the same cached number. -/
theorem read_congr (A : FVec Ideal S2560x128x4x4x64 .f32) (T : IVec S32x64 32) {b b' : Fin 32} {j j' : Fin 64} {p p' : Fin 128} {q q' g g' : Fin 4}
    {d d' : Fin 64} (hb : b.val = b'.val) (hj : j.val = j'.val) (hp : p.val = p'.val) (hq : q.val = q'.val) (hg : g.val = g'.val) (hd : d.val = d'.val) :
    A (ix5 (Spec.pg T b j) p q g d) = A (ix5 (Spec.pg T b' j') p' q' g' d') := by
  obtain rfl := Fin.ext hb
  obtain rfl := Fin.ext hj
  obtain rfl := Fin.ext hp
  obtain rfl := Fin.ext hq
  obtain rfl := Fin.ext hg
  obtain rfl := Fin.ext hd
  rfl

/-- Equal coordinates read the same embedding. -/
theorem pe_congr (A : FVec Ideal S2x32x64 .f32) (e : Fin 2) (l : Fin 32) {d d' : Fin 64} (hd : d.val = d'.val) : A (ix3 e l d) = A (ix3 e l d') := by
  obtain rfl := Fin.ext hd
  rfl

/-- Row `n` of step `t`, head `g`, is the window `32 t + n` of the reference. -/
theorem x_win (h : InRange m c) (e : Fin 2) (g : Fin 4) (n : Fin 32) (k : Fin 2048) :
    xval (pages m hO c t) (iblk m hO c 8 t) e g n k
      = Spec.win (fun p q c' g d => (m ((c : Thread nD τ).loc main_arg0) : FVec Ideal S2560x128x4x4x64 .f32) (ix5 p q c' g d)) (m ((c : Thread nD τ).loc main_arg1))
          (fun e l d => (m ((c : Thread nD τ).loc main_arg3) : FVec Ideal S2x32x64 .f32) (ix3 e l d)) e g
          ⟨(32 * t.val + n.val) / 256, by have : t.val < 256 := t.isLt; omega⟩ ⟨(32 * t.val + n.val) % 256, by omega⟩ k := by
  have ht : t.val < 256 := t.isLt
  have he := e.isLt
  have hg := g.isLt
  have hn := n.isLt
  have hk := k.isLt
  unfold xval Spec.win
  refine congr (congrArg HAdd.hAdd ?_) ?_
  · refine (pages_apply m hO c t h _ _ _).trans (read_congr _ _ ?_ ?_ ?_ ?_ ?_ ?_) <;> dsimp only <;> omega
  · refine (blk8 m hO c t e _ _).trans (pe_congr _ _ _ ?_)
    dsimp only
    omega

/-- A compressed row of step `t` is the reference's. -/
theorem row_eq (h : InRange m c) (e : Fin 2) (g : Fin 4) (n : Fin 32) (d : Fin 64) :
    Spec.cmpRow (xval (pages m hO c t) (iblk m hO c 8 t) e g n) (fun k f => (iblk m hO c 9 t : Vec Ideal S2x2048x256 .bf16) (ix3 e k f))
        (fun f d => (iblk m hO c 10 t : Vec Ideal S2x256x64 .bf16) (ix3 e f d)) d
      = Cert.CompRefIdeal.Val.row (m ((c : Thread nD τ).loc main_arg0)) (m ((c : Thread nD τ).loc main_arg1)) (m ((c : Thread nD τ).loc main_arg3)) (m ((c : Thread nD τ).loc main_arg4)) (m ((c : Thread nD τ).loc main_arg5)) e g
          ⟨(32 * t.val + n.val) / 256, by have : t.val < 256 := t.isLt; omega⟩ ⟨(32 * t.val + n.val) % 256, by omega⟩ d :=
  Spec.cmpRow_congr (x_win m hO c t h e g n) (fun k f => blk9 m hO c t e k f) (fun f d => blk10 m hO c t e f d) d

/-- Where block `t` of result window 12 sits in its array. -/
theorem emb12 (y : S4x32x64.Idx) : ((((cfgM m hO).win 12).blk t).view.emb y : S4x8192x64.Idx)
    = ix3 ⟨(y 0).val, (y 0).isLt⟩ ⟨32 * t.val + (y 1).val, by have h0 : t.val < 256 := t.isLt; have h1 : (y 1).val < 32 := (y 1).isLt; omega⟩ ⟨(y 2).val, (y 2).isLt⟩ := by
  have ht : (BitVec.ofNat 32 (grid0.coords t 0).val).toNat = t.val := by
    have h0 : t.val < 256 := t.isLt
    rw [coord, BitVec.toNat_ofNat]
    omega
  funext (a : Fin 3)
  refine Fin.ext ?_
  match a with
  | ⟨0, _⟩ => show 0 * 4 + 1 * (y 0).val = (y 0).val; omega
  | ⟨1, _⟩ => show (BitVec.ofNat 32 (grid0.coords t 0).val).toNat * 32 + 1 * (y 1).val = 32 * t.val + (y 1).val; rw [ht]; omega
  | ⟨2, _⟩ => show 0 * 64 + 1 * (y 2).val = (y 2).val; omega

/-- An index at such a place is in the block. -/
theorem mem12 (y : S4x32x64.Idx) (i : S4x8192x64.Idx)
    (hi : i = ix3 ⟨(y 0).val, (y 0).isLt⟩ ⟨32 * t.val + (y 1).val, by have h0 : t.val < 256 := t.isLt; have h1 : (y 1).val < 32 := (y 1).isLt; omega⟩ ⟨(y 2).val, (y 2).isLt⟩) :
    i ∈ (((cfgM m hO).win 12).blk t).view.set := by
  have e := (emb12 m hO t y).trans hi.symm
  exact e ▸ View.emb_mem_set _ y

/-- What step `t` leaves in result window 12 is the reference's block. -/
theorem step12 (h : InRange m c) (y : S4x32x64.Idx) : (dats m hO 0 c).after 12 t y
    = Cert.CompRefIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (ix3 ⟨(y 0).val, (y 0).isLt⟩ ⟨32 * t.val + (y 1).val, by have h0 : t.val < 256 := t.isLt; have h1 : (y 1).val < 32 := (y 1).isLt; omega⟩ ⟨(y 2).val, (y 2).isLt⟩) := by
  rw [after0_12]
  unfold outsAt0
  refine (out12_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) y).trans ?_
  refine Eq.trans ?_ (Cert.CompRefIdeal.Val.v52_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) h _ _ _).symm
  exact Spec.rmsHead_congr (fun d => row_eq m hO c t h 0 ⟨(y 0).val, (y 0).isLt⟩ ⟨(y 1).val, (y 1).isLt⟩ d) (fun d => blk11 m hO c t d) _

omit t in
/-- The result array 1 after the run is the reference's. -/
theorem final12 (h : InRange m c) : (dats m hO 0 c).arrAt 12 (cfgM m hO).N = Cert.CompRefIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_emb 12 _ (fun t _ y => ?_) (fun (i : S4x8192x64.Idx) => ?_)
  · exact (step12 m hO c t h y).trans (congrArg _ (emb12 m hO t y).symm)
  · have h0 : (i 0).val < 4 := (i 0).isLt
    have h1 : (i 1).val < 8192 := (i 1).isLt
    have h2 : (i 2).val < 64 := (i 2).isLt
    have ht : (i 1).val / 32 < (cfgM m hO).N := show (i 1).val / 32 < 256 by omega
    refine ⟨⟨(i 1).val / 32, ht⟩, flush0_12 (adm m hO) _, mem12 m hO ⟨(i 1).val / 32, ht⟩ (ix3 ⟨(i 0).val, h0⟩ ⟨(i 1).val % 32, by omega⟩ ⟨(i 2).val, h2⟩) i ?_⟩
    funext (a : Fin 3)
    refine Fin.ext ?_
    match a with
    | ⟨0, _⟩ => rfl
    | ⟨1, _⟩ => show (i 1).val = 32 * ((i 1).val / 32) + (i 1).val % 32; omega
    | ⟨2, _⟩ => rfl

/-- Where block `t` of result window 13 sits in its array. -/
theorem emb13 (y : S4x32x64.Idx) : ((((cfgM m hO).win 13).blk t).view.emb y : S4x8192x64.Idx)
    = ix3 ⟨(y 0).val, (y 0).isLt⟩ ⟨32 * t.val + (y 1).val, by have h0 : t.val < 256 := t.isLt; have h1 : (y 1).val < 32 := (y 1).isLt; omega⟩ ⟨(y 2).val, (y 2).isLt⟩ := by
  have ht : (BitVec.ofNat 32 (grid0.coords t 0).val).toNat = t.val := by
    have h0 : t.val < 256 := t.isLt
    rw [coord, BitVec.toNat_ofNat]
    omega
  funext (a : Fin 3)
  refine Fin.ext ?_
  match a with
  | ⟨0, _⟩ => show 0 * 4 + 1 * (y 0).val = (y 0).val; omega
  | ⟨1, _⟩ => show (BitVec.ofNat 32 (grid0.coords t 0).val).toNat * 32 + 1 * (y 1).val = 32 * t.val + (y 1).val; rw [ht]; omega
  | ⟨2, _⟩ => show 0 * 64 + 1 * (y 2).val = (y 2).val; omega

/-- An index at such a place is in the block. -/
theorem mem13 (y : S4x32x64.Idx) (i : S4x8192x64.Idx)
    (hi : i = ix3 ⟨(y 0).val, (y 0).isLt⟩ ⟨32 * t.val + (y 1).val, by have h0 : t.val < 256 := t.isLt; have h1 : (y 1).val < 32 := (y 1).isLt; omega⟩ ⟨(y 2).val, (y 2).isLt⟩) :
    i ∈ (((cfgM m hO).win 13).blk t).view.set := by
  have e := (emb13 m hO t y).trans hi.symm
  exact e ▸ View.emb_mem_set _ y

/-- What step `t` leaves in result window 13 is the reference's block. -/
theorem step13 (h : InRange m c) (y : S4x32x64.Idx) : (dats m hO 0 c).after 13 t y
    = Cert.CompRefIdeal.Read.val_main_v54 (F := Ideal) (m ((c : Thread nD τ).loc main_arg0)) (m ((c : Thread nD τ).loc main_arg1)) (m ((c : Thread nD τ).loc main_arg3)) (m ((c : Thread nD τ).loc main_arg4)) (m ((c : Thread nD τ).loc main_arg5))
      (ix3 ⟨(y 0).val, (y 0).isLt⟩ ⟨32 * t.val + (y 1).val, by have h0 : t.val < 256 := t.isLt; have h1 : (y 1).val < 32 := (y 1).isLt; omega⟩ ⟨(y 2).val, (y 2).isLt⟩) := by
  rw [after0_13]
  unfold outsAt0
  refine (out13_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) y).trans ?_
  refine Eq.trans ?_ (Cert.CompRefIdeal.Val.v54_apply (m ((c : Thread nD τ).loc main_arg0)) (m ((c : Thread nD τ).loc main_arg1)) (m ((c : Thread nD τ).loc main_arg3)) (m ((c : Thread nD τ).loc main_arg4)) (m ((c : Thread nD τ).loc main_arg5)) h _ _ _).symm
  exact row_eq m hO c t h 1 ⟨(y 0).val, (y 0).isLt⟩ ⟨(y 1).val, (y 1).isLt⟩ _

omit t in
/-- The result array 2 after the run is the reference's. -/
theorem final13 (h : InRange m c) : (dats m hO 0 c).arrAt 13 (cfgM m hO).N = Cert.CompRefIdeal.Read.val_main_v54 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m hO 0 c).arrAt_eq_of_emb 13 _ (fun t _ y => ?_) (fun (i : S4x8192x64.Idx) => ?_)
  · exact (step13 m hO c t h y).trans (congrArg _ (emb13 m hO t y).symm)
  · have h0 : (i 0).val < 4 := (i 0).isLt
    have h1 : (i 1).val < 8192 := (i 1).isLt
    have h2 : (i 2).val < 64 := (i 2).isLt
    have ht : (i 1).val / 32 < (cfgM m hO).N := show (i 1).val / 32 < 256 by omega
    refine ⟨⟨(i 1).val / 32, ht⟩, flush0_13 (adm m hO) _, mem13 m hO ⟨(i 1).val / 32, ht⟩ (ix3 ⟨(i 0).val, h0⟩ ⟨(i 1).val % 32, by omega⟩ ⟨(i 2).val, h2⟩) i ?_⟩
    funext (a : Fin 3)
    refine Fin.ext ?_
    match a with
    | ⟨0, _⟩ => rfl
    | ⟨1, _⟩ => show (i 1).val = 32 * ((i 1).val / 32) + (i 1).val % 32; omega
    | ⟨2, _⟩ => rfl

end Cert.CompIdeal.Val

end
-- ==== Proof.CompPre.lean ====
module

public import proofs.«01_k».proof.Defs
public import proofs.«01_k».proof.Proof.Gen.Comp.Frame
public import proofs.«01_k».proof.Proof.CompBlk
public import Idealize.ShloMosaic.Lib.ReduceAll
public import Idealize.ShloMosaic.Lib.Affine

/-! What the precondition of the compression says: the page table's entries number pages of the cache. -/

@[expose] public section

set_option maxRecDepth 16384

noncomputable section

namespace Cert.CompPre

open Idealize.ShloMosaic Idealize.ShloMosaic.TcCoe Idealize.SL.Sem

/-- The shape conditions the precondition's operations take. -/
instance facts : Cert.Pre_pages_exist.Facts where
  bcast_S_S32x64 := by decide
  reducesTo_S32x64_S_d0_1 := by decide
  h_S_ := by decide

instance : Subsingleton Cert.Pre_pages_exist.S_.Idx := ⟨fun a b => funext fun i => i.elim0⟩

/-- A word from 0 up to 2560, compared as a signed number, is below 2560 as a plain one. -/
theorem range_of_test (w : BitVec 32) (h0 : IntOp.cmpi .sge w 0#32 = 1#1) (h1 : IntOp.cmpi .slt w 2560#32 = 1#1) : w.toNat < 2560 := by
  have a := IntOp.cmpi_sge.1 h0
  have b := IntOp.cmpi_slt.1 h1
  simp only [BitVec.toInt_eq_toNat_cond, BitVec.toNat_ofNat] at a b
  omega

/-- Where the precondition's function gives one, every entry of the table numbers a page of the cache. -/
theorem range {F : FTy → Type} [FloatOps F] (a0 : FVec F Cert.Pre_pages_exist.S2560x128x4x4x64 .f32) (a1 : IVec Cert.Pre_pages_exist.S32x64 32)
    (a2 : FVec F Cert.Pre_pages_exist.S3x64 .f32) (a3 : FVec F Cert.Pre_pages_exist.S2x32x64 .f32) (a4 : FVec F Cert.Pre_pages_exist.S2x32x64x256 .f32)
    (a5 : FVec F Cert.Pre_pages_exist.S2x256x64 .f32) (h : Cert.Pre_pages_exist.fn (F := F) a0 a1 a2 a3 a4 a5 = fun _ => 1#1) (b : Fin 32) (j : Fin 64) :
    (a1 (ix2 b j)).toNat < 2560 := by
  have e := congrFun h (fun i => i.elim0)
  have e1 := IntOp.andi_eq_one.1 (Host.reduce_andi_all _ _ _ _ _ e (ix2 b j))
  exact range_of_test _ e1.1 e1.2

/-- The kernel's windows lie inside the cache. -/
theorem ok (m : (ℓ : Loc Cert.Comp.nD Cert.Comp.τ Cert.Comp.sig) → Buf (Elt Bits) ℓ) (h : Cert.Pre_Comp m) : Cert.Comp.Gen.Ok m :=
  Cert.CompIdeal.Val.ok_of_range (F := Bits) m fun b j => range _ _ _ _ _ _ (h 0) b j

/-- The table's entries number pages of the cache. -/
theorem inRange (m : (ℓ : Loc Cert.CompIdeal.nD Cert.CompIdeal.τ Cert.CompIdeal.sig) → Buf (Elt Ideal) ℓ) (h : Cert.Pre_CompIdeal m)
    (c : Dev Cert.CompIdeal.nD) (b : Fin 32) (j : Fin 64) :
    ((m ((c : Thread Cert.CompIdeal.nD Cert.CompIdeal.τ).loc Cert.CompIdeal.main_arg1) : IVec Cert.CompIdeal.S32x64 32) (ix2 b j)).toNat < 2560 :=
  range _ _ _ _ _ _ (h c) b j

/-- The same over the extended reals. -/
theorem okIdeal (m : (ℓ : Loc Cert.CompIdeal.nD Cert.CompIdeal.τ Cert.CompIdeal.sig) → Buf (Elt Ideal) ℓ) (h : Cert.Pre_CompIdeal m) :
    Cert.CompIdeal.Gen.Ok m := Cert.CompIdeal.Val.ok_of_range m (inRange m h 0)

end Cert.CompPre

end
-- ==== Proof.CompClaim.lean ====
module

public import proofs.«01_k».proof.Defs
public import proofs.«01_k».proof.Proof.Gen.Comp.Frame
public import proofs.«01_k».proof.Proof.Gen.CompIdeal.Frame
public import proofs.«01_k».proof.Proof.Gen.CompRefIdeal.Run
public import proofs.«01_k».proof.Proof.CompValue
public import proofs.«01_k».proof.Proof.CompPre
public import Idealize.ShloMosaic.Lib.Claim

/-! The compression of the cached pages: the claims about it, each from one run of the program it speaks of. -/

@[expose] public section

set_option maxRecDepth 16384

noncomputable section

namespace Cert.CompClaim

open Idealize.ShloMosaic Idealize.ShloMosaic.TcCoe Idealize.SL.Sem

/-- The kernel runs to its end and keeps its arguments, where the page table numbers pages of the cache. -/
theorem kernel_frame : Cert.quiescent_Comp := fun m ρ h => Cert.Comp.Gen.frame m ρ (Cert.CompPre.ok m h)

/-- The same of the kernel over the extended reals. -/
theorem ideal_frame : Cert.quiescent_CompIdeal := fun m ρ h => Cert.CompIdeal.Gen.frame m ρ (Cert.CompPre.okIdeal m h)

/-- The reference runs to its end and keeps its arguments. -/
theorem ref_frame : Cert.quiescent_CompRefIdeal := fun m ρ _ =>
  (θ_run _ _ _).mono (fun r h => ⟨fun c => (h c).2.2, sem_eq_zero_of_no_sems (by decide) r.2⟩) (Cert.CompRefIdeal.Value.run m ρ)

/-- The same, stated under the precondition of the values. -/
theorem ref_frame_pre : Cert.quiescent_CompRefIdeal_pre_pages_exist := fun m ρ _ => ref_frame m ρ trivial

set_option maxHeartbeats 2000000 in
/-- Over the extended reals the kernel's result arrays are the reference's, where the page table numbers pages of the cache. -/
theorem algebraic : Cert.algebraic_CompIdeal_CompRefIdeal := by
  intro m g m' g' hpre hagree
  refine ⟨fun c => (Cert.CompIdeal.Gen.dats m (Cert.CompPre.okIdeal m hpre) 0 c).arrAt 12 (Cert.CompIdeal.Gen.cfgM m (Cert.CompPre.okIdeal m hpre)).N,
    fun c => (Cert.CompIdeal.Gen.dats m (Cert.CompPre.okIdeal m hpre) 0 c).arrAt 13 (Cert.CompIdeal.Gen.cfgM m (Cert.CompPre.okIdeal m hpre)).N, ?_, ?_⟩
  · exact (θ_run _ _ _).mono (fun r h c => ⟨(h c).1 12, (h c).1 13,
      ((h c).2 Cert.CompIdeal.main_arg0 (by decide : Cert.CompIdeal.main_arg0 ∈ Pipeline.restRefs Cert.CompIdeal.sig Cert.CompIdeal.spec0)).trans (Cert.CompIdeal.Gen.V_main_arg0 m c),
      ((h c).2 Cert.CompIdeal.main_arg1 (by decide : Cert.CompIdeal.main_arg1 ∈ Pipeline.restRefs Cert.CompIdeal.sig Cert.CompIdeal.spec0)).trans (Cert.CompIdeal.Gen.V_main_arg1 m c),
      ((h c).2 Cert.CompIdeal.main_arg2 (by decide : Cert.CompIdeal.main_arg2 ∈ Pipeline.restRefs Cert.CompIdeal.sig Cert.CompIdeal.spec0)).trans (Cert.CompIdeal.Gen.V_main_arg2 m c),
      ((h c).2 Cert.CompIdeal.main_arg3 (by decide : Cert.CompIdeal.main_arg3 ∈ Pipeline.restRefs Cert.CompIdeal.sig Cert.CompIdeal.spec0)).trans (Cert.CompIdeal.Gen.V_main_arg3 m c),
      ((h c).2 Cert.CompIdeal.main_arg4 (by decide : Cert.CompIdeal.main_arg4 ∈ Pipeline.restRefs Cert.CompIdeal.sig Cert.CompIdeal.spec0)).trans (Cert.CompIdeal.Gen.V_main_arg4 m c),
      ((h c).2 Cert.CompIdeal.main_arg5 (by decide : Cert.CompIdeal.main_arg5 ∈ Pipeline.restRefs Cert.CompIdeal.sig Cert.CompIdeal.spec0)).trans (Cert.CompIdeal.Gen.V_main_arg5 m c)⟩) (Cert.CompIdeal.Gen.run_main m g (Cert.CompPre.okIdeal m hpre))
  · have hO := Cert.CompPre.okIdeal m hpre
    have hr := Cert.CompPre.inRange m hpre
    run_from Cert.CompRefIdeal.Value.run m' g'
    · rw [Cert.CompRefIdeal.Read.val_main_v52_eq, (hagree c).1, (hagree c).2.1, (hagree c).2.2.1, (hagree c).2.2.2.1, (hagree c).2.2.2.2.1, (hagree c).2.2.2.2.2]
      exact (Cert.CompIdeal.Val.final12 m hO c (hr c)).symm
    · rw [Cert.CompRefIdeal.Read.val_main_v54_eq, (hagree c).1, (hagree c).2.1, (hagree c).2.2.2.1, (hagree c).2.2.2.2.1, (hagree c).2.2.2.2.2]
      exact (Cert.CompIdeal.Val.final13 m hO c (hr c)).symm

end Cert.CompClaim

end
-- ==== Proof.lean ====
module

public import proofs.«01_k».proof.Defs
public import proofs.«01_k».proof.Proof.FfnClaim
public import proofs.«01_k».proof.Proof.MixClaim
public import proofs.«01_k».proof.Proof.ConvClaim
public import proofs.«01_k».proof.Proof.ConvSClaim
public import proofs.«01_k».proof.Proof.MixSClaim
public import proofs.«01_k».proof.Proof.KvClaim
public import proofs.«01_k».proof.Proof.KvSClaim
public import proofs.«01_k».proof.Proof.CompClaim

/-! The certificate: every claim of `Cert.Claim` from the modules of the calls it is about. -/

@[expose] public section

noncomputable section

namespace Cert.Proof

open Cert

/-- Each call runs to its end with its arguments unchanged, and its results are the reference's over the extended reals. -/
theorem claim : Cert.Claim := ⟨Cert.Ffn.Gen.facts, Cert.FfnIdeal.Gen.facts, Cert.FfnRefIdeal.Gen.facts, Cert.Mix.Gen.facts, Cert.MixIdeal.Gen.facts, Cert.MixRefIdeal.Gen.facts, Cert.Conv.Gen.facts, Cert.ConvIdeal.Gen.facts, Cert.ConvRefIdeal.Gen.facts, Cert.ConvS.Gen.facts, Cert.ConvSIdeal.Gen.facts, Cert.ConvSRefIdeal.Gen.facts, Cert.MixS.Gen.facts, Cert.MixSIdeal.Gen.facts, Cert.MixSRefIdeal.Gen.facts, Cert.Kv.Gen.facts, Cert.KvIdeal.Gen.facts, Cert.KvRefIdeal.Gen.facts, Cert.KvS.Gen.facts, Cert.KvSIdeal.Gen.facts, Cert.KvSRefIdeal.Gen.facts, Cert.Comp.Gen.facts, Cert.CompIdeal.Gen.facts, Cert.CompRefIdeal.Gen.facts, Cert.KvPre.facts, Cert.KvSPre.facts, Cert.CompPre.facts,
  FfnClaim.kernel_frame, FfnClaim.ideal_frame, FfnClaim.ref_frame,
  MixClaim.kernel_frame, MixClaim.ideal_frame, MixClaim.ref_frame,
  ConvClaim.kernel_frame, ConvClaim.ideal_frame, ConvClaim.ref_frame,
  ConvSClaim.kernel_frame, ConvSClaim.ideal_frame, ConvSClaim.ref_frame,
  MixSClaim.kernel_frame, MixSClaim.ideal_frame, MixSClaim.ref_frame,
  KvClaim.kernel_frame, KvClaim.ideal_frame, KvClaim.ideal_frame_pre, KvClaim.ref_frame, KvClaim.ref_frame_pre,
  KvSClaim.kernel_frame, KvSClaim.ideal_frame, KvSClaim.ideal_frame_pre, KvSClaim.ref_frame, KvSClaim.ref_frame_pre,
  CompClaim.kernel_frame, CompClaim.ideal_frame, CompClaim.ref_frame, CompClaim.ref_frame_pre,
  trivial, FfnClaim.algebraic,
  trivial, MixClaim.algebraic,
  trivial, ConvClaim.algebraic,
  trivial, ConvSClaim.algebraic,
  trivial, MixSClaim.algebraic,
  trivial, KvClaim.algebraic,
  trivial, KvSClaim.algebraic,
  trivial, CompClaim.algebraic⟩

end Cert.Proof

end
